-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs [hPre_attention_inputs : Cert.Pre_attention_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs [hPre_attention_inputs : Cert.Pre_attention_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_merge_inputs [hPre_merge_inputs : Cert.Pre_merge_inputs.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_merge_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).1 = (fun _ => 1#1)
    ∧ (Cert.Pre_merge_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2.1 = (fun _ => 1#1)
    ∧ (Cert.Pre_merge_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_merge_inputs [hPre_merge_inputs : Cert.Pre_merge_inputs.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_merge_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).1 = (fun _ => 1#1)
    ∧ (Cert.Pre_merge_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2.1 = (fun _ => 1#1)
    ∧ (Cert.Pre_merge_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_prep_inputs [hPre_prep_inputs : Cert.Pre_prep_inputs.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_prep_inputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_prep_inputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 = (fun _ => 1#1)
    ∧ (Cert.Pre_prep_inputs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_prep_inputs [hPre_prep_inputs : Cert.Pre_prep_inputs.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_prep_inputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_prep_inputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.1 = (fun _ => 1#1)
    ∧ (Cert.Pre_prep_inputs.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_attention_inputs [hKernelIdeal : Cert.KernelIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_attention_inputs [hReferenceIdeal : Cert.ReferenceIdeal.Facts] [hPre_attention_inputs : Cert.Pre_attention_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Kernel5Ideal_pre_merge_inputs [hKernel5Ideal : Cert.Kernel5Ideal.Facts] [hPre_merge_inputs : Cert.Pre_merge_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_merge_inputs m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Reference5Ideal_pre_merge_inputs [hReference5Ideal : Cert.Reference5Ideal.Facts] [hPre_merge_inputs : Cert.Pre_merge_inputs.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_merge_inputs m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_prep_inputs [hKernel6Ideal : Cert.Kernel6Ideal.Facts] [hPre_prep_inputs : Cert.Pre_prep_inputs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_prep_inputs m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_prep_inputs [hReference6Ideal : Cert.Reference6Ideal.Facts] [hPre_prep_inputs : Cert.Pre_prep_inputs.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_prep_inputs m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal_pre_attention_inputs [hKernelIdeal : Cert.KernelIdeal.Facts] [hReferenceIdeal : Cert.ReferenceIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)) (v5 : (c : Dev Cert.Kernel3Ideal.nD) → Buf (Elt Ideal) ((c.tc : Thread Cert.Kernel3Ideal.nD Cert.Kernel3Ideal.τ).loc Cert.Kernel3Ideal.main_v8_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_v8_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_v27) = v4 c
          ∧ r.2.mem ((c.tc : Thread Cert.Reference3Ideal.nD Cert.Reference3Ideal.τ).loc Cert.Reference3Ideal.main_v22) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "query_scale" .f32 0x3DB8AA3B#32 (((1 / 16) * (Real.log 2)⁻¹ : ℝ) : EReal)

def algebraic_Kernel5Ideal_Reference5Ideal_pre_merge_inputs [hKernel5Ideal : Cert.Kernel5Ideal.Facts] [hReference5Ideal : Cert.Reference5Ideal.Facts] [hPre_merge_inputs : Cert.Pre_merge_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_merge_inputs m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def preserves_Kernel6_Kernel6Ideal : Prop :=
  True

def algebraic_Kernel6Ideal_Reference6Ideal_pre_prep_inputs [hKernel6Ideal : Cert.Kernel6Ideal.Facts] [hReference6Ideal : Cert.Reference6Ideal.Facts] [hPre_prep_inputs : Cert.Pre_prep_inputs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_prep_inputs m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v24_0)) (v1 : (c : Dev Cert.Kernel6Ideal.nD) → Buf (Elt Ideal) ((c.tc : Thread Cert.Kernel6Ideal.nD Cert.Kernel6Ideal.τ).loc Cert.Kernel6Ideal.main_v24_1)) (v2 : (c : Dev Cert.Kernel6Ideal.nD) → Buf (Elt Ideal) ((c.tc : Thread Cert.Kernel6Ideal.nD Cert.Kernel6Ideal.τ).loc Cert.Kernel6Ideal.main_v24_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24_0) = v0 c
          ∧ r.2.mem ((c.tc : Thread Cert.Kernel6Ideal.nD Cert.Kernel6Ideal.τ).loc Cert.Kernel6Ideal.main_v24_1) = v1 c
          ∧ r.2.mem ((c.tc : Thread Cert.Kernel6Ideal.nD Cert.Kernel6Ideal.τ).loc Cert.Kernel6Ideal.main_v24_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_v85) = v1 c
          ∧ r.2.mem ((c.tc : Thread Cert.Reference6Ideal.nD Cert.Reference6Ideal.τ).loc Cert.Reference6Ideal.main_v87) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_attention_inputs : Cert.Pre_attention_inputs.Facts) (hPre_merge_inputs : Cert.Pre_merge_inputs.Facts) (hPre_prep_inputs : Cert.Pre_prep_inputs.Facts),
    quiescent_Kernel (hKernel := hKernel)
    ∧ quiescent_KernelIdeal (hKernelIdeal := hKernelIdeal)
    ∧ quiescent_KernelIdeal_pre_attention_inputs (hKernelIdeal := hKernelIdeal) (hPre_attention_inputs := hPre_attention_inputs)
    ∧ quiescent_ReferenceIdeal (hReferenceIdeal := hReferenceIdeal)
    ∧ quiescent_ReferenceIdeal_pre_attention_inputs (hReferenceIdeal := hReferenceIdeal) (hPre_attention_inputs := hPre_attention_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_merge_inputs (hKernel5Ideal := hKernel5Ideal) (hPre_merge_inputs := hPre_merge_inputs)
    ∧ quiescent_Reference5Ideal (hReference5Ideal := hReference5Ideal)
    ∧ quiescent_Reference5Ideal_pre_merge_inputs (hReference5Ideal := hReference5Ideal) (hPre_merge_inputs := hPre_merge_inputs)
    ∧ quiescent_Kernel6 (hKernel6 := hKernel6)
    ∧ quiescent_Kernel6Ideal (hKernel6Ideal := hKernel6Ideal)
    ∧ quiescent_Kernel6Ideal_pre_prep_inputs (hKernel6Ideal := hKernel6Ideal) (hPre_prep_inputs := hPre_prep_inputs)
    ∧ quiescent_Reference6Ideal (hReference6Ideal := hReference6Ideal)
    ∧ quiescent_Reference6Ideal_pre_prep_inputs (hReference6Ideal := hReference6Ideal) (hPre_prep_inputs := hPre_prep_inputs)
    ∧ preserves_Kernel_KernelIdeal
    ∧ algebraic_KernelIdeal_ReferenceIdeal_pre_attention_inputs (hKernelIdeal := hKernelIdeal) (hReferenceIdeal := hReferenceIdeal) (hPre_attention_inputs := hPre_attention_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_merge_inputs (hKernel5Ideal := hKernel5Ideal) (hReference5Ideal := hReference5Ideal) (hPre_merge_inputs := hPre_merge_inputs)
    ∧ preserves_Kernel6_Kernel6Ideal
    ∧ algebraic_Kernel6Ideal_Reference6Ideal_pre_prep_inputs (hKernel6Ideal := hKernel6Ideal) (hReference6Ideal := hReference6Ideal) (hPre_prep_inputs := hPre_prep_inputs)
-- ==== Pre_attention_inputs.lean ====
abbrev S32768x2048 : Shape := ⟨2, ![32768, 2048]⟩
abbrev S32768x16x128 : Shape := ⟨3, ![32768, 16, 128]⟩
abbrev S32768x16x64 : Shape := ⟨3, ![32768, 16, 64]⟩
abbrev S_ : Shape := ⟨0, ![]⟩

class Facts : Prop where
  bitsLt_bf16_f32 : FTy.bits .bf16 < FTy.bits .f32
  shapeCasts_S32768x2048_S32768x16x128 : S32768x2048.ShapeCasts S32768x16x128
  slices_S32768x16x128_S32768x16x64_0_0_0 : S32768x16x128.Slices ![0, 0, 0] S32768x16x64
  bcast_S_S32768x16x64 : S_.BroadcastsInDim S32768x16x64 (![] : Fin 0 → Fin S32768x16x64.rank)
  bcast_S_S32768x2048 : S_.BroadcastsInDim S32768x2048 (![] : Fin 0 → Fin S32768x2048.rank)

variable [Facts]

def fn {F : FTy → Type} [FloatOps F] (main_arg0 : FVec F S32768x2048 .bf16) (main_arg1 : FVec F S32768x2048 .bf16) (main_arg2 : FVec F S32768x2048 .bf16) : IVec S32768x2048 1 × IVec S32768x2048 1 × IVec S32768x16x64 1 :=
  let main_v0 : FVec F S32768x2048 .f32 := (extf .f32 · bitsLt_bf16_f32) main_arg2
  let main_v1 : FVec F S32768x16x128 .f32 := shapeCast S32768x16x128 main_v0 shapeCasts_S32768x2048_S32768x16x128
  let main_v2 : FVec F S32768x16x64 .f32 := (extractStridedSlice S32768x16x64 ![0, 0, 0] · slices_S32768x16x128_S32768x16x64_0_0_0) main_v1
  let main_cst : FVec F S_ .f32 := constant S_ .f32 0x3F800000#32
  let main_v3 : FVec F S32768x16x64 .f32 := broadcastInDim S32768x16x64 ![] bcast_S_S32768x16x64 main_cst
  let main_v4 : IVec S32768x16x64 1 := cmpf .oeq main_v2 main_v3
  let main_v5 : FVec F S32768x2048 .f32 := (extf .f32 · bitsLt_bf16_f32) main_arg0
  let main_v6 : FVec F S32768x2048 .f32 := Host.absf main_v5
  let main_cst_0 : FVec F S_ .f32 := constant S_ .f32 0x7F800000#32
  let main_v7 : FVec F S32768x2048 .f32 := broadcastInDim S32768x2048 ![] bcast_S_S32768x2048 main_cst_0
  let main_v8 : IVec S32768x2048 1 := cmpf .olt main_v6 main_v7
  let main_v9 : FVec F S32768x2048 .f32 := (extf .f32 · bitsLt_bf16_f32) main_arg1
  let main_v10 : FVec F S32768x2048 .f32 := Host.absf main_v9
  let main_cst_1 : FVec F S_ .f32 := constant S_ .f32 0x7F800000#32
  let main_v11 : FVec F S32768x2048 .f32 := broadcastInDim S32768x2048 ![] bcast_S_S32768x2048 main_cst_1
  let main_v12 : IVec S32768x2048 1 := cmpf .olt main_v10 main_v11
  (main_v8, main_v12, main_v4)
-- ==== Pre_merge_inputs.lean ====
abbrev S32768x1024 : Shape := ⟨2, ![32768, 1024]⟩
abbrev S32768x2048 : Shape := ⟨2, ![32768, 2048]⟩
abbrev S1x2048 : Shape := ⟨2, ![1, 2048]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩

class Facts : Prop where
  bcast_S_S1x1024 : S_.BroadcastsInDim S1x1024 (![] : Fin 0 → Fin S1x1024.rank)
  bcast_S_S1024x1024 : S_.BroadcastsInDim S1024x1024 (![] : Fin 0 → Fin S1024x1024.rank)
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S32768x1024 .f32) (main_arg1 : FVec F S32768x1024 .bf16) (main_arg2 : FVec F S32768x1024 .bf16) (main_arg3 : FVec F S32768x2048 .bf16) (main_arg4 : FVec F S1x2048 .f32) (main_arg5 : FVec F S1024x1024 .f32) (main_arg6 : FVec F S1024x1024 .f32) (main_arg7 : FVec F S1024x1024 .f32) (main_arg8 : FVec F S1x1024 .f32) (main_arg9 : FVec F S1x1024 .f32) (main_arg10 : FVec F S1024x1024 .f32) (main_arg11 : FVec F S4096x1024 .bf16) (main_arg12 : FVec F S4096x1024 .bf16) (main_arg13 : FVec F S1024x1024 .f32) (main_arg14 : FVec F S1x1024 .f32) : IVec S1x1024 1 × IVec S1024x1024 1 × IVec S4096x1024 1 :=
  let main_v0 : FVec F S1x1024 .f32 := Host.absf main_arg9
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x1024 .f32 := Host.absf main_arg10
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x1024 .f32 := (extf .f32 · bitsLt_bf16_f32) main_arg11
  let main_v7 : FVec F S4096x1024 .f32 := Host.absf main_v6
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  (main_v2, main_v5, main_v9)
-- ==== Pre_prep_inputs.lean ====
abbrev S32768x384 : Shape := ⟨2, ![32768, 384]⟩
abbrev S32768x256 : Shape := ⟨2, ![32768, 256]⟩
abbrev S32768x128 : Shape := ⟨2, ![32768, 128]⟩
abbrev S16x2048 : Shape := ⟨2, ![16, 2048]⟩
abbrev S1x384 : Shape := ⟨2, ![1, 384]⟩
abbrev S1x256 : Shape := ⟨2, ![1, 256]⟩
abbrev S384x1536 : Shape := ⟨2, ![384, 1536]⟩
abbrev S256x1024 : Shape := ⟨2, ![256, 1024]⟩
abbrev S_ : Shape := ⟨0, ![]⟩
abbrev S32768x32 : Shape := ⟨2, ![32768, 32]⟩

class Facts : Prop where
  bcast_S_S1x384 : S_.BroadcastsInDim S1x384 (![] : Fin 0 → Fin S1x384.rank)
  bcast_S_S384x1536 : S_.BroadcastsInDim S384x1536 (![] : Fin 0 → Fin S384x1536.rank)
  slices_S32768x128_S32768x32_0_96 : S32768x128.Slices ![0, 96] S32768x32
  bcast_S_S32768x32 : S_.BroadcastsInDim S32768x32 (![] : Fin 0 → Fin S32768x32.rank)

variable [Facts]

def fn {F : FTy → Type} [FloatOps F] (main_arg0 : FVec F S32768x384 .bf16) (main_arg1 : FVec F S32768x256 .bf16) (main_arg2 : FVec F S32768x128 .f32) (main_arg3 : IVec S16x2048 32) (main_arg4 : FVec F S1x384 .f32) (main_arg5 : FVec F S1x256 .f32) (main_arg6 : FVec F S384x1536 .f32) (main_arg7 : FVec F S256x1024 .f32) (main_arg8 : FVec F S256x1024 .f32) : IVec S1x384 1 × IVec S384x1536 1 × IVec S32768x32 1 :=
  let main_v0 : FVec F S1x384 .f32 := Host.absf main_arg4
  let main_cst : FVec F S_ .f32 := constant S_ .f32 0x7F800000#32
  let main_v1 : FVec F S1x384 .f32 := broadcastInDim S1x384 ![] bcast_S_S1x384 main_cst
  let main_v2 : IVec S1x384 1 := cmpf .olt main_v0 main_v1
  let main_v3 : FVec F S384x1536 .f32 := Host.absf main_arg6
  let main_cst_0 : FVec F S_ .f32 := constant S_ .f32 0x7F800000#32
  let main_v4 : FVec F S384x1536 .f32 := broadcastInDim S384x1536 ![] bcast_S_S384x1536 main_cst_0
  let main_v5 : IVec S384x1536 1 := cmpf .olt main_v3 main_v4
  let main_v6 : FVec F S32768x32 .f32 := (extractStridedSlice S32768x32 ![0, 96] · slices_S32768x128_S32768x32_0_96) main_arg2
  let main_cst_1 : FVec F S_ .f32 := constant S_ .f32 0x00000000#32
  let main_v7 : FVec F S32768x32 .f32 := broadcastInDim S32768x32 ![] bcast_S_S32768x32 main_cst_1
  let main_v8 : IVec S32768x32 1 := cmpf .oeq main_v6 main_v7
  (main_v2, main_v5, main_v8)
-- ==== Kernel.lean ====
abbrev S32768x2048 : Shape := ⟨2, ![32768, 2048]⟩
abbrev S32768x1024 : Shape := ⟨2, ![32768, 1024]⟩
abbrev S2048x256 : Shape := ⟨2, ![2048, 256]⟩
abbrev S2048x128 : Shape := ⟨2, ![2048, 128]⟩
abbrev S256x256 : Shape := ⟨2, ![256, 256]⟩
abbrev S256x128 : Shape := ⟨2, ![256, 128]⟩
abbrev S1792x128 : Shape := ⟨2, ![1792, 128]⟩
abbrev S256x1792 : Shape := ⟨2, ![256, 1792]⟩
abbrev S1536x128 : Shape := ⟨2, ![1536, 128]⟩
abbrev S256x1536 : Shape := ⟨2, ![256, 1536]⟩
abbrev S256 : Shape := ⟨1, ![256]⟩
abbrev S256x1 : Shape := ⟨2, ![256, 1]⟩
abbrev S1280x128 : Shape := ⟨2, ![1280, 128]⟩
abbrev S256x1280 : Shape := ⟨2, ![256, 1280]⟩
abbrev S1024x128 : Shape := ⟨2, ![1024, 128]⟩
abbrev S256x1024 : Shape := ⟨2, ![256, 1024]⟩
abbrev S768x128 : Shape := ⟨2, ![768, 128]⟩
abbrev S256x768 : Shape := ⟨2, ![256, 768]⟩
abbrev S512x128 : Shape := ⟨2, ![512, 128]⟩
abbrev S256x512 : Shape := ⟨2, ![256, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S32768x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32768x2048 : Shape := ⟨2, ![32768, 2048]⟩
abbrev S16x2048x16x128 : Shape := ⟨4, ![16, 2048, 16, 128]⟩
abbrev S16x2048x16x64 : Shape := ⟨4, ![16, 2048, 16, 64]⟩
abbrev S16x16x2048x2048 : Shape := ⟨4, ![16, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩
abbrev S16x2048x8x2x64 : Shape := ⟨5, ![16, 2048, 8, 2, 64]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S32768x2048, .f32⟩
  | .hbm, ⟨4, _⟩ => ⟨S16x2048x16x128, .f32⟩
  | .hbm, ⟨5, _⟩ => ⟨S32768x2048, .f32⟩
  | .hbm, ⟨6, _⟩ => ⟨S16x2048x16x128, .f32⟩
  | .hbm, ⟨7, _⟩ => ⟨S32768x2048, .f32⟩
  | .hbm, ⟨8, _⟩ => ⟨S16x2048x16x128, .f32⟩
  | .hbm, ⟨9, _⟩ => ⟨S16x2048x16x64, .f32⟩
  | .hbm, ⟨10, _⟩ => ⟨S16x16x2048x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x16x2048x2048, .f32⟩
  | .hbm, ⟨15, _⟩ => ⟨S16x16x2048x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S16x16x2048x2048, .i1⟩
  | .hbm, ⟨25, _⟩ => ⟨S16x16x2048x2048, .f32⟩
  | .hbm, ⟨26, _⟩ => ⟨S16x16x2048x2048, .f32⟩
  | .hbm, ⟨27, _⟩ => ⟨S_, .f32⟩
  | .hbm, ⟨28, _⟩ => ⟨S16x16x2048, .f32⟩
  | .hbm, ⟨29, _⟩ => ⟨S_, .f32⟩
  | .hbm, ⟨30, _⟩ => ⟨S16x16x2048, .f32⟩
  | .hbm, ⟨31, _⟩ => ⟨S16x16x2048, .f32⟩
  | .hbm, ⟨32, _⟩ => ⟨S16x16x2048x1, .f32⟩
  | .hbm, ⟨33, _⟩ => ⟨S16x16x2048x2048, .f32⟩
  | .hbm, ⟨34, _⟩ => ⟨S16x16x2048x2048, .f32⟩
  | .hbm, ⟨35, _⟩ => ⟨S16x16x2048x2048, .f32⟩
  | .hbm, ⟨36, _⟩ => ⟨S_, .f32⟩
  | .hbm, ⟨37, _⟩ => ⟨S16x16x2048, .f32⟩
  | .hbm, ⟨38, _⟩ => ⟨S16x16x2048x1, .f32⟩
  | .hbm, ⟨39, _⟩ => ⟨S16x16x2048x2048, .f32⟩
  | .hbm, ⟨40, _⟩ => ⟨S16x16x2048x2048, .f32⟩
  | .hbm, ⟨41, _⟩ => ⟨S16x16x64x2048, .f32⟩
  | .hbm, ⟨42, _⟩ => ⟨S16x2048x16x64, .f32⟩
  | .hbm, ⟨43, _⟩ => ⟨S16x2048x8x2x64, .f32⟩
  | .hbm, ⟨44, _⟩ => ⟨S16x2048x8x2x64, .f32⟩
  | .hbm, ⟨45, _⟩ => ⟨S32768x1024, .f32⟩
  | .hbm, ⟨46, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S1024x5296 : Shape := ⟨2, ![1024, 5296]⟩
abbrev S1024x640 : Shape := ⟨2, ![1024, 640]⟩
abbrev S1024x16 : Shape := ⟨2, ![1024, 16]⟩
abbrev S_ : Shape := ⟨0, ![]⟩
abbrev S1024x48 : Shape := ⟨2, ![1024, 48]⟩
abbrev S1024x32 : Shape := ⟨2, ![1024, 32]⟩
abbrev S1024x64 : Shape := ⟨2, ![1024, 64]⟩
abbrev S1024x768 : Shape := ⟨2, ![1024, 768]⟩
abbrev S1024x2048 : Shape := ⟨2, ![1024, 2048]⟩
abbrev S32768x1536 : Shape := ⟨2, ![32768, 1536]⟩
abbrev S32768x2048 : Shape := ⟨2, ![32768, 2048]⟩
abbrev S32768x384 : Shape := ⟨2, ![32768, 384]⟩
abbrev S32768x256 : Shape := ⟨2, ![32768, 256]⟩
abbrev S32768x128 : Shape := ⟨2, ![32768, 128]⟩
abbrev S1024x1024 : Shape := ⟨2, ![1024, 1024]⟩
abbrev S1024x2560 : Shape := ⟨2, ![1024, 2560]⟩
abbrev S1024x1536 : Shape := ⟨2, ![1024, 1536]⟩
abbrev S1024x384 : Shape := ⟨2, ![1024, 384]⟩
abbrev S1024x256 : Shape := ⟨2, ![1024, 256]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x2048 : Shape := ⟨2, ![512, 2048]⟩
abbrev S512x384 : Shape := ⟨2, ![512, 384]⟩
abbrev S512x256 : Shape := ⟨2, ![512, 256]⟩
abbrev S512x128 : Shape := ⟨2, ![512, 128]⟩

abbrev nBuf : Space → Nat
  | .hbm => 20
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5296, .f32⟩
  | .hbm, ⟨3, _⟩ => ⟨S1024x5296, .bf16⟩
  | .hbm, ⟨4, _⟩ => ⟨S1024x640, .bf16⟩
  | .hbm, ⟨5, _⟩ => ⟨S1024x16, .bf16⟩
  | .hbm, ⟨6, _⟩ => ⟨S_, .bf16⟩
  | .hbm, ⟨7, _⟩ => ⟨S1024x48, .bf16⟩
  | .hbm, ⟨8, _⟩ => ⟨S1024x32, .bf16⟩
  | .hbm, ⟨9, _⟩ => ⟨S_, .i32⟩
  | .hbm, ⟨10, _⟩ => ⟨S_, .bf16⟩
  | .hbm, ⟨11, _⟩ => ⟨S1024x64, .bf16⟩
  | .hbm, ⟨12, _⟩ => ⟨S1024x768, .bf16⟩
  | .hbm, ⟨13, _⟩ => ⟨S1024x2048, .bf16⟩
  | .hbm, ⟨14, _⟩ => ⟨S32768x1024, .bf16⟩
  | .hbm, ⟨15, _⟩ => ⟨S32768x1536, .bf16⟩
  | .hbm, ⟨16, _⟩ => ⟨S32768x2048, .bf16⟩
  | .hbm, ⟨17, _⟩ => ⟨S32768x384, .bf16⟩
  | .hbm, ⟨18, _⟩ => ⟨S32768x256, .bf16⟩
  | .hbm, ⟨19, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2048, .bf16⟩
  | .local _ .vmem, ⟨5, _⟩ => ⟨S1024x768, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1536, .bf16⟩
  | .local _ .vmem, ⟨9, _⟩ => ⟨S1024x1536, .bf16⟩
  | .local _ .vmem, ⟨10, _⟩ => ⟨S1024x2048, .bf16⟩
  | .local _ .vmem, ⟨11, _⟩ => ⟨S1024x2048, .bf16⟩
  | .local _ .vmem, ⟨12, _⟩ => ⟨S1024x384, .bf16⟩
  | .local _ .vmem, ⟨13, _⟩ => ⟨S1024x384, .bf16⟩
  | .local _ .vmem, ⟨14, _⟩ => ⟨S1024x256, .bf16⟩
  | .local _ .vmem, ⟨15, _⟩ => ⟨S1024x256, .bf16⟩
  | .local _ .vmem, ⟨16, _⟩ => ⟨S1024x128, .f32⟩
  | .local _ .vmem, ⟨17, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x1024 : Shape := ⟨2, ![32768, 1024]⟩
abbrev S1x1024 : Shape := ⟨2, ![1, 1024]⟩
abbrev S1024x5296 : Shape := ⟨2, ![1024, 5296]⟩
abbrev S_ : Shape := ⟨0, ![]⟩
abbrev S32768 : Shape := ⟨1, ![32768]⟩
abbrev S32768x1 : Shape := ⟨2, ![32768, 1]⟩
abbrev S32768x5296 : Shape := ⟨2, ![32768, 5296]⟩
abbrev S32768x1536 : Shape := ⟨2, ![32768, 1536]⟩
abbrev S32768x16 : Shape := ⟨2, ![32768, 16]⟩
abbrev S32768x384 : Shape := ⟨2, ![32768, 384]⟩
abbrev S32768x256 : Shape := ⟨2, ![32768, 256]⟩
abbrev S32768x32 : Shape := ⟨2, ![32768, 32]⟩
abbrev S32768x2048 : Shape := ⟨2, ![32768, 2048]⟩
abbrev S32768x48 : Shape := ⟨2, ![32768, 48]⟩
abbrev S32768x128 : Shape := ⟨2, ![32768, 128]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5296, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x5296, .f32⟩
  | .hbm, ⟨19, _⟩ => ⟨S32768x1024, .f32⟩
  | .hbm, ⟨20, _⟩ => ⟨S32768x1536, .f32⟩
  | .hbm, ⟨21, _⟩ => ⟨S32768x16, .f32⟩
  | .hbm, ⟨22, _⟩ => ⟨S32768x384, .f32⟩
  | .hbm, ⟨23, _⟩ => ⟨S32768x256, .f32⟩
  | .hbm, ⟨24, _⟩ => ⟨S32768x32, .f32⟩
  | .hbm, ⟨25, _⟩ => ⟨S32768x2048, .f32⟩
  | .hbm, ⟨26, _⟩ => ⟨S_, .f32⟩
  | .hbm, ⟨27, _⟩ => ⟨S32768x48, .f32⟩
  | .hbm, ⟨28, _⟩ => ⟨S_, .f32⟩
  | .hbm, ⟨29, _⟩ => ⟨S32768x32, .f32⟩
  | .hbm, ⟨30, _⟩ => ⟨S32768x128, .f32⟩
  | .hbm, ⟨31, _⟩ => ⟨S32768x1024, .bf16⟩
  | .hbm, ⟨32, _⟩ => ⟨S32768x1536, .bf16⟩
  | .hbm, ⟨33, _⟩ => ⟨S32768x2048, .bf16⟩
  | .hbm, ⟨34, _⟩ => ⟨S32768x384, .bf16⟩
  | .hbm, ⟨35, _⟩ => ⟨S32768x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S4096x1024, .bf16⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S32768x1024 : Shape := ⟨2, ![32768, 1024]⟩
abbrev S32768x2048 : Shape := ⟨2, ![32768, 2048]⟩
abbrev S1x2048 : Shape := ⟨2, ![1, 2048]⟩
abbrev S1024x1024 : Shape := ⟨2, ![1024, 1024]⟩
abbrev S1x1024 : Shape := ⟨2, ![1, 1024]⟩
abbrev S4096x1024 : Shape := ⟨2, ![4096, 1024]⟩
abbrev S8x2x64x1024 : Shape := ⟨4, ![8, 2, 64, 1024]⟩
abbrev S1024x2048 : Shape := ⟨2, ![1024, 2048]⟩
abbrev S256x1024 : Shape := ⟨2, ![256, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 24
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x2048, .bf16⟩
  | .hbm, ⟨4, _⟩ => ⟨S1x2048, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S4096x1024, .bf16⟩
  | .hbm, ⟨12, _⟩ => ⟨S4096x1024, .bf16⟩
  | .hbm, ⟨13, _⟩ => ⟨S1024x1024, .f32⟩
  | .hbm, ⟨14, _⟩ => ⟨S1x1024, .f32⟩
  | .hbm, ⟨15, _⟩ => ⟨S8x2x64x1024, .f32⟩
  | .hbm, ⟨16, _⟩ => ⟨S8x2x64x1024, .f32⟩
  | .hbm, ⟨17, _⟩ => ⟨S1024x1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1024x1024, .bf16⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel5Ideal.lean ====
variable {F : FTy → Type} [FloatOps F] [Named F]
def κ : String → Option EReal := fun
  | "query_scale" => some (((1 / 16) * (Real.log 2)⁻¹ : ℝ) : EReal)
  | _ => none
-- ==== Reference5Ideal.lean ====
abbrev S32768x1024 : Shape := ⟨2, ![32768, 1024]⟩
abbrev S32768x2048 : Shape := ⟨2, ![32768, 2048]⟩
abbrev S1x2048 : Shape := ⟨2, ![1, 2048]⟩
abbrev S1024x1024 : Shape := ⟨2, ![1024, 1024]⟩
abbrev S1x1024 : Shape := ⟨2, ![1, 1024]⟩
abbrev S4096x1024 : Shape := ⟨2, ![4096, 1024]⟩
abbrev S32768x8x2x64 : Shape := ⟨4, ![32768, 8, 2, 64]⟩
abbrev S_ : Shape := ⟨0, ![]⟩
abbrev S32768 : Shape := ⟨1, ![32768]⟩
abbrev S32768x1 : Shape := ⟨2, ![32768, 1]⟩
abbrev S16x2048x4x256 : Shape := ⟨4, ![16, 2048, 4, 256]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 114
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x2048, .bf16⟩
  | .hbm, ⟨4, _⟩ => ⟨S1x2048, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S4096x1024, .bf16⟩
  | .hbm, ⟨12, _⟩ => ⟨S4096x1024, .bf16⟩
  | .hbm, ⟨13, _⟩ => ⟨S1024x1024, .f32⟩
  | .hbm, ⟨14, _⟩ => ⟨S1x1024, .f32⟩
  | .hbm, ⟨15, _⟩ => ⟨S32768x1024, .f32⟩
  | .hbm, ⟨16, _⟩ => ⟨S32768x8x2x64, .f32⟩
  | .hbm, ⟨17, _⟩ => ⟨S32768x8x2x64, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S16x2048x4x256, .f32⟩
  | .hbm, ⟨72, _⟩ => ⟨S4096x1024, .f32⟩
  | .hbm, ⟨73, _⟩ => ⟨S16x256x4x256, .f32⟩
  | .hbm, ⟨74, _⟩ => ⟨S4096x1024, .f32⟩
  | .hbm, ⟨75, _⟩ => ⟨S16x256x4x256, .f32⟩
  | .hbm, ⟨76, _⟩ => ⟨S16x4x2048x256, .f32⟩
  | .hbm, ⟨77, _⟩ => ⟨S_, .f32⟩
  | .hbm, ⟨78, _⟩ => ⟨S16x4x2048x256, .f32⟩
  | .hbm, ⟨79, _⟩ => ⟨S16x4x2048x256, .f32⟩
  | .hbm, ⟨80, _⟩ => ⟨S_, .f32⟩
  | .hbm, ⟨81, _⟩ => ⟨S16x4x2048, .f32⟩
  | .hbm, ⟨82, _⟩ => ⟨S_, .f32⟩
  | .hbm, ⟨83, _⟩ => ⟨S16x4x2048, .f32⟩
  | .hbm, ⟨84, _⟩ => ⟨S16x4x2048, .f32⟩
  | .hbm, ⟨85, _⟩ => ⟨S16x4x2048x1, .f32⟩
  | .hbm, ⟨86, _⟩ => ⟨S16x4x2048x256, .f32⟩
  | .hbm, ⟨87, _⟩ => ⟨S16x4x2048x256, .f32⟩
  | .hbm, ⟨88, _⟩ => ⟨S16x4x2048x256, .f32⟩
  | .hbm, ⟨89, _⟩ => ⟨S_, .f32⟩
  | .hbm, ⟨90, _⟩ => ⟨S16x4x2048, .f32⟩
  | .hbm, ⟨91, _⟩ => ⟨S16x4x2048x1, .f32⟩
  | .hbm, ⟨92, _⟩ => ⟨S16x4x2048x256, .f32⟩
  | .hbm, ⟨93, _⟩ => ⟨S16x4x2048x256, .f32⟩
  | .hbm, ⟨94, _⟩ => ⟨S16x4x256x2048, .f32⟩
  | .hbm, ⟨95, _⟩ => ⟨S16x2048x4x256, .f32⟩
  | .hbm, ⟨96, _⟩ => ⟨S32768x1024, .f32⟩
  | .hbm, ⟨97, _⟩ => ⟨S32768x1024, .f32⟩
  | .hbm, ⟨98, _⟩ => ⟨S32768x1024, .f32⟩
  | .hbm, ⟨99, _⟩ => ⟨S_, .f32⟩
  | .hbm, ⟨100, _⟩ => ⟨S32768, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | .hbm, ⟨105, _⟩ => ⟨S_, .f32⟩
  | .hbm, ⟨106, _⟩ => ⟨S32768x1, .f32⟩
  | .hbm, ⟨107, _⟩ => ⟨S32768x1, .f32⟩
  | .hbm, ⟨108, _⟩ => ⟨S32768x1, .f32⟩
  | .hbm, ⟨109, _⟩ => ⟨S32768x1024, .f32⟩
  | .hbm, ⟨110, _⟩ => ⟨S32768x1024, .f32⟩
  | .hbm, ⟨111, _⟩ => ⟨S32768x1024, .f32⟩
  | .hbm, ⟨112, _⟩ => ⟨S32768x1024, .f32⟩
  | .hbm, ⟨113, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== Kernel6.lean ====
abbrev S32768x384 : Shape := ⟨2, ![32768, 384]⟩
abbrev S32768x256 : Shape := ⟨2, ![32768, 256]⟩
abbrev S32768x128 : Shape := ⟨2, ![32768, 128]⟩
abbrev S16x2048 : Shape := ⟨2, ![16, 2048]⟩
abbrev S1x384 : Shape := ⟨2, ![1, 384]⟩
abbrev S1x256 : Shape := ⟨2, ![1, 256]⟩
abbrev S384x1536 : Shape := ⟨2, ![384, 1536]⟩
abbrev S256x1024 : Shape := ⟨2, ![256, 1024]⟩
abbrev S128x256 : Shape := ⟨2, ![128, 256]⟩
abbrev S32x1x1024 : Shape := ⟨3, ![32, 1, 1024]⟩
abbrev S16 : Shape := ⟨1, ![16]⟩
abbrev S_ : Shape := ⟨0, ![]⟩
abbrev S16x1 : Shape := ⟨2, ![16, 1]⟩
abbrev S384x16x96 : Shape := ⟨3, ![384, 16, 96]⟩
abbrev S384x16x16 : Shape := ⟨3, ![384, 16, 16]⟩
abbrev S384x16x128 : Shape := ⟨3, ![384, 16, 128]⟩
abbrev S384x2048 : Shape := ⟨2, ![384, 2048]⟩
abbrev S256x16x64 : Shape := ⟨3, ![256, 16, 64]⟩
abbrev S256x16x128 : Shape := ⟨3, ![256, 16, 128]⟩
abbrev S256x2048 : Shape := ⟨2, ![256, 2048]⟩
abbrev S32768x2048 : Shape := ⟨2, ![32768, 2048]⟩
abbrev S1024x384 : Shape := ⟨2, ![1024, 384]⟩
abbrev S1024x256 : Shape := ⟨2, ![1024, 256]⟩
abbrev S1024x128 : Shape := ⟨2, ![1024, 128]⟩
abbrev S1x1x1024 : Shape := ⟨3, ![1, 1, 1024]⟩
abbrev S1024x2048 : Shape := ⟨2, ![1024, 2048]⟩
abbrev S1x1024 : Shape := ⟨2, ![1, 1024]⟩
abbrev S16x1024 : Shape := ⟨2, ![16, 1024]⟩
abbrev S32x1024 : Shape := ⟨2, ![32, 1024]⟩
abbrev S128x1024 : Shape := ⟨2, ![128, 1024]⟩
abbrev S1024 : Shape := ⟨1, ![1024]⟩
abbrev S1024x1 : Shape := ⟨2, ![1024, 1]⟩
abbrev S384x256 : Shape := ⟨2, ![384, 256]⟩
abbrev S256x256 : Shape := ⟨2, ![256, 256]⟩

abbrev nBuf : Space → Nat
  | .hbm => 41
  | .vmem => 20
  | .smem => 0
  | _ => 0

abbrev bufTy : (tb : Table) → Fin (tcTables nBuf tb) → BufTy
  | .hbm, ⟨0, _⟩ => ⟨S32768x384, .bf16⟩
  | .hbm, ⟨1, _⟩ => ⟨S32768x256, .bf16⟩
  | .hbm, ⟨2, _⟩ => ⟨S32768x128, .f32⟩
  | .hbm, ⟨3, _⟩ => ⟨S16x2048, .i32⟩
  | .hbm, ⟨4, _⟩ => ⟨S1x384, .f32⟩
  | .hbm, ⟨5, _⟩ => ⟨S1x256, .f32⟩
  | .hbm, ⟨6, _⟩ => ⟨S384x1536, .f32⟩
  | .hbm, ⟨7, _⟩ => ⟨S256x1024, .f32⟩
  | .hbm, ⟨8, _⟩ => ⟨S256x1024, .f32⟩
  | .hbm, ⟨9, _⟩ => ⟨S128x256, .bf16⟩
  | .hbm, ⟨10, _⟩ => ⟨S32x1x1024, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16x1, .f32⟩
  | .hbm, ⟨26, _⟩ => ⟨S384x16x96, .f32⟩
  | .hbm, ⟨27, _⟩ => ⟨S384x16x16, .f32⟩
  | .hbm, ⟨28, _⟩ => ⟨S384x16x16, .f32⟩
  | .hbm, ⟨29, _⟩ => ⟨S384x16x16, .f32⟩
  | .hbm, ⟨30, _⟩ => ⟨S384x16x128, .f32⟩
  | .hbm, ⟨31, _⟩ => ⟨S384x2048, .f32⟩
  | .hbm, ⟨32, _⟩ => ⟨S256x16x64, .f32⟩
  | .hbm, ⟨33, _⟩ => ⟨S256x16x64, .f32⟩
  | .hbm, ⟨34, _⟩ => ⟨S256x16x128, .f32⟩
  | .hbm, ⟨35, _⟩ => ⟨S256x2048, .f32⟩
  | .hbm, ⟨36, _⟩ => ⟨S384x2048, .bf16⟩
  | .hbm, ⟨37, _⟩ => ⟨S256x2048, .bf16⟩
  | .hbm, ⟨38, _⟩ => ⟨S32768x2048, .bf16⟩
  | .hbm, ⟨39, _⟩ => ⟨S32768x2048, .bf16⟩
  | .hbm, ⟨40, _⟩ => ⟨S32768x2048, .bf16⟩
  | .local _ .vmem, ⟨0, _⟩ => ⟨S1024x384, .bf16⟩
  | .local _ .vmem, ⟨1, _⟩ => ⟨S1024x384, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .f32⟩
  | .local _ .vmem, ⟨5, _⟩ => ⟨S1024x128, .f32⟩
  | .local _ .vmem, ⟨6, _⟩ => ⟨S1x1x1024, .i32⟩
  | .local _ .vmem, ⟨7, _⟩ => ⟨S1x1x1024, .i32⟩
  | .local _ .vmem, ⟨8, _⟩ => ⟨S16x1, .f32⟩
  | .local _ .vmem, ⟨9, _⟩ => ⟨S128x256, .bf16⟩
  | .local _ .vmem, ⟨10, _⟩ => ⟨S1x384, .f32⟩
  | .local _ .vmem, ⟨11, _⟩ => ⟨S1x256, .f32⟩
  | .local _ .vmem, ⟨12, _⟩ => ⟨S384x2048, .bf16⟩
  | .local _ .vmem, ⟨13, _⟩ => ⟨S256x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | _, _ => ⟨S32768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S32768x384 : Shape := ⟨2, ![32768, 384]⟩
abbrev S32768x256 : Shape := ⟨2, ![32768, 256]⟩
abbrev S32768x128 : Shape := ⟨2, ![32768, 128]⟩
abbrev S16x2048 : Shape := ⟨2, ![16, 2048]⟩
abbrev S1x384 : Shape := ⟨2, ![1, 384]⟩
abbrev S1x256 : Shape := ⟨2, ![1, 256]⟩
abbrev S384x1536 : Shape := ⟨2, ![384, 1536]⟩
abbrev S256x1024 : Shape := ⟨2, ![256, 1024]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S32768x1x16 : Shape := ⟨3, ![32768, 1, 16]⟩
abbrev S32768 : Shape := ⟨1, ![32768]⟩
abbrev S32768x1 : Shape := ⟨2, ![32768, 1]⟩
abbrev S32768x1536 : Shape := ⟨2, ![32768, 1536]⟩
abbrev S32768x16x96 : Shape := ⟨3, ![32768, 16, 96]⟩
abbrev S32768x16x64 : Shape := ⟨3, ![32768, 16, 64]⟩
abbrev S32768x16x16 : Shape := ⟨3, ![32768, 16, 16]⟩
abbrev S32768x16x128 : Shape := ⟨3, ![32768, 16, 128]⟩
abbrev S32768x1024 : Shape := ⟨2, ![32768, 1024]⟩
abbrev S32768x32 : Shape := ⟨2, ![32768, 32]⟩
abbrev S32768x1x32 : Shape := ⟨3, ![32768, 1, 32]⟩
abbrev S32768x16x32 : Shape := ⟨3, ![32768, 16, 32]⟩
abbrev S32768x2048 : Shape := ⟨2, ![32768, 2048]⟩

abbrev nBuf : Space → Nat
  | .hbm => 109
  | .vmem => 0
  | .smem => 0
  | _ => 0

abbrev bufTy : (tb : Table) → Fin (tcTables nBuf tb) → BufTy
  | .hbm, ⟨0, _⟩ => ⟨S32768x384, .bf16⟩
  | .hbm, ⟨1, _⟩ => ⟨S32768x256, .bf16⟩
  | .hbm, ⟨2, _⟩ => ⟨S32768x128, .f32⟩
  | .hbm, ⟨3, _⟩ => ⟨S16x2048, .i32⟩
  | .hbm, ⟨4, _⟩ => ⟨S1x384, .f32⟩
  | .hbm, ⟨5, _⟩ => ⟨S1x256, .f32⟩
  | .hbm, ⟨6, _⟩ => ⟨S384x1536, .f32⟩
  | .hbm, ⟨7, _⟩ => ⟨S256x1024, .f32⟩
  | .hbm, ⟨8, _⟩ => ⟨S256x1024, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16x2048, .f32⟩
  | .hbm, ⟨24, _⟩ => ⟨S16x2048x1, .f32⟩
  | .hbm, ⟨25, _⟩ => ⟨S1x1x16, .f32⟩
  | .hbm, ⟨26, _⟩ => ⟨S16x2048x16, .f32⟩
  | .hbm, ⟨27, _⟩ => ⟨S16x2048x16, .f32⟩
  | .hbm, ⟨28, _⟩ => ⟨S16x2048x16, .f32⟩
  | .hbm, ⟨29, _⟩ => ⟨S16x2048x16, .f32⟩
  | .hbm, ⟨30, _⟩ => ⟨S16x2048x16, .f32⟩
  | .hbm, ⟨31, _⟩ => ⟨S32768x1x16, .f32⟩
  | .hbm, ⟨32, _⟩ => ⟨S32768x1x16, .f32⟩
  | .hbm, ⟨33, _⟩ => ⟨S32768x384, .f32⟩
  | .hbm, ⟨34, _⟩ => ⟨S32768x384, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x384, .f32⟩
  | .hbm, ⟨46, _⟩ => ⟨S32768x384, .f32⟩
  | .hbm, ⟨47, _⟩ => ⟨S32768x384, .f32⟩
  | .hbm, ⟨48, _⟩ => ⟨S32768x384, .f32⟩
  | .hbm, ⟨49, _⟩ => ⟨S32768x1536, .f32⟩
  | .hbm, ⟨50, _⟩ => ⟨S32768x16x96, .f32⟩
  | .hbm, ⟨51, _⟩ => ⟨S32768x16x64, .f32⟩
  | .hbm, ⟨52, _⟩ => ⟨S32768x16x16, .f32⟩
  | .hbm, ⟨53, _⟩ => ⟨S32768x16x16, .f32⟩
  | .hbm, ⟨54, _⟩ => ⟨S32768x16x16, .f32⟩
  | .hbm, ⟨55, _⟩ => ⟨S32768x16x16, .f32⟩
  | .hbm, ⟨56, _⟩ => ⟨S32768x16x16, .f32⟩
  | .hbm, ⟨57, _⟩ => ⟨S32768x16x16, .f32⟩
  | .hbm, ⟨58, _⟩ => ⟨S32768x16x16, .f32⟩
  | .hbm, ⟨59, _⟩ => ⟨S32768x16x16, .f32⟩
  | .hbm, ⟨60, _⟩ => ⟨S32768x16x16, .f32⟩
  | .hbm, ⟨61, _⟩ => ⟨S32768x16x16, .f32⟩
  | .hbm, ⟨62, _⟩ => ⟨S32768x16x16, .f32⟩
  | .hbm, ⟨63, _⟩ => ⟨S32768x16x128, .f32⟩
  | .hbm, ⟨64, _⟩ => ⟨S_, .f32⟩
  | .hbm, ⟨65, _⟩ => ⟨S32768x16x128, .f32⟩
  | .hbm, ⟨66, _⟩ => ⟨S32768x16x128, .f32⟩
  | .hbm, ⟨67, _⟩ => ⟨S32768x256, .f32⟩
  | .hbm, ⟨68, _⟩ => ⟨S32768x256, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S32768x256, .f32⟩
  | .hbm, ⟨80, _⟩ => ⟨S32768x256, .f32⟩
  | .hbm, ⟨81, _⟩ => ⟨S32768x256, .f32⟩
  | .hbm, ⟨82, _⟩ => ⟨S32768x256, .f32⟩
  | .hbm, ⟨83, _⟩ => ⟨S32768x1024, .f32⟩
  | .hbm, ⟨84, _⟩ => ⟨S32768x16x64, .f32⟩
  | .hbm, ⟨85, _⟩ => ⟨S32768x1024, .f32⟩
  | .hbm, ⟨86, _⟩ => ⟨S32768x16x64, .f32⟩
  | .hbm, ⟨87, _⟩ => ⟨S32768x32, .f32⟩
  | .hbm, ⟨88, _⟩ => ⟨S32768x1x32, .f32⟩
  | .hbm, ⟨89, _⟩ => ⟨S32768x1x16, .f32⟩
  | .hbm, ⟨90, _⟩ => ⟨S32768x1x16, .f32⟩
  | .hbm, ⟨91, _⟩ => ⟨S32768x1x16, .f32⟩
  | .hbm, ⟨92, _⟩ => ⟨S32768x1x16, .f32⟩
  | .hbm, ⟨93, _⟩ => ⟨S32768x1x16, .f32⟩
  | .hbm, ⟨94, _⟩ => ⟨S32768x1x16, .f32⟩
  | .hbm, ⟨95, _⟩ => ⟨S32768x1x16, .f32⟩
  | .hbm, ⟨96, _⟩ => ⟨S32768x1x16, .f32⟩
  | .hbm, ⟨97, _⟩ => ⟨S32768x1x32, .f32⟩
  | .hbm, ⟨98, _⟩ => ⟨S32768x16x32, .f32⟩
  | .hbm, ⟨99, _⟩ => ⟨S32768x16x128, .f32⟩
  | .hbm, ⟨100, _⟩ => ⟨S_, .f32⟩
  | .hbm, ⟨101, _⟩ => ⟨S32768x16x64, .f32⟩
  | .hbm, ⟨102, _⟩ => ⟨S32768x16x128, .f32⟩
  | .hbm, ⟨103, _⟩ => ⟨S32768x2048, .f32⟩
  | .hbm, ⟨104, _⟩ => ⟨S32768x2048, .bf16⟩
  | .hbm, ⟨105, _⟩ => ⟨S32768x2048, .f32⟩
  | .hbm, ⟨106, _⟩ => ⟨S32768x2048, .bf16⟩
  | .hbm, ⟨107, _⟩ => ⟨S32768x2048, .f32⟩
  | .hbm, ⟨108, _⟩ => ⟨S32768x2048, .bf16⟩
  | _, _ => ⟨S32768x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Proof.Attention.Weights.lean ====
/-
  Attention of one query over extended reals.

  A masked score is a real number or minus infinity. Its weight is two to that power, which is zero for minus
  infinity. The attention of a query is the weighted sum of the values over the sum of the weights.

  The two programs subtract a maximum before they exponentiate. Which real number is subtracted makes no
  difference: it multiplies every weight by the same positive factor, which cancels in the quotient. So both are
  shown equal to the formula `attend`, which subtracts nothing.
-/
module

public import Idealize.ShloMosaic.PureOps.Ideal.Laws
public import Mathlib.Data.EReal.Operations
public import Mathlib.Data.EReal.Inv

@[expose] public section

noncomputable section

namespace Cert.Attention

open Idealize.ShloMosaic

/-- The weight of a score: two to its power; zero for minus infinity. -/
def weight (x : EReal) : ℝ := if x = ⊥ then 0 else Real.rpow 2 x.toReal

/-- Whether a masked score is a proper one: minus infinity or a real number. -/
def Score (x : EReal) : Prop := x = ⊥ ∨ ∃ r : ℝ, x = (r : EReal)

/-- The attention of one query: `score j` and `value j` of the key `j`. -/
def attend {N : ℕ} (score value : Fin N → EReal) : EReal :=
  (∑ j, (weight (score j) : EReal) * value j) * (((∑ j, weight (score j))⁻¹ : ℝ) : EReal)

theorem weight_bot : weight ⊥ = 0 := by simp [weight]

theorem weight_coe (r : ℝ) : weight (r : EReal) = Real.rpow 2 r := by simp [weight]

theorem weight_nonneg (x : EReal) : 0 ≤ weight x := by
  unfold weight; split
  · exact le_rfl
  · exact Real.rpow_nonneg (by norm_num) _

theorem weight_pos_of_coe (r : ℝ) : 0 < weight (r : EReal) := by
  rw [weight_coe]; exact Real.rpow_pos_of_pos (by norm_num) _

/-- Exponentiating a score after a real number was subtracted: the weight times a factor that depends on that
    number alone. -/
theorem exp2_sub {x : EReal} (hx : Score x) (M : ℝ) :
    Ideal.exp2 (x - (M : EReal)) = ((weight x * Real.rpow 2 (-M) : ℝ) : EReal) := by
  rcases hx with rfl | ⟨r, rfl⟩
  · rw [weight_bot, zero_mul, EReal.bot_sub]; simp
  · rw [weight_coe, ← EReal.coe_sub, Ideal.exp2_coe]
    congr 1
    have := Real.rpow_add (show (0 : ℝ) < 2 by norm_num) r (-M)
    simpa [sub_eq_add_neg] using this

/-- The same with the natural exponential of scores that were multiplied by `ln 2`. -/
theorem exp_sub {x y : EReal} (hx : Score x) (hy : y = if x = ⊥ then ⊥ else x * ((Real.log 2 : ℝ) : EReal)) (M : ℝ) :
    Ideal.exp (y - (M : EReal)) = ((weight x * Real.exp (-M) : ℝ) : EReal) := by
  rcases hx with rfl | ⟨r, rfl⟩
  · rw [weight_bot, zero_mul, hy, if_pos rfl, EReal.bot_sub]; simp
  · rw [weight_coe, hy, if_neg (EReal.coe_ne_bot r), ← EReal.coe_mul, ← EReal.coe_sub, Ideal.exp_coe]
    congr 1
    show _ = (2 : ℝ) ^ r * _
    rw [Real.rpow_def_of_pos (by norm_num), ← Real.exp_add]
    congr 1; ring

/-- A real factor that is not negative goes into a sum. -/
theorem coe_mul_sum {ι : Type*} (s : Finset ι) (C : ℝ) (hC : 0 ≤ C) (f : ι → EReal) :
    (C : EReal) * ∑ i ∈ s, f i = ∑ i ∈ s, (C : EReal) * f i := by
  classical
  induction s using Finset.induction_on with
  | empty => simp
  | insert a s ha ih =>
    rw [Finset.sum_insert ha, Finset.sum_insert ha,
      EReal.left_distrib_of_nonneg_of_ne_top (EReal.coe_nonneg.mpr hC) (EReal.coe_ne_top C), ih]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of real numbers times `C`, in the other order of the factors. -/
theorem sum_mul_coe {ι : Type*} (s : Finset ι) (C : ℝ) (hC : 0 ≤ C) (f : ι → EReal) :
    (∑ i ∈ s, f i) * (C : EReal) = ∑ i ∈ s, f i * (C : EReal) := by
  rw [mul_comm, coe_mul_sum s C hC]; exact Finset.sum_congr rfl fun i _ => mul_comm _ _

/-- The maximum of proper scores is a proper score. -/
theorem score_max {x y : EReal} (hx : Score x) (hy : Score y) : Score (max x y) := by
  rcases max_choice x y with h | h <;> rw [h] <;> assumption

theorem score_fold {ι : Type*} (s : Finset ι) (f : ι → EReal) (hf : ∀ i, Score (f i)) : Score (s.fold max ⊥ f) := by
  classical
  induction s using Finset.induction_on with
  | empty => exact Or.inl rfl
  | insert a s ha ih => rw [Finset.fold_insert ha]; exact score_max (hf a) ih

theorem le_fold {ι : Type*} (s : Finset ι) (f : ι → EReal) (i : ι) (hi : i ∈ s) : f i ≤ s.fold max ⊥ f := by
  rw [Finset.le_fold_max]; exact Or.inr ⟨i, hi, le_rfl⟩

/-- A proper score above a real number is a real number. -/
theorem real_of_le {x : EReal} (hx : Score x) (r : ℝ) (h : (r : EReal) ≤ x) : ∃ M : ℝ, x = (M : EReal) := by
  rcases hx with rfl | hr
  · exact absurd h (by simp)
  · exact hr

/-- Dividing `C` times a sum by `C` times a positive real number. -/
theorem div_common {C D : ℝ} (hC : 0 < C) (hD : 0 < D) (x : EReal) :
    Ideal.div ((C : EReal) * x) ((C * D : ℝ) : EReal) = x * ((D⁻¹ : ℝ) : EReal) := by
  have h0 : ((C * D : ℝ) : EReal) ≠ 0 := by exact_mod_cast (mul_pos hC hD).ne'
  rw [Ideal.div, if_neg h0, ← EReal.coe_inv, mul_comm (C : EReal) x, mul_assoc, ← EReal.coe_mul]
  congr 2
  field_simp

/-- A sum over all keys is the sum over the keys of the block of 256 from `n` on and the sum over the keys before
    it, if the later keys contribute nothing. -/
theorem sum_split {α : Type*} [AddCommMonoid α] {N : ℕ} (n : ℕ) (hn : n + 256 ≤ N) (f : Fin N → α)
    (hz : ∀ j : Fin N, n + 256 ≤ j.val → f j = 0) :
    ∑ j, f j = ∑ c : Fin 256, f ⟨n + c.val, by omega⟩ + ∑ c : Fin n, f ⟨c.val, by omega⟩ := by
  let g : ℕ → α := fun j => if h : j < N then f ⟨j, h⟩ else 0
  have e : ∀ j : Fin N, f j = g j.val := fun j => by simp [g]
  have e1 : ∑ c : Fin 256, f ⟨n + c.val, by omega⟩ = ∑ c ∈ Finset.range 256, g (n + c) := by
    rw [← Fin.sum_univ_eq_sum_range (fun c => g (n + c))]; exact Finset.sum_congr rfl fun c _ => e _
  have e2 : ∑ c : Fin n, f ⟨c.val, by omega⟩ = ∑ c ∈ Finset.range n, g c := by
    rw [← Fin.sum_univ_eq_sum_range g]; exact Finset.sum_congr rfl fun c _ => e _
  have e3 : ∑ j, f j = ∑ c ∈ Finset.range N, g c := by
    rw [← Fin.sum_univ_eq_sum_range g]; exact Finset.sum_congr rfl fun c _ => e _
  rw [e1, e2, e3, show N = (n + 256) + (N - (n + 256)) by omega, Finset.sum_range_add, Finset.sum_range_add,
    Finset.sum_eq_zero (s := Finset.range (N - (n + 256)))]
  · rw [add_zero, add_comm]
  · intro c _
    by_cases h : n + 256 + c < N
    · simp only [g, dif_pos h]; exact hz _ (by simp)
    · simp only [g, dif_neg h]

/-- The kernel's quotient for a query in row `r` of the block of rows from `n` on. Its scores are those of the keys
    of the block, `sd`, masked after the query's own, and those of the keys before the block, `sp`. The number `M`
    is whatever real number was subtracted. -/
theorem blocked_attend {N : ℕ} (n : ℕ) (hn : n + 256 ≤ N) (score value : Fin N → EReal)
    (hs : ∀ j, Score (score j)) (hz : ∀ j : Fin N, n + 256 ≤ j.val → score j = ⊥)
    (j₀ : Fin N) (r₀ : ℝ) (h₀ : score j₀ = (r₀ : EReal)) (M : ℝ) :
    Ideal.div
      ((∑ c : Fin 256, Ideal.exp2 (score ⟨n + c.val, by omega⟩ - (M : EReal)) * value ⟨n + c.val, by omega⟩)
        + ∑ c : Fin n, Ideal.exp2 (score ⟨c.val, by omega⟩ - (M : EReal)) * value ⟨c.val, by omega⟩)
      ((∑ c : Fin 256, Ideal.exp2 (score ⟨n + c.val, by omega⟩ - (M : EReal)))
        + ∑ c : Fin n, Ideal.exp2 (score ⟨c.val, by omega⟩ - (M : EReal)))
      = attend score value := by
  have hC : 0 < Real.rpow 2 (-M) := Real.rpow_pos_of_pos (by norm_num) _
  have hD : 0 < ∑ j, weight (score j) :=
    Finset.sum_pos' (fun j _ => weight_nonneg _) ⟨j₀, Finset.mem_univ _, by rw [h₀]; exact weight_pos_of_coe r₀⟩
  rw [← sum_split n hn (fun j => Ideal.exp2 (score j - (M : EReal)) * value j),
    ← sum_split n hn (fun j => Ideal.exp2 (score j - (M : EReal)))]
  · have e1 : ∀ j, Ideal.exp2 (score j - (M : EReal)) * value j
        = ((Real.rpow 2 (-M) : ℝ) : EReal) * ((weight (score j) : EReal) * value j) := fun j => by
      rw [exp2_sub (hs j), mul_comm (weight (score j)), EReal.coe_mul, mul_assoc]
    have e2 : ∀ j, Ideal.exp2 (score j - (M : EReal)) = ((Real.rpow 2 (-M) * weight (score j) : ℝ) : EReal) := fun j => by
      rw [exp2_sub (hs j), mul_comm (weight (score j))]
    rw [Finset.sum_congr rfl fun j _ => e1 j, Finset.sum_congr rfl fun j _ => e2 j, ← coe_mul_sum _ _ hC.le, ← coe_sum,
      ← Finset.mul_sum]
    exact div_common hC hD _
  · intro j hj; rw [hz j hj, EReal.bot_sub]; simp
  · intro j hj; rw [hz j hj, EReal.bot_sub]; simp

/-- The reference's: every weight is divided by their sum, then the values are summed. -/
theorem softmax_attend {N : ℕ} (score value e : Fin N → EReal) (j₀ : Fin N) (r₀ : ℝ) (h₀ : score j₀ = (r₀ : EReal))
    (C : ℝ) (hC : 0 < C) (he : ∀ j, e j = ((weight (score j) * C : ℝ) : EReal)) :
    ∑ j, value j * Ideal.div (e j) (∑ i, e i) = attend score value := by
  have hD : 0 < ∑ j, weight (score j) :=
    Finset.sum_pos' (fun j _ => weight_nonneg _) ⟨j₀, Finset.mem_univ _, by rw [h₀]; exact weight_pos_of_coe r₀⟩
  have e2 : ∑ i, e i = ((C * ∑ j, weight (score j) : ℝ) : EReal) := by
    rw [Finset.mul_sum, coe_sum]; exact Finset.sum_congr rfl fun j _ => by rw [he j, mul_comm]
  rw [e2, attend, sum_mul_coe _ _ (inv_nonneg.mpr hD.le)]
  refine Finset.sum_congr rfl fun j _ => ?_
  rw [he j, mul_comm (weight (score j)), EReal.coe_mul, div_common hC hD, ← mul_assoc, mul_comm (value j)]

end Cert.Attention

end
-- ==== Proof.Attention.Unit.lean ====
/-
  The attention of one block of 256 queries, as vector expressions over any number `n` of earlier keys, and what
  they hold at an index.
-/
module

public import proofs.«01_k».proof.Proof.Attention.Weights
public import proofs.«01_k».proof.Proof.Gen.KernelIdeal.Skeleton
public import Idealize.ShloMosaic.Lib.Pointwise
public import Idealize.ShloMosaic.Lib.MatmulPlain
public import Idealize.ShloMosaic.Lib.KernelVsHost
public import Idealize.ShloMosaic.Lib.WordCmp

@[expose] public section

set_option maxRecDepth 16384

noncomputable section

namespace Cert.Attention

open Idealize.ShloMosaic hiding ix0 ix1 ix2 ix3 ix4 ix5
open Idealize.ShloMosaic.ValueIdx Cert.KernelIdeal Cert.KernelIdeal.Gen Cert.KernelIdeal.Facts

/-- A matrix of `a` rows and `b` columns. -/
abbrev Mat (a b : ℕ) : Shape := ⟨2, ![a, b]⟩

/-- The largest entry of every row, as one column. -/
def rowMax (n : ℕ) (s : FVec Ideal (Mat 256 n) .f32) (hr : (Mat 256 n).Reduces [1] S256) : FVec Ideal S256x1 .f32 :=
  shapeCast S256x1 (multiReduction .maximumf [1] S256 s 0xFF800000#32 hr (.inl rfl) rfl) shapeCasts_S256_S256x1

/-- The weights of a block of scores, `m` subtracted from each row, times the values. -/
def weighted (n : ℕ) (s : FVec Ideal (Mat 256 n) .f32) (m : FVec Ideal S256x1 .f32) (v : FVec Ideal (Mat n 128) .bf16)
    (hb : S256x1.Broadcasts (Mat 256 n)) : FVec Ideal S256x128 .f32 :=
  matmul (DotDims.plain 256 n 128) none (truncf .bf16 (exp2 (subf s (broadcastTo (Mat 256 n) m hb))) bitsLt_bf16_f32) v
    (constant S256x128 .f32 0x00000000#32)

/-- The scores of the block's own keys, masked after the query's own. -/
def ownScores (mask : IVec S256x256 1) (q k : FVec Ideal S256x128 .bf16) : FVec Ideal S256x256 .f32 :=
  select mask (matmul (DotDims.transposedRhs 256 128 256) none q k (constant S256x256 .f32 0x00000000#32))
    (broadcast S256x256 (Scalar.ofBits .f32 0xFF800000#32))

/-- The scores of the earlier keys. -/
def pastScores (n : ℕ) (q : FVec Ideal S256x128 .bf16) (k : FVec Ideal (Mat n 128) .bf16) : FVec Ideal (Mat 256 n) .f32 :=
  matmul (DotDims.transposedRhs 256 128 n) none q k (constant (Mat 256 n) .f32 0x00000000#32)

/-- One head of a block with `n` earlier keys. -/
def head (n : ℕ) (hr : (Mat 256 n).Reduces [1] S256) (hb : S256x1.Broadcasts (Mat 256 n)) (mask : IVec S256x256 1)
    (q kd : FVec Ideal S256x128 .bf16) (kp : FVec Ideal (Mat n 128) .bf16) (vd : FVec Ideal S256x128 .bf16)
    (vp : FVec Ideal (Mat n 128) .bf16) : FVec Ideal S256x128 .f32 :=
  addf
    (weighted 256 (ownScores mask q kd)
      (maximumf (rowMax 256 (ownScores mask q kd) reduces_S256x256_S256) (rowMax n (pastScores n q kp) hr)) vd
      broadcasts_S256x1_S256x256)
    (weighted n (pastScores n q kp)
      (maximumf (rowMax 256 (ownScores mask q kd) reduces_S256x256_S256) (rowMax n (pastScores n q kp) hr)) vp hb)

/-- One head of the first block, which has no earlier keys. -/
def firstHead (mask : IVec S256x256 1) (q kd vd : FVec Ideal S256x128 .bf16) : FVec Ideal S256x128 .f32 :=
  weighted 256 (ownScores mask q kd) (rowMax 256 (ownScores mask q kd) reduces_S256x256_S256) vd
    broadcasts_S256x1_S256x256

/-- Two heads joined: each head's values over its sums, the second head in the lower lanes. -/
def join (low : IVec S256x128 1) (a0 a1 : FVec Ideal S256x128 .f32) : FVec Ideal S256x128 .bf16 :=
  truncf .bf16
    (divf
      (select low (dynamicRotate 1 64#32 none (select low a0 a1) rotates_S256x128_d1) (select low a1 a0))
      (select low (select low a1 a0) (dynamicRotate 1 64#32 none (select low a0 a1) rotates_S256x128_d1)))
    bitsLt_bf16_f32

theorem bot_word : Ideal.ofBits .f32 0xFF800000#32 = (⊥ : EReal) := by simp [Ideal.ofBits, Ideal.ieee]

theorem mask_apply (r c : Fin 256) : k0_pay2 (ix2 r c) = if c.val ≤ r.val then 1#1 else 0#1 := by
  show IntOp.cmpi .sle (iota .tc S256x256 32 [1] iota_S256x256_d1_w32 (ix2 r c))
    (iota .tc S256x256 32 [0] iota_S256x256_d0_w32 (ix2 r c)) = _
  rw [iota_single_apply, iota_single_apply]
  have hc := c.isLt; have hr := r.isLt
  show IntOp.cmpi .sle (BitVec.ofNat 32 c.val) (BitVec.ofNat 32 r.val) = _
  rw [WordCmp.cmpi_sle_ofNat (by norm_num; omega) (by norm_num; omega)]
  by_cases h : c.val ≤ r.val
  · rw [if_pos h, decide_eq_true h]; rfl
  · rw [if_neg h, decide_eq_false h]; rfl

theorem low_apply (r : Fin 256) (l : Fin 128) : k0_pay3 (ix2 r l) = if l.val < 64 then 1#1 else 0#1 := by
  show IntOp.cmpi .slt (iota .tc S256x128 32 [1] iota_S256x128_d1_w32 (ix2 r l)) 64#32 = _
  rw [iota_single_apply]
  have hl := l.isLt
  show IntOp.cmpi .slt (BitVec.ofNat 32 l.val) (BitVec.ofNat 32 64) = _
  rw [WordCmp.cmpi_slt_ofNat (by norm_num; omega) (by norm_num)]
  by_cases h : l.val < 64
  · rw [if_pos h, decide_eq_true h]; rfl
  · rw [if_neg h, decide_eq_false h]; rfl

theorem rowMax_apply (n : ℕ) (s : FVec Ideal (Mat 256 n) .f32) (hr : (Mat 256 n).Reduces [1] S256) (r : Fin 256) :
    rowMax n s hr (ix2 r 0) = (Finset.univ : Finset (Fin n)).fold max ⊥ fun c => s (ix2 r c) := by
  unfold rowMax
  rw [shapeCast_apply _ _ (ix2 r 0) (ix1 r) (by rw [Shape.rowMajor_val_two, Shape.rowMajor_val_one]; show r.val = r.val * 1 + 0; omega)]
  refine (Ideal.multiReduction_maximumf_single (a := 1) s _ hr _ _ (ix1 r)).trans ?_
  show Finset.fold max (Ideal.ofBits .f32 0xFF800000#32) _ _ = _
  rw [bot_word]
  refine Finset.fold_congr fun c _ => congrArg s ?_
  funext a; apply Fin.ext
  match a with
  | ⟨0, _⟩ => rfl
  | ⟨1, _⟩ => rfl

theorem pastScores_apply (n : ℕ) (q : FVec Ideal S256x128 .bf16) (k : FVec Ideal (Mat n 128) .bf16) (r : Fin 256) (c : Fin n) :
    pastScores n q k (ix2 r c) = ∑ d : Fin 128, q (ix2 r d) * k (ix2 c d) := by
  refine (Ideal.matmul_transposedRhs_apply none q k _ r c).trans ?_
  show Ideal.ofBits .f32 0x00000000#32 + _ = _
  rw [Ideal.ofBits_zero_f32, zero_add]

theorem ownScores_apply (q k : FVec Ideal S256x128 .bf16) (r c : Fin 256) :
    ownScores k0_pay2 q k (ix2 r c) = if c.val ≤ r.val then ∑ d : Fin 128, q (ix2 r d) * k (ix2 c d) else ⊥ := by
  show Scalar.select (k0_pay2 (ix2 r c)) (FloatOps.matmul (DotDims.transposedRhs 256 128 256) none q k _ (ix2 r c)) (Ideal.ofBits .f32 0xFF800000#32) = _
  rw [mask_apply, Ideal.matmul_transposedRhs_apply, bot_word]
  show Scalar.select _ (Ideal.ofBits .f32 0x00000000#32 + _) _ = _
  rw [Ideal.ofBits_zero_f32, zero_add]
  split <;> simp [Scalar.select]

theorem weighted_apply (n : ℕ) (s : FVec Ideal (Mat 256 n) .f32) (m : FVec Ideal S256x1 .f32) (v : FVec Ideal (Mat n 128) .bf16)
    (hb : S256x1.Broadcasts (Mat 256 n)) (r : Fin 256) (l : Fin 128) :
    weighted n s m v hb (ix2 r l) = ∑ c : Fin n, Ideal.exp2 (s (ix2 r c) - m (ix2 r 0)) * v (ix2 c l) := by
  refine (Ideal.matmul_plain_apply none _ v _ r l).trans ?_
  show Ideal.ofBits .f32 0x00000000#32 + _ = _
  rw [Ideal.ofBits_zero_f32, zero_add]
  refine Finset.sum_congr rfl fun c _ => ?_
  show Ideal.exp2 (s (ix2 r c) - broadcastTo (Mat 256 n) m hb (ix2 r c)) * _ = _
  rw [broadcastTo_apply m hb (ix2 r c) (ix2 r 0) (fun a => ?_)]
  match a with
  | ⟨0, _⟩ => rfl
  | ⟨1, _⟩ => rfl

/-- The lanes rotated by half their number. -/
theorem half_turn_apply (x : FVec Ideal S256x128 .f32) (r : Fin 256) (l : Fin 128) :
    dynamicRotate 1 64#32 none x rotates_S256x128_d1 (ix2 r l) = x (ix2 r ⟨(l.val + 64) % 128, Nat.mod_lt _ (by norm_num)⟩) := by
  refine dynamicRotate_apply (1 : Fin 2) 64#32 x rotates_S256x128_d1 _ _ fun b => ?_
  match b with
  | ⟨0, _⟩ => rfl
  | ⟨1, _⟩ => rfl

theorem join_low (a0 a1 : FVec Ideal S256x128 .f32) (r : Fin 256) (l : Fin 128) (h : l.val < 64) :
    join k0_pay3 a0 a1 (ix2 r l) = Ideal.div (a1 (ix2 r ⟨l.val + 64, by omega⟩)) (a1 (ix2 r l)) := by
  show Ideal.div
    (Scalar.select (k0_pay3 (ix2 r l)) (dynamicRotate 1 64#32 none (select k0_pay3 a0 a1) rotates_S256x128_d1 (ix2 r l))
      (Scalar.select (k0_pay3 (ix2 r l)) (a1 (ix2 r l)) (a0 (ix2 r l))))
    (Scalar.select (k0_pay3 (ix2 r l)) (Scalar.select (k0_pay3 (ix2 r l)) (a1 (ix2 r l)) (a0 (ix2 r l)))
      (dynamicRotate 1 64#32 none (select k0_pay3 a0 a1) rotates_S256x128_d1 (ix2 r l))) = _
  rw [half_turn_apply, low_apply, if_pos h]
  have e : (l.val + 64) % 128 = l.val + 64 := Nat.mod_eq_of_lt (by omega)
  simp only [e]
  show Ideal.div (Scalar.select (k0_pay3 (ix2 r ⟨l.val + 64, _⟩)) (a0 _) (a1 _)) _ = _
  rw [low_apply, if_neg (by simp)]
  rfl

theorem join_high (a0 a1 : FVec Ideal S256x128 .f32) (r : Fin 256) (l : Fin 128) (h : ¬ l.val < 64) :
    join k0_pay3 a0 a1 (ix2 r l) = Ideal.div (a0 (ix2 r l)) (a0 (ix2 r ⟨l.val - 64, by omega⟩)) := by
  show Ideal.div
    (Scalar.select (k0_pay3 (ix2 r l)) (dynamicRotate 1 64#32 none (select k0_pay3 a0 a1) rotates_S256x128_d1 (ix2 r l))
      (Scalar.select (k0_pay3 (ix2 r l)) (a1 (ix2 r l)) (a0 (ix2 r l))))
    (Scalar.select (k0_pay3 (ix2 r l)) (Scalar.select (k0_pay3 (ix2 r l)) (a1 (ix2 r l)) (a0 (ix2 r l)))
      (dynamicRotate 1 64#32 none (select k0_pay3 a0 a1) rotates_S256x128_d1 (ix2 r l))) = _
  rw [half_turn_apply, low_apply, if_neg h]
  have hl := l.isLt
  have e : (l.val + 64) % 128 = l.val - 64 := by omega
  simp only [e]
  show Ideal.div _ (Scalar.select (k0_pay3 (ix2 r ⟨l.val - 64, _⟩)) (a0 _) (a1 _)) = _
  rw [low_apply, if_pos (by show l.val - 64 < 64; omega)]
  rfl

end Cert.Attention

end
-- ==== Proof.Attention.Block.lean ====
/-
  One grid point of the attention kernel: a batch row's two heads, 2048 queries in eight blocks of 256.
-/
module

public import proofs.«01_k».proof.Proof.Attention.Unit
public import proofs.«01_k».proof.Proof.Gen.KernelIdeal.Value
public import Idealize.ShloMosaic.Lib.Pipeline.ValueKit

@[expose] public section

set_option maxRecDepth 16384

noncomputable section

namespace Cert.Attention

open Idealize.ShloMosaic hiding ix0 ix1 ix2 ix3 ix4 ix5
open Idealize.ShloMosaic.ValueIdx Cert.KernelIdeal Cert.KernelIdeal.Gen Cert.KernelIdeal.Facts

/-- The score of the key `j` for the query `R`, minus infinity for a later key. -/
def maskedScore (q k : Fin 2048 → Fin 128 → EReal) (R j : Fin 2048) : EReal :=
  if j.val ≤ R.val then ∑ d, q R d * k j d else ⊥

/-- Causal attention of one head: the query `R` over the keys up to `R`. -/
def headOut (q k : Fin 2048 → Fin 128 → EReal) (v : Fin 2048 → EReal) (R : Fin 2048) : EReal :=
  attend (fun j => maskedScore q k R j) v

/-- Every entry a real number. -/
def Finite {ι κ : Type*} (x : ι → κ → EReal) : Prop := ∀ i d, ∃ r : ℝ, x i d = (r : EReal)

theorem real_sum {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  choose a ha using hf
  choose b hb using hg
  exact ⟨∑ i ∈ s, a i * b i, by rw [coe_sum]; exact Finset.sum_congr rfl fun i _ => by rw [ha, hb, EReal.coe_mul]⟩

theorem maskedScore_score {q k : Fin 2048 → Fin 128 → EReal} (hq : Finite q) (hk : Finite k) (R j : Fin 2048) :
    Score (maskedScore q k R j) := by
  unfold maskedScore
  split
  · exact Or.inr (real_sum _ _ _ (hq R) (hk j))
  · exact Or.inl rfl

theorem maskedScore_own {q k : Fin 2048 → Fin 128 → EReal} (hq : Finite q) (hk : Finite k) (R : Fin 2048) :
    ∃ r : ℝ, maskedScore q k R R = (r : EReal) := by
  unfold maskedScore
  rw [if_pos le_rfl]
  exact real_sum _ _ _ (hq R) (hk R)

/-- What the kernel computes of one head in a block with `n` earlier keys. -/
theorem head_value (n : ℕ) (hn : n + 256 ≤ 2048) (hr : (Mat 256 n).Reduces [1] S256) (hb : S256x1.Broadcasts (Mat 256 n))
    (qd kd : FVec Ideal S256x128 .bf16) (kp : FVec Ideal (Mat n 128) .bf16) (vd : FVec Ideal S256x128 .bf16)
    (vp : FVec Ideal (Mat n 128) .bf16) (q k v : Fin 2048 → Fin 128 → EReal) (hq : Finite q) (hk : Finite k)
    (eq : ∀ (r : Fin 256) d, qd (ix2 r d) = q ⟨n + r.val, by omega⟩ d)
    (ekd : ∀ (r : Fin 256) d, kd (ix2 r d) = k ⟨n + r.val, by omega⟩ d)
    (ekp : ∀ (c : Fin n) d, kp (ix2 c d) = k ⟨c.val, by omega⟩ d)
    (evd : ∀ (r : Fin 256) d, vd (ix2 r d) = v ⟨n + r.val, by omega⟩ d)
    (evp : ∀ (c : Fin n) d, vp (ix2 c d) = v ⟨c.val, by omega⟩ d)
    (r : Fin 256) (l o : Fin 128) (ho : ∀ j, v j o = 1) :
    Ideal.div (head n hr hb k0_pay2 qd kd kp vd vp (ix2 r l)) (head n hr hb k0_pay2 qd kd kp vd vp (ix2 r o))
      = headOut q k (fun j => v j l) ⟨n + r.val, by omega⟩ := by
  let s : Fin 2048 → EReal := fun j => maskedScore q k ⟨n + r.val, by omega⟩ j
  have hs : ∀ j, Score (s j) := maskedScore_score hq hk _
  have hz : ∀ j : Fin 2048, n + 256 ≤ j.val → s j = ⊥ := fun j hj => by
    have hr := r.isLt
    show (if j.val ≤ n + r.val then _ else _) = _
    rw [if_neg (by omega)]
  obtain ⟨r₀, h₀⟩ := maskedScore_own hq hk ⟨n + r.val, by omega⟩
  have eo : ∀ c : Fin 256, ownScores k0_pay2 qd kd (ix2 r c) = s ⟨n + c.val, by omega⟩ := fun c => by
    rw [ownScores_apply]
    show _ = if n + c.val ≤ n + r.val then _ else _
    by_cases h : c.val ≤ r.val
    · rw [if_pos h, if_pos (by omega)]; exact Finset.sum_congr rfl fun d _ => by rw [eq, ekd]
    · rw [if_neg h, if_neg (by omega)]
  have ep : ∀ c : Fin n, pastScores n qd kp (ix2 r c) = s ⟨c.val, by omega⟩ := fun c => by
    rw [pastScores_apply]
    show _ = if c.val ≤ n + r.val then _ else _
    rw [if_pos (by omega)]; exact Finset.sum_congr rfl fun d _ => by rw [eq, ekp]
  obtain ⟨M, hM⟩ : ∃ M : ℝ, maximumf (rowMax 256 (ownScores k0_pay2 qd kd) reduces_S256x256_S256)
      (rowMax n (pastScores n qd kp) hr) (ix2 r 0) = (M : EReal) := by
    have e : maximumf (rowMax 256 (ownScores k0_pay2 qd kd) reduces_S256x256_S256)
        (rowMax n (pastScores n qd kp) hr) (ix2 r 0)
        = max ((Finset.univ : Finset (Fin 256)).fold max ⊥ fun c => s ⟨n + c.val, by omega⟩)
            ((Finset.univ : Finset (Fin n)).fold max ⊥ fun c => s ⟨c.val, by omega⟩) := by
      show max (rowMax 256 (ownScores k0_pay2 qd kd) reduces_S256x256_S256 (ix2 r 0)) (rowMax n (pastScores n qd kp) hr (ix2 r 0)) = _
      rw [rowMax_apply 256, rowMax_apply n]
      congr 1
      · exact Finset.fold_congr fun c _ => eo c
      · exact Finset.fold_congr fun c _ => ep c
    rw [e]
    refine real_of_le (score_max (score_fold _ _ fun _ => hs _) (score_fold _ _ fun _ => hs _)) r₀ ?_
    refine le_trans ?_ (le_max_left _ _)
    rw [← h₀]
    exact le_fold Finset.univ (fun c : Fin 256 => s ⟨n + c.val, by omega⟩) r (Finset.mem_univ _)
  have eh : ∀ l : Fin 128, head n hr hb k0_pay2 qd kd kp vd vp (ix2 r l)
      = (∑ c : Fin 256, Ideal.exp2 (s ⟨n + c.val, by omega⟩ - (M : EReal)) * v ⟨n + c.val, by omega⟩ l)
        + ∑ c : Fin n, Ideal.exp2 (s ⟨c.val, by omega⟩ - (M : EReal)) * v ⟨c.val, by omega⟩ l := fun l => by
    show weighted 256 _ _ vd _ (ix2 r l) + weighted n _ _ vp hb (ix2 r l) = _
    rw [weighted_apply 256, weighted_apply n, hM]
    refine congrArg₂ (· + ·) (Finset.sum_congr rfl fun c _ => ?_) (Finset.sum_congr rfl fun c _ => ?_)
    · rw [eo, evd]
    · rw [ep, evp]
  have eden : head n hr hb k0_pay2 qd kd kp vd vp (ix2 r o)
      = (∑ c : Fin 256, Ideal.exp2 (s ⟨n + c.val, by omega⟩ - (M : EReal)))
        + ∑ c : Fin n, Ideal.exp2 (s ⟨c.val, by omega⟩ - (M : EReal)) := by
    rw [eh o]
    simp only [ho, mul_one]
  rw [eh l, eden]
  exact blocked_attend n hn s (fun j => v j l) hs hz _ r₀ h₀ M

/-- The same for the first block. -/
theorem firstHead_value (qd kd vd : FVec Ideal S256x128 .bf16) (q k v : Fin 2048 → Fin 128 → EReal)
    (hq : Finite q) (hk : Finite k)
    (eq : ∀ (r : Fin 256) d, qd (ix2 r d) = q ⟨r.val, by omega⟩ d)
    (ekd : ∀ (r : Fin 256) d, kd (ix2 r d) = k ⟨r.val, by omega⟩ d)
    (evd : ∀ (r : Fin 256) d, vd (ix2 r d) = v ⟨r.val, by omega⟩ d)
    (r : Fin 256) (l o : Fin 128) (ho : ∀ j, v j o = 1) :
    Ideal.div (firstHead k0_pay2 qd kd vd (ix2 r l)) (firstHead k0_pay2 qd kd vd (ix2 r o))
      = headOut q k (fun j => v j l) ⟨r.val, by omega⟩ := by
  let s : Fin 2048 → EReal := fun j => maskedScore q k ⟨r.val, by omega⟩ j
  have hs : ∀ j, Score (s j) := maskedScore_score hq hk _
  have hz : ∀ j : Fin 2048, 0 + 256 ≤ j.val → s j = ⊥ := fun j hj => by
    have hr := r.isLt
    show (if j.val ≤ r.val then _ else _) = _
    rw [if_neg (by omega)]
  obtain ⟨r₀, h₀⟩ := maskedScore_own hq hk ⟨r.val, by omega⟩
  have eo : ∀ c : Fin 256, ownScores k0_pay2 qd kd (ix2 r c) = s ⟨c.val, by omega⟩ := fun c => by
    rw [ownScores_apply]
    show _ = if c.val ≤ r.val then _ else _
    by_cases h : c.val ≤ r.val
    · rw [if_pos h, if_pos (by omega)]; exact Finset.sum_congr rfl fun d _ => by rw [eq, ekd]
    · rw [if_neg h, if_neg (by omega)]
  obtain ⟨M, hM⟩ : ∃ M : ℝ, rowMax 256 (ownScores k0_pay2 qd kd) reduces_S256x256_S256 (ix2 r 0) = (M : EReal) := by
    have e : rowMax 256 (ownScores k0_pay2 qd kd) reduces_S256x256_S256 (ix2 r 0)
        = (Finset.univ : Finset (Fin 256)).fold max ⊥ fun c => s ⟨c.val, by omega⟩ := by
      rw [rowMax_apply 256]
      exact Finset.fold_congr fun c _ => eo c
    rw [e]
    refine real_of_le (score_fold _ _ fun _ => hs _) r₀ ?_
    rw [← h₀]
    exact le_fold Finset.univ (fun c : Fin 256 => s ⟨c.val, by omega⟩) r (Finset.mem_univ _)
  have eh : ∀ l : Fin 128, firstHead k0_pay2 qd kd vd (ix2 r l)
      = ∑ c : Fin 256, Ideal.exp2 (s ⟨c.val, by omega⟩ - (M : EReal)) * v ⟨c.val, by omega⟩ l := fun l => by
    show weighted 256 _ _ vd _ (ix2 r l) = _
    rw [weighted_apply 256, hM]
    exact Finset.sum_congr rfl fun c _ => by rw [eo, evd]
  have key := blocked_attend 0 (by norm_num) s (fun j => v j l) hs hz _ r₀ h₀ M
  simp only [Finset.univ_eq_empty, Finset.sum_empty, add_zero, Nat.zero_add] at key
  have eden : firstHead k0_pay2 qd kd vd (ix2 r o) = ∑ c : Fin 256, Ideal.exp2 (s ⟨c.val, by omega⟩ - (M : EReal)) := by
    rw [eh o]
    simp only [ho, mul_one]
  rw [eh l, eden]
  exact key

/-- `a` rows from row `off` on, 128 lanes from `lane` on. -/
def part (x : Vec Ideal S2048x256 .bf16) (off lane a : ℕ) (h : off + a ≤ 2048) (h' : lane + 128 ≤ 256) :
    FVec Ideal (Mat a 128) .bf16 :=
  View.ld x (Rect.unit (s := S2048x256) ![off, lane] ![a, 128] (fun b => match b with | ⟨0, _⟩ => h | ⟨1, _⟩ => h'))

theorem part_apply (x : Vec Ideal S2048x256 .bf16) (off lane a : ℕ) (h : off + a ≤ 2048) (h' : lane + 128 ≤ 256)
    (r : Fin a) (d : Fin 128) :
    part x off lane a h h' (ix2 r d) = x (ix2 ⟨off + r.val, by omega⟩ ⟨lane + d.val, by omega⟩) := by
  refine View.ld_unit_apply_of x _ _ _ (ix2 r d) _ fun b => ?_
  match b with
  | ⟨0, _⟩ => rfl
  | ⟨1, _⟩ => rfl

/-- The stored block of the queries from `n` on. -/
def piece (n : ℕ) (hn : n + 256 ≤ 2048) (hr : (Mat 256 n).Reduces [1] S256) (hb : S256x1.Broadcasts (Mat 256 n))
    (x0 x1 x2 : Vec Ideal S2048x256 .bf16) : FVec Ideal S256x128 .bf16 :=
  join k0_pay3
    (head n hr hb k0_pay2 (part x0 n 0 256 hn (by norm_num)) (part x1 n 0 256 hn (by norm_num))
      (part x1 0 0 n (by omega) (by norm_num)) (part x2 n 0 256 hn (by norm_num)) (part x2 0 0 n (by omega) (by norm_num)))
    (head n hr hb k0_pay2 (part x0 n 128 256 hn (by norm_num)) (part x1 n 128 256 hn (by norm_num))
      (part x1 0 128 n (by omega) (by norm_num)) (part x2 n 128 256 hn (by norm_num)) (part x2 0 128 n (by omega) (by norm_num)))

/-- The stored block of the first 256 queries. -/
def firstPiece (x0 x1 x2 : Vec Ideal S2048x256 .bf16) : FVec Ideal S256x128 .bf16 :=
  join k0_pay3
    (firstHead k0_pay2 (part x0 0 0 256 (by norm_num) (by norm_num)) (part x1 0 0 256 (by norm_num) (by norm_num))
      (part x2 0 0 256 (by norm_num) (by norm_num)))
    (firstHead k0_pay2 (part x0 0 128 256 (by norm_num) (by norm_num)) (part x1 0 128 256 (by norm_num) (by norm_num))
      (part x2 0 128 256 (by norm_num) (by norm_num)))

/-- The kernel's eight stores are these blocks. -/
theorem out_eq (x0 x1 x2 : Vec Ideal S2048x256 .bf16) :
    out0_3 x0 x1 x2 = View.canon [
      ⟨r0_35, firstPiece x0 x1 x2⟩,
      ⟨r0_34, piece 256 (by norm_num) reduces_S256x256_S256 broadcasts_S256x1_S256x256 x0 x1 x2⟩,
      ⟨r0_33, piece 512 (by norm_num) reduces_S256x512_S256 broadcasts_S256x1_S256x512 x0 x1 x2⟩,
      ⟨r0_30, piece 768 (by norm_num) reduces_S256x768_S256 broadcasts_S256x1_S256x768 x0 x1 x2⟩,
      ⟨r0_25, piece 1024 (by norm_num) reduces_S256x1024_S256 broadcasts_S256x1_S256x1024 x0 x1 x2⟩,
      ⟨r0_20, piece 1280 (by norm_num) reduces_S256x1280_S256 broadcasts_S256x1_S256x1280 x0 x1 x2⟩,
      ⟨r0_15, piece 1536 (by norm_num) reduces_S256x1536_S256 broadcasts_S256x1_S256x1536 x0 x1 x2⟩,
      ⟨r0_10, piece 1792 (by norm_num) reduces_S256x1792_S256 broadcasts_S256x1_S256x1792 x0 x1 x2⟩] := rfl

end Cert.Attention

end
-- ==== Proof.Attention.Out.lean ====
/-
  What one grid point leaves in its output block, entry by entry.
-/
module

public import proofs.«01_k».proof.Proof.Attention.Block

@[expose] public section

set_option maxRecDepth 16384

noncomputable section

namespace Cert.Attention

open Idealize.ShloMosaic hiding ix0 ix1 ix2 ix3 ix4 ix5
open Idealize.ShloMosaic.ValueIdx Cert.KernelIdeal Cert.KernelIdeal.Gen Cert.KernelIdeal.Facts

/-- Output lane `l` of a pair of heads: the lower 64 lanes are the second head's, the upper 64 the first's. -/
def blockOut (x0 x1 x2 : Vec Ideal S2048x256 .bf16) (R : Fin 2048) (l : Fin 128) : EReal :=
  headOut (fun j d => x0 (ix2 j ⟨128 * (1 - l.val / 64) + d.val, by omega⟩))
    (fun j d => x1 (ix2 j ⟨128 * (1 - l.val / 64) + d.val, by omega⟩))
    (fun j => x2 (ix2 j ⟨128 * (1 - l.val / 64) + 64 + l.val % 64, by omega⟩)) R

/-- The 64 lanes before a head's values hold ones. -/
def Ones (x2 : Vec Ideal S2048x256 .bf16) : Prop :=
  ∀ (j : Fin 2048) (d : Fin 256), d.val % 128 < 64 → x2 (ix2 j d) = 1

theorem piece_apply (n : ℕ) (hn : n + 256 ≤ 2048) (hr : (Mat 256 n).Reduces [1] S256) (hb : S256x1.Broadcasts (Mat 256 n))
    (x0 x1 x2 : Vec Ideal S2048x256 .bf16) (h0 : Finite fun j d => x0 (ix2 j d)) (h1 : Finite fun j d => x1 (ix2 j d))
    (h2 : Ones x2) (r : Fin 256) (l : Fin 128) :
    piece n hn hr hb x0 x1 x2 (ix2 r l) = blockOut x0 x1 x2 ⟨n + r.val, by omega⟩ l := by
  have hl := l.isLt
  by_cases h : l.val < 64
  · have e : l.val / 64 = 0 := by omega
    have e' : l.val % 64 = l.val := by omega
    unfold piece
    rw [join_low _ _ _ _ h]
    refine (head_value n hn hr hb _ _ _ _ _ (fun j d => x0 (ix2 j ⟨128 + d.val, by omega⟩))
      (fun j d => x1 (ix2 j ⟨128 + d.val, by omega⟩)) (fun j d => x2 (ix2 j ⟨128 + d.val, by omega⟩))
      (fun i d => h0 i _) (fun i d => h1 i _) (fun r d => part_apply ..) (fun r d => part_apply ..)
      (fun c d => (part_apply ..).trans ?_) (fun r d => part_apply ..) (fun c d => (part_apply ..).trans ?_)
      r ⟨l.val + 64, by omega⟩ l (fun j => h2 j _ ?_)).trans ?_
    · simp only [Nat.zero_add]
    · simp only [Nat.zero_add]
    · show (128 + l.val) % 128 < 64; omega
    · unfold blockOut
      simp only [e, e', Nat.sub_zero, Nat.mul_one, Nat.add_assoc, Nat.add_comm 64 l.val]
  · have e : l.val / 64 = 1 := by omega
    have e' : 64 + l.val % 64 = l.val := by omega
    unfold piece
    rw [join_high _ _ _ _ h]
    refine (head_value n hn hr hb _ _ _ _ _ (fun j d => x0 (ix2 j ⟨0 + d.val, by omega⟩))
      (fun j d => x1 (ix2 j ⟨0 + d.val, by omega⟩)) (fun j d => x2 (ix2 j ⟨0 + d.val, by omega⟩))
      (fun i d => h0 i _) (fun i d => h1 i _) (fun r d => part_apply ..) (fun r d => part_apply ..)
      (fun c d => (part_apply ..).trans ?_) (fun r d => part_apply ..) (fun c d => (part_apply ..).trans ?_)
      r l ⟨l.val - 64, by omega⟩ (fun j => h2 j _ ?_)).trans ?_
    · simp only [Nat.zero_add]
    · simp only [Nat.zero_add]
    · show (0 + (l.val - 64)) % 128 < 64; omega
    · unfold blockOut
      simp only [e, Nat.sub_self, Nat.mul_zero, Nat.zero_add, e']

theorem firstPiece_apply (x0 x1 x2 : Vec Ideal S2048x256 .bf16) (h0 : Finite fun j d => x0 (ix2 j d))
    (h1 : Finite fun j d => x1 (ix2 j d)) (h2 : Ones x2) (r : Fin 256) (l : Fin 128) :
    firstPiece x0 x1 x2 (ix2 r l) = blockOut x0 x1 x2 ⟨0 + r.val, by omega⟩ l := by
  have hl := l.isLt
  by_cases h : l.val < 64
  · have e : l.val / 64 = 0 := by omega
    have e' : l.val % 64 = l.val := by omega
    unfold firstPiece
    rw [join_low _ _ _ _ h]
    refine (firstHead_value _ _ _ (fun j d => x0 (ix2 j ⟨128 + d.val, by omega⟩))
      (fun j d => x1 (ix2 j ⟨128 + d.val, by omega⟩)) (fun j d => x2 (ix2 j ⟨128 + d.val, by omega⟩))
      (fun i d => h0 i _) (fun i d => h1 i _) (fun r d => (part_apply ..).trans ?_) (fun r d => (part_apply ..).trans ?_)
      (fun r d => (part_apply ..).trans ?_)
      r ⟨l.val + 64, by omega⟩ l (fun j => h2 j _ ?_)).trans ?_
    · simp only [Nat.zero_add]
    · simp only [Nat.zero_add]
    · simp only [Nat.zero_add]
    · show (128 + l.val) % 128 < 64; omega
    · unfold blockOut
      simp only [e, e', Nat.sub_zero, Nat.mul_one, Nat.add_assoc, Nat.add_comm 64 l.val, Nat.zero_add]
  · have e : l.val / 64 = 1 := by omega
    have e' : 64 + l.val % 64 = l.val := by omega
    unfold firstPiece
    rw [join_high _ _ _ _ h]
    refine (firstHead_value _ _ _ (fun j d => x0 (ix2 j ⟨0 + d.val, by omega⟩))
      (fun j d => x1 (ix2 j ⟨0 + d.val, by omega⟩)) (fun j d => x2 (ix2 j ⟨0 + d.val, by omega⟩))
      (fun i d => h0 i _) (fun i d => h1 i _) (fun r d => (part_apply ..).trans ?_) (fun r d => (part_apply ..).trans ?_)
      (fun r d => (part_apply ..).trans ?_)
      r l ⟨l.val - 64, by omega⟩ (fun j => h2 j _ ?_)).trans ?_
    · simp only [Nat.zero_add]
    · simp only [Nat.zero_add]
    · simp only [Nat.zero_add]
    · show (0 + (l.val - 64)) % 128 < 64; omega
    · unfold blockOut
      simp only [e, Nat.sub_self, Nat.mul_zero, Nat.zero_add, e']

/-- Where a stored block of 256 rows from `n` on lands. -/
theorem emb_rows (n : ℕ) (h : n + 256 ≤ 2048) (inb : ∀ b : Fin 2, ![n, 0] b + ![256, 128] b ≤ S2048x128.size b)
    (r : Fin 256) (l : Fin 128) :
    (Rect.unit (s := S2048x128) ![n, 0] ![256, 128] inb).emb (ix2 r l) = ix2 ⟨n + r.val, by omega⟩ l := by
  funext b; apply Fin.ext
  match b with
  | ⟨0, _⟩ => show n + 1 * r.val = n + r.val; omega
  | ⟨1, _⟩ => show 0 + 1 * l.val = l.val; omega

theorem eta (x : S256x128.Idx) : ∃ (r : Fin 256) (l : Fin 128), x = ix2 r l := by
  refine ⟨x 0, x 1, ?_⟩
  funext b
  match b with
  | ⟨0, _⟩ => rfl
  | ⟨1, _⟩ => rfl

/-- The output block as one vector. -/
def blockFun (x0 x1 x2 : Vec Ideal S2048x256 .bf16) : Vec Ideal S2048x128 .bf16 := fun y => blockOut x0 x1 x2 (y 0) (y 1)

/-- The whole output block of a grid point. -/
theorem out_apply (x0 x1 x2 : Vec Ideal S2048x256 .bf16) (h0 : Finite fun j d => x0 (ix2 j d))
    (h1 : Finite fun j d => x1 (ix2 j d)) (h2 : Ones x2) (y : S2048x128.Idx) :
    out0_3 x0 x1 x2 y = blockOut x0 x1 x2 (y 0) (y 1) := by
  rw [out_eq]
  refine View.canon_apply_of_pieces (blockFun x0 x1 x2) _ ?_ y (cover0_3 _ _ _ _ _ _ _ _ y)
  have key : ∀ (n : ℕ) (hn : n + 256 ≤ 2048) (hr : (Mat 256 n).Reduces [1] S256) (hb : S256x1.Broadcasts (Mat 256 n))
      (inb : ∀ b : Fin 2, ![n, 0] b + ![256, 128] b ≤ S2048x128.size b) (x : S256x128.Idx),
      piece n hn hr hb x0 x1 x2 x
        = blockFun x0 x1 x2 ((Rect.unit (s := S2048x128) ![n, 0] ![256, 128] inb).emb x) := by
    intro n hn hr hb inb x
    obtain ⟨r, l, rfl⟩ := eta x
    exact (piece_apply n hn hr hb x0 x1 x2 h0 h1 h2 r l).trans (congrArg (blockFun x0 x1 x2) (emb_rows n hn inb r l)).symm
  have key0 : ∀ (inb : ∀ b : Fin 2, ![0, 0] b + ![256, 128] b ≤ S2048x128.size b) (x : S256x128.Idx),
      firstPiece x0 x1 x2 x
        = blockFun x0 x1 x2 ((Rect.unit (s := S2048x128) ![0, 0] ![256, 128] inb).emb x) := by
    intro inb x
    obtain ⟨r, l, rfl⟩ := eta x
    exact (firstPiece_apply x0 x1 x2 h0 h1 h2 r l).trans
      (congrArg (blockFun x0 x1 x2) (emb_rows 0 (by norm_num) inb r l)).symm
  intro p hp x
  simp only [List.mem_cons, List.not_mem_nil, or_false] at hp
  rcases hp with rfl | rfl | rfl | rfl | rfl | rfl | rfl | rfl
  · exact key0 (by decide) x
  · exact key 256 _ _ _ (by decide) x
  · exact key 512 _ _ _ (by decide) x
  · exact key 768 _ _ _ (by decide) x
  · exact key 1024 _ _ _ (by decide) x
  · exact key 1280 _ _ _ (by decide) x
  · exact key 1536 _ _ _ (by decide) x
  · exact key 1792 _ _ _ (by decide) x

end Cert.Attention

end
-- ==== Proof.Attention.Array.lean ====
/-
  The attention kernel's result array, entry by entry, of its three argument arrays.
-/
module

public import proofs.«01_k».proof.Proof.Attention.Out

@[expose] public section

set_option maxRecDepth 16384

noncomputable section

namespace Cert.Attention

open Idealize.ShloMosaic hiding ix0 ix1 ix2 ix3 ix4 ix5
open Idealize.ShloMosaic.ValueIdx Cert.KernelIdeal Cert.KernelIdeal.Gen Cert.KernelIdeal.Facts

/-- Causal attention of head `h` at row `R` of the batch entry `b`, value lane `e`. -/
def attention (q k v : Vec Ideal S32768x2048 .bf16) (b h : Fin 16) (R : Fin 2048) (e : Fin 64) : EReal :=
  headOut (fun j d => q (ix2 ⟨2048 * b.val + j.val, by omega⟩ ⟨128 * h.val + d.val, by omega⟩))
    (fun j d => k (ix2 ⟨2048 * b.val + j.val, by omega⟩ ⟨128 * h.val + d.val, by omega⟩))
    (fun j => v (ix2 ⟨2048 * b.val + j.val, by omega⟩ ⟨128 * h.val + 64 + e.val, by omega⟩)) R

/-- The result array: column `L` belongs to the pair of heads `L / 128`, the second head first. -/
def result (q k v : Vec Ideal S32768x2048 .bf16) : Vec Ideal S32768x1024 .bf16 := fun i =>
  attention q k v ⟨(i 0).val / 2048, by have : (i 0).val < 32768 := (i 0).isLt; omega⟩
    ⟨2 * ((i 1).val / 128) + (1 - (i 1).val % 128 / 64), by have : (i 1).val < 1024 := (i 1).isLt; omega⟩
    ⟨(i 0).val % 2048, Nat.mod_lt _ (by norm_num)⟩ ⟨(i 1).val % 64, Nat.mod_lt _ (by norm_num)⟩

/-- Where each window stands at a grid point. -/
theorem at_point : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8] :=
  (by decide +kernel : ∀ t : Fin grid0.N, win0_0.index t = ![t.val / 8, t.val % 8] ∧ win0_1.index t = ![t.val / 8, t.val % 8]
    ∧ win0_2.index t = ![t.val / 8, t.val % 8] ∧ win0_3.index t = ![t.val / 8, t.val % 8])

variable (m : (ℓ : Loc nD τ sig) → Buf (Elt Ideal) ℓ) (c : Dev nD)

theorem block0 (t : Fin cfg0.N) (ht : t.val < 128) (j : Fin 2048) (d : Fin 256) : iblk m c 0 t (ix2 j d)
    = m ((c.tc : Thread nD τ).loc main_arg0) (ix2 ⟨2048 * (t.val / 8) + j.val, by omega⟩ ⟨256 * (t.val % 8) + d.val, by omega⟩) := by
  rw [← V_main_arg0 m c]
  have e := (at_point t).1
  blk_simp [iblk]
  refine congrArg (V m c main_arg0) ?_
  funext a
  apply Fin.ext
  match a with
  | ⟨0, _⟩ => blk_simp [e]; show t.val / 8 * 2048 + j.val = 2048 * (t.val / 8) + j.val; omega
  | ⟨1, _⟩ => blk_simp [e]; show t.val % 8 * 256 + d.val = 256 * (t.val % 8) + d.val; omega

theorem block1 (t : Fin cfg0.N) (ht : t.val < 128) (j : Fin 2048) (d : Fin 256) : iblk m c 1 t (ix2 j d)
    = m ((c.tc : Thread nD τ).loc main_arg1) (ix2 ⟨2048 * (t.val / 8) + j.val, by omega⟩ ⟨256 * (t.val % 8) + d.val, by omega⟩) := by
  rw [← V_main_arg1 m c]
  have e := (at_point t).2.1
  blk_simp [iblk]
  refine congrArg (V m c main_arg1) ?_
  funext a
  apply Fin.ext
  match a with
  | ⟨0, _⟩ => blk_simp [e]; show t.val / 8 * 2048 + j.val = 2048 * (t.val / 8) + j.val; omega
  | ⟨1, _⟩ => blk_simp [e]; show t.val % 8 * 256 + d.val = 256 * (t.val % 8) + d.val; omega

theorem block2 (t : Fin cfg0.N) (ht : t.val < 128) (j : Fin 2048) (d : Fin 256) : iblk m c 2 t (ix2 j d)
    = m ((c.tc : Thread nD τ).loc main_arg2) (ix2 ⟨2048 * (t.val / 8) + j.val, by omega⟩ ⟨256 * (t.val % 8) + d.val, by omega⟩) := by
  rw [← V_main_arg2 m c]
  have e := (at_point t).2.2.1
  blk_simp [iblk]
  refine congrArg (V m c main_arg2) ?_
  funext a
  apply Fin.ext
  match a with
  | ⟨0, _⟩ => blk_simp [e]; show t.val / 8 * 2048 + j.val = 2048 * (t.val / 8) + j.val; omega
  | ⟨1, _⟩ => blk_simp [e]; show t.val % 8 * 256 + d.val = 256 * (t.val % 8) + d.val; omega

/-- The array the call leaves. -/
theorem array_eq (h0 : ∀ i, ∃ r : ℝ, m ((c.tc : Thread nD τ).loc main_arg0) i = ((r : EReal) : Elt Ideal .bf16))
    (h1 : ∀ i, ∃ r : ℝ, m ((c.tc : Thread nD τ).loc main_arg1) i = ((r : EReal) : Elt Ideal .bf16))
    (h2 : ∀ (j : Fin 32768) (d : Fin 2048), d.val % 128 < 64 → m ((c.tc : Thread nD τ).loc main_arg2) (ix2 j d) = (1 : EReal)) :
    (dats m 0 c).arrAt 3 cfg0.N = result (m ((c.tc : Thread nD τ).loc main_arg0)) (m ((c.tc : Thread nD τ).loc main_arg1))
      (m ((c.tc : Thread nD τ).loc main_arg2)) := by
  refine (dats m 0 c).arrAt_eq_of_covers 3 _ (by decide +kernel) fun t hf y => ?_
  have ht : t.val < 128 := lt_of_lt_of_eq t.isLt N_0
  have e := (at_point t).2.2.2
  blk_simp
  rw [after0_3]
  refine (out_apply _ _ _ ?_ ?_ ?_ y).trans ?_
  · intro j d
    obtain ⟨r, hr⟩ := h0 (ix2 ⟨2048 * (t.val / 8) + j.val, by omega⟩ ⟨256 * (t.val % 8) + d.val, by omega⟩)
    exact ⟨r, (block0 m c t ht j d).trans hr⟩
  · intro j d
    obtain ⟨r, hr⟩ := h1 (ix2 ⟨2048 * (t.val / 8) + j.val, by omega⟩ ⟨256 * (t.val % 8) + d.val, by omega⟩)
    exact ⟨r, (block1 m c t ht j d).trans hr⟩
  · intro j d hd
    refine (block2 m c t ht j d).trans (h2 _ _ ?_)
    show (256 * (t.val % 8) + d.val) % 128 < 64
    omega
  · have hy0 : (y 0).val < 2048 := (y 0).isLt
    have hy1 : (y 1).val < 128 := (y 1).isLt
    have e0 : (((cfg0.win 3).blk t).view.emb y 0).val = t.val / 8 * 2048 + (y 0).val := by
      blk_simp [e]
    have e1 : (((cfg0.win 3).blk t).view.emb y 1).val = t.val % 8 * 128 + (y 1).val := by
      blk_simp [e]
    unfold result attention blockOut
    have a0 : (t.val / 8 * 2048 + (y 0).val) / 2048 = t.val / 8 := by omega
    have a1 : (t.val / 8 * 2048 + (y 0).val) % 2048 = (y 0).val := by omega
    have a2 : 128 * (2 * ((t.val % 8 * 128 + (y 1).val) / 128) + (1 - (t.val % 8 * 128 + (y 1).val) % 128 / 64))
        = 256 * (t.val % 8) + 128 * (1 - (y 1).val / 64) := by omega
    have a3 : (t.val % 8 * 128 + (y 1).val) % 64 = (y 1).val % 64 := by omega
    simp only [e0, e1, a0, a1, a2, a3, block0 m c t ht, block1 m c t ht, block2 m c t ht, Nat.add_assoc]
    rfl

end Cert.Attention

end
-- ==== Proof.Attention.Reference.lean ====
/-
  The plain softmax attention, entry by entry.
-/
module

public import proofs.«01_k».proof.Proof.Attention.Array
public import proofs.«01_k».proof.Proof.Gen.ReferenceIdeal.Read

@[expose] public section

set_option maxRecDepth 16384

noncomputable section

namespace Cert.Attention

open Idealize.ShloMosaic hiding ix0 ix1 ix2 ix3 ix4 ix5
open Idealize.ShloMosaic.ValueIdx Cert.ReferenceIdeal Cert.ReferenceIdeal.Gen Cert.ReferenceIdeal.Read

/-- Head `h` of batch entry `b` in an array of 128 lanes per head. -/
def lanes (x : FVec Ideal S32768x2048 .bf16) (b h : Fin 16) : Fin 2048 → Fin 128 → EReal :=
  fun j d => x (ix2 ⟨2048 * b.val + j.val, by omega⟩ ⟨128 * h.val + d.val, by omega⟩)

variable (q k v : FVec Ideal S32768x2048 .bf16)

theorem queries_apply (b : Fin 16) (R : Fin 2048) (h : Fin 16) (d : Fin 128) :
    val_main_v1 (F := Ideal) q (ix4 b R h d) = lanes q b h R d := by
  rw [val_main_v1_apply]
  refine congrArg q ?_
  funext a
  apply Fin.ext
  match a with
  | ⟨0, _⟩ => show (((b.val * 2048 + R.val) * 16 + h.val) * 128 + d.val) / 2048 = 2048 * b.val + R.val; omega
  | ⟨1, _⟩ => show (((b.val * 2048 + R.val) * 16 + h.val) * 128 + d.val) % 2048 = 128 * h.val + d.val; omega

theorem keys_apply (b : Fin 16) (R : Fin 2048) (h : Fin 16) (d : Fin 128) :
    val_main_v3 (F := Ideal) k (ix4 b R h d) = lanes k b h R d := by
  rw [val_main_v3_apply]
  refine congrArg k ?_
  funext a
  apply Fin.ext
  match a with
  | ⟨0, _⟩ => show (((b.val * 2048 + R.val) * 16 + h.val) * 128 + d.val) / 2048 = 2048 * b.val + R.val; omega
  | ⟨1, _⟩ => show (((b.val * 2048 + R.val) * 16 + h.val) * 128 + d.val) % 2048 = 128 * h.val + d.val; omega

theorem values_apply (b : Fin 16) (R : Fin 2048) (h : Fin 16) (e : Fin 64) :
    val_main_v6 (F := Ideal) v (ix4 b R h e) = lanes v b h R ⟨64 + e.val, by omega⟩ := by
  rw [val_main_v6_apply, val_main_v5_apply]
  refine congrArg v ?_
  funext a
  apply Fin.ext
  match a with
  | ⟨0, _⟩ => show (((b.val * 2048 + R.val) * 16 + h.val) * 128 + (64 + e.val)) / 2048 = 2048 * b.val + R.val; omega
  | ⟨1, _⟩ => show (((b.val * 2048 + R.val) * 16 + h.val) * 128 + (64 + e.val)) % 2048 = 128 * h.val + (64 + e.val); omega

theorem product_apply (b h : Fin 16) (R j : Fin 2048) :
    val_main_v7 (F := Ideal) q k (ix4 b h R j) = ∑ d, lanes q b h R d * lanes k b h j d := by
  rw [val_main_v7_apply]
  refine Finset.sum_congr rfl fun d _ => ?_
  rw [← queries_apply, ← keys_apply]
  refine congrArg₂ (· * ·) (congrArg _ ?_) (congrArg _ ?_)
  · funext a; match a with
    | ⟨0, _⟩ => rfl
    | ⟨1, _⟩ => rfl
    | ⟨2, _⟩ => rfl
    | ⟨3, _⟩ => rfl
  · funext a; match a with
    | ⟨0, _⟩ => rfl
    | ⟨1, _⟩ => rfl
    | ⟨2, _⟩ => rfl
    | ⟨3, _⟩ => rfl

theorem two_word : Ideal.ofBits .f32 0x40000000#32 = ((2 : ℝ) : EReal) := by
  simp [Ideal.ofBits, Ideal.ieee]
  rw [← EReal.coe_mul]
  congr 1
  norm_num

theorem factor_apply (i : S16x16x2048x2048.Idx) :
    val_main_v10 (F := Ideal) i = ((Real.log 2 : ℝ) : EReal) := by
  rw [val_main_v10_apply]
  show Ideal.log (Ideal.ofBits .f32 0x40000000#32) = _
  rw [two_word, Ideal.log_coe, if_neg (by norm_num)]

theorem causal_apply (b h : Fin 16) (R j : Fin 2048) :
    val_main_call0_v1 (F := Ideal) (ix4 b h R j) = if j.val ≤ R.val then 1#1 else 0#1 := by
  rw [val_main_call0_v1_apply, val_main_v17_apply, val_main_v15_apply, val_main_v16_apply, val_main_v13_apply,
    val_main_v14_apply]
  show IntOp.cmpi .sle (BitVec.ofNat 32 j.val) (BitVec.ofNat 32 R.val) = _
  have hj := j.isLt; have hR := R.isLt
  rw [WordCmp.cmpi_sle_ofNat (by norm_num; omega) (by norm_num; omega)]
  by_cases h : j.val ≤ R.val
  · rw [if_pos h, decide_eq_true h]; rfl
  · rw [if_neg h, decide_eq_false h]; rfl

/-- The masked scores of the softmax are those of the kernel, times ln 2. -/
theorem scores_apply (b h : Fin 16) (R j : Fin 2048) : val_main_v18 (F := Ideal) q k (ix4 b h R j)
    = if maskedScore (lanes q b h) (lanes k b h) R j = ⊥ then ⊥
      else maskedScore (lanes q b h) (lanes k b h) R j * ((Real.log 2 : ℝ) : EReal) := by
  rw [val_main_v18_apply, causal_apply, val_main_v11_apply, factor_apply, product_apply]
  unfold maskedScore
  by_cases hj : j.val ≤ R.val
  · rw [if_pos hj, if_pos hj]
    have hl : (0 : ℝ) < Real.log 2 := Real.log_pos (by norm_num)
    show _ * _ = _
    split
    · rename_i hb
      rw [hb, EReal.bot_mul_coe_of_pos hl]
    · rfl
  · rw [if_neg hj, if_neg hj, if_pos rfl]
    show val_main_call0_v2 (F := Ideal) (ix4 b h R j) = ⊥
    rw [val_main_call0_v2_apply]
    exact bot_word

/-- The row maximum. -/
theorem maximum_apply (b h : Fin 16) (R : Fin 2048) : val_main_v19 (F := Ideal) q k (ix3 b h R)
    = (Finset.univ : Finset (Fin 2048)).fold max ⊥ fun j => val_main_v18 (F := Ideal) q k (ix4 b h R j) := by
  unfold val_main_v19 val_main_cst_1
  generalize val_main_v18 (F := Ideal) q k = s
  have hr : S16x16x2048x2048.Reduces [3] S16x16x2048 := by decide
  have e := hostReduce_maximumf_eq_multiReduction (F := Ideal) (φ := .f32) s 0xFF800000#32
    reducesTo_S16x16x2048x2048_S16x16x2048_d3 h_S_ hr (.inl rfl) rfl
  refine (congrFun e (ix3 b h R)).trans ?_
  refine (Ideal.multiReduction_maximumf_single (a := 3) s _ hr _ _ (ix3 b h R)).trans ?_
  show Finset.fold max (Ideal.ofBits .f32 0xFF800000#32) _ _ = _
  rw [bot_word]
  refine Finset.fold_congr fun c _ => congrArg s ?_
  funext a; apply Fin.ext
  match a with
  | ⟨0, _⟩ => rfl
  | ⟨1, _⟩ => rfl
  | ⟨2, _⟩ => rfl
  | ⟨3, _⟩ => rfl

theorem shift_apply (b h : Fin 16) (R j : Fin 2048) : val_main_v23 (F := Ideal) q k (ix4 b h R j)
    = max ⊥ (val_main_v19 (F := Ideal) q k (ix3 b h R)) := by
  rw [val_main_v23_apply, val_main_v22_apply, val_main_v21_apply, val_main_v20_apply]
  refine congrArg₂ max bot_word (congrArg _ ?_)
  funext a; match a with
  | ⟨0, _⟩ => rfl
  | ⟨1, _⟩ => rfl
  | ⟨2, _⟩ => rfl

/-- The softmax's exponentials: the kernel's weights times one positive factor per row. -/
theorem exponentials (hq : ∀ i, ∃ r : ℝ, q i = ((r : EReal) : Elt Ideal .bf16))
    (hk : ∀ i, ∃ r : ℝ, k i = ((r : EReal) : Elt Ideal .bf16)) (b h : Fin 16) (R : Fin 2048) :
    ∃ C : ℝ, 0 < C ∧ ∀ j, val_main_v25 (F := Ideal) q k (ix4 b h R j)
      = ((weight (maskedScore (lanes q b h) (lanes k b h) R j) * C : ℝ) : EReal) := by
  have fq : Finite (lanes q b h) := fun i d => hq _
  have fk : Finite (lanes k b h) := fun i d => hk _
  have score : ∀ j, Score (val_main_v18 (F := Ideal) q k (ix4 b h R j)) := fun j => by
    rw [scores_apply]
    rcases maskedScore_score fq fk R j with e | ⟨r, e⟩
    · rw [if_pos e]; exact Or.inl rfl
    · rw [e, if_neg (EReal.coe_ne_bot r), ← EReal.coe_mul]; exact Or.inr ⟨_, rfl⟩
  obtain ⟨r₀, h₀⟩ := maskedScore_own fq fk R
  have own : val_main_v18 (F := Ideal) q k (ix4 b h R R) = ((r₀ * Real.log 2 : ℝ) : EReal) := by
    rw [scores_apply, h₀, if_neg (EReal.coe_ne_bot r₀), ← EReal.coe_mul]
  obtain ⟨M, hM⟩ : ∃ M : ℝ, val_main_v19 (F := Ideal) q k (ix3 b h R) = (M : EReal) := by
    rw [maximum_apply]
    refine real_of_le (score_fold _ _ score) (r₀ * Real.log 2) ?_
    rw [← own]
    exact le_fold Finset.univ (fun j => val_main_v18 (F := Ideal) q k (ix4 b h R j)) R (Finset.mem_univ _)
  refine ⟨Real.exp (-M), Real.exp_pos _, fun j => ?_⟩
  rw [val_main_v25_apply, val_main_v24_apply, shift_apply, hM, max_eq_right bot_le]
  exact exp_sub (maskedScore_score fq fk R j) (scores_apply q k b h R j) M

theorem total_apply (b h : Fin 16) (R j : Fin 2048) : val_main_v28 (F := Ideal) q k (ix4 b h R j)
    = ∑ i, val_main_v25 (F := Ideal) q k (ix4 b h R i) := by
  rw [val_main_v28_apply, val_main_v27_apply, val_main_v26_apply]
  show Ideal.ofBits .f32 0x00000000#32 + _ = _
  rw [Ideal.ofBits_zero_f32, zero_add]
  refine Finset.sum_congr rfl fun i _ => congrArg _ ?_
  funext a; match a with
  | ⟨0, _⟩ => rfl
  | ⟨1, _⟩ => rfl
  | ⟨2, _⟩ => rfl
  | ⟨3, _⟩ => rfl

/-- The softmax times the values. -/
theorem mixed_apply (hq : ∀ i, ∃ r : ℝ, q i = ((r : EReal) : Elt Ideal .bf16))
    (hk : ∀ i, ∃ r : ℝ, k i = ((r : EReal) : Elt Ideal .bf16)) (b h : Fin 16) (e : Fin 64) (R : Fin 2048) :
    val_main_v30 (F := Ideal) q k v (ix4 b h e R)
      = headOut (lanes q b h) (lanes k b h) (fun j => lanes v b h j ⟨64 + e.val, by omega⟩) R := by
  obtain ⟨C, hC, hE⟩ := exponentials q k hq hk b h R
  obtain ⟨r₀, h₀⟩ := maskedScore_own (q := lanes q b h) (k := lanes k b h) (fun i d => hq _) (fun i d => hk _) R
  rw [val_main_v30_apply]
  unfold headOut
  rw [← softmax_attend _ _ (fun j => val_main_v25 (F := Ideal) q k (ix4 b h R j)) R r₀ h₀ C hC hE]
  refine Finset.sum_congr rfl fun j _ => ?_
  rw [← values_apply, ← total_apply q k b h R j]
  refine congrArg₂ (· * ·) (congrArg _ ?_) ?_
  · funext a; match a with
    | ⟨0, _⟩ => rfl
    | ⟨1, _⟩ => rfl
    | ⟨2, _⟩ => rfl
    | ⟨3, _⟩ => rfl
  · have ei : ridx_main_v30 (ix4 b h e R) j = ix4 b h R j := by
      funext a; match a with
      | ⟨0, _⟩ => rfl
      | ⟨1, _⟩ => rfl
      | ⟨2, _⟩ => rfl
      | ⟨3, _⟩ => rfl
    rw [ei]
    rfl

theorem flat (r w t x : ℕ) (hw : w < 8) (ht : t < 2) (hx : x < 64) :
    (((r * 8 + w) * 2 + t) * 64 + x) / 1024 % 2048 = r % 2048 := by
  have e : (((r * 8 + w) * 2 + t) * 64 + x) / 1024 = r := by omega
  rw [e]

/-- The reference's result is the kernel's. -/
theorem reference_eq (hq : ∀ i, ∃ r : ℝ, q i = ((r : EReal) : Elt Ideal .bf16))
    (hk : ∀ i, ∃ r : ℝ, k i = ((r : EReal) : Elt Ideal .bf16)) :
    val_main_v35 (F := Ideal) q k v = result q k v := by
  funext i
  have h0 : (i 0).val < 32768 := (i 0).isLt
  have h1 : (i 1).val < 1024 := (i 1).isLt
  rw [val_main_v35_apply, val_main_v34_apply]
  unfold val_main_v33
  rw [Host.reverse_apply, val_main_v32_apply, val_main_v31_apply]
  have ei : ∀ y : S16x16x64x2048.Idx, y = ix4 ⟨(i 0).val / 2048, by omega⟩
      ⟨2 * ((i 1).val / 128) + (1 - (i 1).val % 128 / 64), by omega⟩ ⟨(i 1).val % 64, by omega⟩ ⟨(i 0).val % 2048, by omega⟩ →
      val_main_v30 (F := Ideal) q k v y = result q k v i := fun y hy => by
    rw [hy, mixed_apply q k v hq hk]
    unfold result attention lanes
    simp only [Nat.add_assoc]
  refine ei _ ?_
  have n0 : ((i 0).val * 1024 + (i 1).val) / 2097152 = (i 0).val / 2048 := by omega
  have n1 : ((i 0).val * 1024 + (i 1).val) / 1024 % 2048 = (i 0).val % 2048 := by omega
  have n2 : ((i 0).val * 1024 + (i 1).val) / 128 % 8 = (i 1).val / 128 := by omega
  have n3 : ((i 0).val * 1024 + (i 1).val) / 64 % 2 = (i 1).val % 128 / 64 := by omega
  have n4 : ((i 0).val * 1024 + (i 1).val) % 64 = (i 1).val % 64 := by omega
  have n5 : (i 0).val / 2048 * 2048 + (i 0).val % 2048 = (i 0).val := by omega
  funext a
  apply Fin.ext
  match a with
  | ⟨0, _⟩ =>
    show (((((((i 0).val * 1024 + (i 1).val) / 2097152) * 2048 + ((i 0).val * 1024 + (i 1).val) / 1024 % 2048) * 8
      + ((i 0).val * 1024 + (i 1).val) / 128 % 8) * 2 + (2 - (((i 0).val * 1024 + (i 1).val) / 64 % 2 + 1))) * 64
      + ((i 0).val * 1024 + (i 1).val) % 64) / 2097152 = (i 0).val / 2048
    rw [n0, n1, n2, n3, n4, n5]; omega
  | ⟨1, _⟩ =>
    show (((((((i 0).val * 1024 + (i 1).val) / 2097152) * 2048 + ((i 0).val * 1024 + (i 1).val) / 1024 % 2048) * 8
      + ((i 0).val * 1024 + (i 1).val) / 128 % 8) * 2 + (2 - (((i 0).val * 1024 + (i 1).val) / 64 % 2 + 1))) * 64
      + ((i 0).val * 1024 + (i 1).val) % 64) / 64 % 16 = 2 * ((i 1).val / 128) + (1 - (i 1).val % 128 / 64)
    rw [n0, n1, n2, n3, n4, n5]; omega
  | ⟨2, _⟩ =>
    show (((((((i 0).val * 1024 + (i 1).val) / 2097152) * 2048 + ((i 0).val * 1024 + (i 1).val) / 1024 % 2048) * 8
      + ((i 0).val * 1024 + (i 1).val) / 128 % 8) * 2 + (2 - (((i 0).val * 1024 + (i 1).val) / 64 % 2 + 1))) * 64
      + ((i 0).val * 1024 + (i 1).val) % 64) % 64 = (i 1).val % 64
    rw [n0, n1, n2, n3, n4, n5]; omega
  | ⟨3, _⟩ =>
    show (((((((i 0).val * 1024 + (i 1).val) / 2097152) * 2048 + ((i 0).val * 1024 + (i 1).val) / 1024 % 2048) * 8
      + ((i 0).val * 1024 + (i 1).val) / 128 % 8) * 2 + (2 - (((i 0).val * 1024 + (i 1).val) / 64 % 2 + 1))) * 64
      + ((i 0).val * 1024 + (i 1).val) % 64) / 1024 % 2048 = (i 0).val % 2048
    rw [n0, n1, n2, n3, n4, n5]; exact flat _ _ _ _ (by omega) (by omega) (by omega)

end Cert.Attention

end
-- ==== Proof.Attention.Inputs.lean ====
/-
  What the precondition says: finite queries and keys, ones before the values.
-/
module

public import proofs.«01_k».proof.Proof.Attention.Unit
public import proofs.«01_k».proof.Proof.Gen.Pre_attention_inputs
public import Idealize.ShloMosaic.PureOps.Ideal.Laws

@[expose] public section

set_option maxRecDepth 16384

noncomputable section

namespace Cert.Attention

open Idealize.ShloMosaic hiding ix0 ix1 ix2 ix3 ix4 ix5
open Idealize.ShloMosaic.ValueIdx Cert.Pre_attention_inputs

theorem top_word : Ideal.ofBits .f32 0x7F800000#32 = (⊤ : EReal) := by simp [Ideal.ofBits, Ideal.ieee]

theorem one_word : Ideal.ofBits .f32 0x3F800000#32 = (1 : EReal) := by
  simp [Ideal.ofBits, Ideal.ieee]
  rw [← EReal.coe_mul, ← EReal.coe_one]
  congr 1
  norm_num

theorem finite_of_lt {x : EReal} (h : max x (-x) < ⊤) : ∃ r : ℝ, x = (r : EReal) := by
  induction x using EReal.rec with
  | bot => simp at h
  | coe r => exact ⟨r, rfl⟩
  | top => simp at h

theorem ofBool_one {b : Prop} [Decidable b] (h : BitVec.ofBool (decide b) = 1#1) : b := by
  by_contra hb
  rw [decide_eq_false hb] at h
  exact absurd h (by decide)

variable [Facts] (q k v : FVec Ideal S32768x2048 .bf16)

theorem finite_queries (h : (fn (F := Ideal) q k v).1 = fun _ => 1#1) (i : S32768x2048.Idx) : ∃ r : ℝ, q i = ((r : EReal) : Elt Ideal .bf16) := by
  have e : BitVec.ofBool (decide (max (q i) (-(q i)) < Ideal.ofBits .f32 0x7F800000#32)) = 1#1 := congrFun h i
  have e' := ofBool_one e
  rw [top_word] at e'
  exact finite_of_lt e'

theorem finite_keys (h : (fn (F := Ideal) q k v).2.1 = fun _ => 1#1) (i : S32768x2048.Idx) : ∃ r : ℝ, k i = ((r : EReal) : Elt Ideal .bf16) := by
  have e : BitVec.ofBool (decide (max (k i) (-(k i)) < Ideal.ofBits .f32 0x7F800000#32)) = 1#1 := congrFun h i
  have e' := ofBool_one e
  rw [top_word] at e'
  exact finite_of_lt e'

theorem ones (h : (fn (F := Ideal) q k v).2.2 = fun _ => 1#1) (j : Fin 32768) (d : Fin 2048) (hd : d.val % 128 < 64) :
    v (ix2 j d) = (1 : EReal) := by
  have e : BitVec.ofBool (decide (extractStridedSlice S32768x16x64 ![0, 0, 0]
      (shapeCast S32768x16x128 (extf .f32 v Facts.bitsLt_bf16_f32) Facts.shapeCasts_S32768x2048_S32768x16x128)
      Facts.slices_S32768x16x128_S32768x16x64_0_0_0 (ix3 j ⟨d.val / 128, by omega⟩ ⟨d.val % 128, hd⟩)
        = Ideal.ofBits .f32 0x3F800000#32)) = 1#1 := congrFun h (ix3 j ⟨d.val / 128, by omega⟩ ⟨d.val % 128, hd⟩)
  have e' := ofBool_one e
  rw [one_word, extractStridedSlice_apply ![0, 0, 0] _ Facts.slices_S32768x16x128_S32768x16x64_0_0_0 _
    (ix3 j ⟨d.val / 128, by omega⟩ ⟨d.val % 128, by omega⟩) (fun a => match a with
      | ⟨0, _⟩ => (Nat.zero_add _).symm
      | ⟨1, _⟩ => (Nat.zero_add _).symm
      | ⟨2, _⟩ => (Nat.zero_add _).symm),
    shapeCast_apply _ _ _ (ix2 j d) (by
      rw [Shape.rowMajor_val_two, Shape.rowMajor_val_three]
      show j.val * 2048 + d.val = (j.val * 16 + d.val / 128) * 128 + d.val % 128
      omega)] at e'
  exact e'

end Cert.Attention

end
-- ==== Proof.Attention.Claims.lean ====
/-
  The claims about the attention call.
-/
module

public import proofs.«01_k».proof.Defs
public import proofs.«01_k».proof.Proof.Attention.Reference
public import proofs.«01_k».proof.Proof.Attention.Inputs
public import proofs.«01_k».proof.Proof.Gen.Kernel.Frame
public import proofs.«01_k».proof.Proof.Gen.KernelIdeal.Value
public import proofs.«01_k».proof.Proof.Gen.ReferenceIdeal.Run

@[expose] public section

set_option maxRecDepth 16384

noncomputable section

namespace Cert.Attention

open Idealize.ShloMosaic Idealize.SL.Sem

theorem kernel_frame : quiescent_Kernel := fun m g _ => Cert.Kernel.Gen.frame m g

theorem ideal_frame : quiescent_KernelIdeal := fun m g _ => Cert.KernelIdeal.Gen.frame m g

theorem ideal_frame_pre : quiescent_KernelIdeal_pre_attention_inputs := fun m g _ => Cert.KernelIdeal.Gen.frame m g

theorem reference_frame : quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem reference_frame_pre : quiescent_ReferenceIdeal_pre_attention_inputs := fun m g _ => reference_frame m g trivial

/-- The kernel's array is the reference's, element by element. -/
theorem algebraic : algebraic_KernelIdeal_ReferenceIdeal_pre_attention_inputs := by
  intro m g m' g' hpre hm
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run _ _ _).mono (fun r h c => ?_) (Cert.KernelIdeal.Value.run_blocks m g)
    refine ⟨(h c).1.trans ?_, (h c).2⟩
    exact array_eq m c (finite_queries _ _ _ (hpre c).1) (finite_keys _ _ _ (hpre c).2.1) (ones _ _ _ (hpre c).2.2)
  · refine (θ_run _ _ _).mono (fun r h c => ?_) (Cert.ReferenceIdeal.Value.run m' g')
    refine ⟨(h c).1.trans ?_, (h c).2⟩
    rw [Cert.ReferenceIdeal.Read.val_main_v35_eq, (hm c).1, (hm c).2.1, (hm c).2.2]
    exact reference_eq _ _ _ (finite_queries _ _ _ (hpre c).1) (finite_keys _ _ _ (hpre c).2.1)

end Cert.Attention

end
-- ==== Proof.Layer.Rows.lean ====
/-
  What several calls of the layer share: a matrix product, the root mean square norm and the gated unit, each as a
  vector expression of a kernel body and as a function of one row.
-/
module

public import Idealize.ShloMosaic.PureOps.Ideal.Laws
public import Idealize.ShloMosaic.Lib.Pointwise
public import Idealize.ShloMosaic.Lib.MatmulPlain
public import Idealize.ShloMosaic.Lib.KernelVsHost

@[expose] public section

set_option maxRecDepth 16384

noncomputable section

namespace Cert.Layer

open Idealize.ShloMosaic hiding ix0 ix1 ix2 ix3 ix4 ix5
open Idealize.ShloMosaic.ValueIdx

/-- A matrix of `a` rows and `b` columns. -/
abbrev Mat (a b : ℕ) : Shape := ⟨2, ![a, b]⟩

theorem eta {a b : ℕ} (x : (Mat a b).Idx) : ∃ (r : Fin a) (l : Fin b), x = ix2 r l :=
  ⟨x 0, x 1, by funext d; match d with | ⟨0, _⟩ => rfl | ⟨1, _⟩ => rfl⟩

/-- Row `r` of a matrix. -/
def row {a b : ℕ} (x : (Mat a b).Idx → EReal) (r : Fin a) : Fin b → EReal := fun l => x (ix2 r l)

/-- A row divided by the root of its mean square (plus 1e-6), times the gains; `n` is the number of its entries. -/
def rms {D : ℕ} (n : EReal) (x g : Fin D → EReal) (l : Fin D) : EReal :=
  x l * Ideal.rsqrt (Ideal.div (∑ k, x k * x k) n + Ideal.ofBits .f32 0x358637BD#32) * g l

/-- A row times a matrix. -/
def times {K N : ℕ} (x : Fin K → EReal) (w : Fin K → Fin N → EReal) (n : Fin N) : EReal := ∑ k, x k * w k n

/-- The norm of every row of a matrix, as a kernel body has it; `word` holds the number of columns. -/
def rmsVec (R D : ℕ) (word : BitVec 32) (hr : (Mat R D).Reduces [1] ⟨1, ![R]⟩) (hs : (⟨1, ![R]⟩ : Shape).ShapeCasts (Mat R 1))
    (hx : (Mat R 1).Broadcasts (Mat R D)) (hg : (Mat 1 D).Broadcasts (Mat R D))
    (x : FVec Ideal (Mat R D) .f32) (g : FVec Ideal (Mat 1 D) .f32) : FVec Ideal (Mat R D) .f32 :=
  mulf (mulf x (broadcastTo (Mat R D) (rsqrt (addf
    (divf (shapeCast (Mat R 1) (multiReduction .add [1] ⟨1, ![R]⟩ (mulf x x) 0x00000000#32 hr (.inl rfl) rfl) hs)
      (broadcast (Mat R 1) (Scalar.ofBits .f32 word)))
    (broadcast (Mat R 1) (Scalar.ofBits .f32 0x358637BD#32)))) hx)) (broadcastTo (Mat R D) g hg)

theorem rmsVec_apply (R D : ℕ) (hD : D ≠ 1) (word : BitVec 32) (hr : (Mat R D).Reduces [1] ⟨1, ![R]⟩)
    (hs : (⟨1, ![R]⟩ : Shape).ShapeCasts (Mat R 1)) (hx : (Mat R 1).Broadcasts (Mat R D)) (hg : (Mat 1 D).Broadcasts (Mat R D))
    (x : FVec Ideal (Mat R D) .f32) (g : FVec Ideal (Mat 1 D) .f32) (r : Fin R) (l : Fin D) :
    rmsVec R D word hr hs hx hg x g (ix2 r l) = rms (Ideal.ofBits .f32 word) (row x r) (row g 0) l := by
  show x (ix2 r l) * broadcastTo (Mat R D) _ hx (ix2 r l) * broadcastTo (Mat R D) g hg (ix2 r l) = _
  rw [broadcastTo_apply _ hx (ix2 r l) (ix2 r 0) (fun a => ?_), broadcastTo_apply g hg (ix2 r l) (ix2 0 l) (fun a => ?_)]
  · show _ * Ideal.rsqrt (Ideal.div (shapeCast (Mat R 1) _ hs (ix2 r 0)) _ + _) * _ = _
    rw [shapeCast_apply _ hs (ix2 r 0) (ix1 r) (by rw [Shape.rowMajor_val_two, Shape.rowMajor_val_one]; show r.val = r.val * 1 + 0; omega)]
    refine (congrArg (fun s => x (ix2 r l) * Ideal.rsqrt (Ideal.div s _ + _) * g (ix2 0 l))
      (Ideal.multiReduction_add_single (a := 1) (mulf x x) 0x00000000#32 hr (.inl rfl) rfl (ix1 r))).trans ?_
    refine congrArg (fun s => x (ix2 r l) * Ideal.rsqrt (Ideal.div s _ + _) * g (ix2 0 l)) (Finset.sum_congr rfl fun k _ => ?_)
    have e : hr.lift (ix1 r) k = ix2 r k := by
      funext a; apply Fin.ext
      match a with
      | ⟨0, _⟩ => rfl
      | ⟨1, _⟩ => rfl
    rw [e]
    rfl
  · match a with
    | ⟨0, _⟩ => rfl
    | ⟨1, _⟩ => show l.val = if D = 1 then 0 else l.val; rw [if_neg hD]
  · match a with
    | ⟨0, _⟩ =>
      show r.val = if R = 1 then 0 else r.val
      have := r.isLt
      split <;> omega
    | ⟨1, _⟩ => rfl

/-- A product of two matrices, as a kernel body has it. -/
def dense (R K N : ℕ) {φ ψ : FTy} (x : FVec Ideal (Mat R K) φ) (w : FVec Ideal (Mat K N) ψ) : FVec Ideal (Mat R N) .f32 :=
  matmul (DotDims.plain R K N) none x w (constant (Mat R N) .f32 0x00000000#32)

theorem dense_apply (R K N : ℕ) {φ ψ : FTy} (x : FVec Ideal (Mat R K) φ) (w : FVec Ideal (Mat K N) ψ) (r : Fin R) (n : Fin N) :
    dense R K N x w (ix2 r n) = times (row x r) (fun k => row w k) n := by
  refine (Ideal.matmul_plain_apply none x w _ r n).trans ?_
  show Ideal.ofBits .f32 0x00000000#32 + _ = _
  rw [Ideal.ofBits_zero_f32, zero_add]
  rfl

/-- The gated unit: the first product times its sigmoid, times the second. -/
def gated {K N : ℕ} (x : Fin K → EReal) (wg wu : Fin K → Fin N → EReal) (n : Fin N) : EReal :=
  times x wg n * Ideal.logistic (times x wg n) * times x wu n

/-- The gated unit of every row, as a kernel body has it. -/
def gatedVec (R K N : ℕ) (x : FVec Ideal (Mat R K) .bf16) (wg wu : FVec Ideal (Mat K N) .bf16) : FVec Ideal (Mat R N) .bf16 :=
  truncf .bf16 (mulf (mulf (dense R K N x wg) (logistic (dense R K N x wg))) (dense R K N x wu)) (by decide)

theorem gatedVec_apply (R K N : ℕ) (x : FVec Ideal (Mat R K) .bf16) (wg wu : FVec Ideal (Mat K N) .bf16) (r : Fin R) (n : Fin N) :
    gatedVec R K N x wg wu (ix2 r n) = gated (row x r) (fun k => row wg k) (fun k => row wu k) n := by
  show dense R K N x wg (ix2 r n) * Ideal.logistic (dense R K N x wg (ix2 r n)) * dense R K N x wu (ix2 r n) = _
  rw [dense_apply, dense_apply]
  rfl

/-- A cast to the same shape changes nothing. -/
theorem shapeCast_same {s : Shape} {α : Type} (v : s.Idx → α) (h : s.ShapeCasts s) : shapeCast s v h = v :=
  funext fun i => shapeCast_apply v h i i rfl

end Cert.Layer

end
-- ==== Proof.FeedForward.Block.lean ====
/-
  One grid point of the feed-forward kernel: the 22 blocks of the hidden activations and the two halves of the output.
-/
module

public import proofs.«01_k».proof.Proof.Layer.Rows
public import proofs.«01_k».proof.Proof.Gen.Kernel2Ideal.Value
public import Idealize.ShloMosaic.Lib.Pipeline.ValueKit

@[expose] public section

set_option maxRecDepth 16384

noncomputable section

namespace Cert.FeedForward

open Idealize.ShloMosaic hiding ix0 ix1 ix2 ix3 ix4 ix5
open Idealize.ShloMosaic.ValueIdx Cert.Layer Cert.Kernel2Ideal Cert.Kernel2Ideal.Gen Cert.Kernel2Ideal.Facts

/-- The number of columns, 1024. -/
abbrev width : EReal := Ideal.ofBits .f32 0x44800000#32

/-- The hidden activations of one row. -/
def hidden (x pre : Fin 1024 → EReal) (wg wu : Fin 1024 → Fin 2816 → EReal) : Fin 2816 → EReal :=
  gated (rms width x pre) wg wu

/-- One row of the result. -/
def feed (x pre : Fin 1024 → EReal) (wg wu : Fin 1024 → Fin 2816 → EReal) (wd : Fin 2816 → Fin 1024 → EReal)
    (post : Fin 1024 → EReal) (l : Fin 1024) : EReal :=
  x l + Ideal.ofBits .f32 0x3F000000#32 * rms width (times (hidden x pre wg wu) wd) post l

/-- The norm of 512 rows, as the body has it. -/
def norm (x : FVec Ideal S512x1024 .f32) (g : FVec Ideal S1x1024 .f32) : FVec Ideal S512x1024 .f32 :=
  rmsVec 512 1024 0x44800000#32 reduces_S512x1024_S512 shapeCasts_S512_S512x1 broadcasts_S512x1_S512x1024
    broadcasts_S1x1024_S512x1024 x g

theorem norm_row (x : FVec Ideal S512x1024 .f32) (g : FVec Ideal S1x1024 .f32) (r : Fin 512) :
    row (norm x g) r = rms width (row x r) (row g 0) :=
  funext fun l => rmsVec_apply 512 1024 (by norm_num) _ _ _ _ _ x g r l

/-- Rows `a … a + 511` of the block. -/
def half (x : Vec Ideal S1024x1024 .f32) (a : ℕ) (inb : ∀ b : Fin 2, ![a, 0] b + ![512, 1024] b ≤ S1024x1024.size b) :
    Vec Ideal S512x1024 .f32 :=
  View.ld x (Rect.unit (s := S1024x1024) ![a, 0] ![512, 1024] inb)

theorem half_row (x : Vec Ideal S1024x1024 .f32) (a : ℕ) (ha : a + 512 ≤ 1024)
    (inb : ∀ b : Fin 2, ![a, 0] b + ![512, 1024] b ≤ S1024x1024.size b) (r : Fin 512) :
    row (half x a inb) r = row x ⟨a + r.val, by omega⟩ := by
  funext l
  refine View.ld_unit_apply_of x _ _ _ (ix2 r l) _ fun b => ?_
  match b with
  | ⟨0, _⟩ => rfl
  | ⟨1, _⟩ => show l.val = 0 + l.val; omega

/-- Columns `n … n + 255` of a weight. -/
def columns (w : Vec Ideal S1024x2816 .bf16) (n : ℕ) (inb : ∀ b : Fin 2, ![0, n] b + ![1024, 256] b ≤ S1024x2816.size b) :
    Vec Ideal S1024x256 .bf16 :=
  View.ld w (Rect.unit (s := S1024x2816) ![0, n] ![1024, 256] inb)

theorem columns_apply (w : Vec Ideal S1024x2816 .bf16) (n : ℕ) (hn : n + 256 ≤ 2816)
    (inb : ∀ b : Fin 2, ![0, n] b + ![1024, 256] b ≤ S1024x2816.size b) (k : Fin 1024) (l : Fin 256) :
    columns w n inb (ix2 k l) = w (ix2 k ⟨n + l.val, by omega⟩) := by
  refine View.ld_unit_apply_of w _ _ _ (ix2 k l) _ fun b => ?_
  match b with
  | ⟨0, _⟩ => show k.val = 0 + k.val; omega
  | ⟨1, _⟩ => rfl

variable (x0 : Vec Ideal S1024x1024 .f32) (x1 : Vec Ideal S1x1024 .f32) (x2 x3 : Vec Ideal S1024x2816 .bf16)
  (x4 : Vec Ideal S2816x1024 .bf16) (x5 : Vec Ideal S1x1024 .f32)

/-- The hidden activations of the block. -/
def hiddenBlock : Vec Ideal S1024x2816 .bf16 := fun z =>
  hidden (row x0 (z 0)) (row x1 0) (fun k => row x2 k) (fun k => row x3 k) (z 1)

/-- The output of the block. -/
def outBlock : Vec Ideal S1024x1024 .f32 := fun z =>
  feed (row x0 (z 0)) (row x1 0) (fun k => row x2 k) (fun k => row x3 k) (fun k => row x4 k) (row x5 0) (z 1)

/-- The stored block of hidden activations at row `a`, column `n`. -/
def chunk (a n : ℕ) (ia : ∀ b : Fin 2, ![a, 0] b + ![512, 1024] b ≤ S1024x1024.size b)
    (ic : ∀ b : Fin 2, ![0, n] b + ![1024, 256] b ≤ S1024x2816.size b) : Vec Ideal S512x256 .bf16 :=
  shapeCast S512x256 (gatedVec 512 1024 256 (truncf .bf16 (norm (half x0 a ia) x1) bitsLt_bf16_f32)
    (shapeCast S1024x256 (columns x2 n ic) shapeCasts_S1024x256_S1024x256)
    (shapeCast S1024x256 (columns x3 n ic) shapeCasts_S1024x256_S1024x256)) shapeCasts_S512x256_S512x256

theorem chunk_apply (a n : ℕ) (ha : a + 512 ≤ 1024) (hn : n + 256 ≤ 2816)
    (ia : ∀ b : Fin 2, ![a, 0] b + ![512, 1024] b ≤ S1024x1024.size b)
    (ic : ∀ b : Fin 2, ![0, n] b + ![1024, 256] b ≤ S1024x2816.size b)
    (inb : ∀ b : Fin 2, ![a, n] b + ![512, 256] b ≤ S1024x2816.size b) (x : S512x256.Idx) :
    chunk x0 x1 x2 x3 a n ia ic x
      = hiddenBlock x0 x1 x2 x3 ((Rect.unit (s := S1024x2816) ![a, n] ![512, 256] inb).emb x) := by
  obtain ⟨r, l, rfl⟩ := eta x
  have e : (Rect.unit (s := S1024x2816) ![a, n] ![512, 256] inb).emb (ix2 r l)
      = ix2 (⟨a + r.val, by omega⟩ : Fin 1024) (⟨n + l.val, by omega⟩ : Fin 2816) := by
    funext b; apply Fin.ext
    match b with
    | ⟨0, _⟩ => show a + 1 * r.val = a + r.val; omega
    | ⟨1, _⟩ => show n + 1 * l.val = n + l.val; omega
  refine Eq.trans ?_ (congrArg (hiddenBlock x0 x1 x2 x3) e).symm
  unfold chunk
  rw [shapeCast_same (s := S512x256), shapeCast_same (s := S1024x256), shapeCast_same (s := S1024x256), gatedVec_apply]
  have hr : row (truncf .bf16 (norm (half x0 a ia) x1) bitsLt_bf16_f32 : FVec Ideal S512x1024 .bf16) r
      = rms width (row x0 ⟨a + r.val, by omega⟩) (row x1 0) := by
    rw [← half_row x0 a ha ia r]
    exact norm_row _ _ r
  rw [hr]
  show gated _ _ _ l = gated _ _ _ _
  unfold gated times
  simp only [row, columns_apply _ n hn ic]

/-- The stored half of the output at row `a`. -/
def outHalf (H : Vec Ideal S512x2816 .bf16) (a : ℕ) (ia : ∀ b : Fin 2, ![a, 0] b + ![512, 1024] b ≤ S1024x1024.size b) :
    Vec Ideal S512x1024 .f32 :=
  addf (half x0 a ia) (mulf (broadcast S512x1024 (Scalar.ofBits .f32 0x3F000000#32))
    (norm (dense 512 2816 1024 (φ := .bf16) (ψ := .bf16) H (shapeCast S2816x1024 x4 shapeCasts_S2816x1024_S2816x1024)) x5))

theorem outHalf_apply (H : Vec Ideal S512x2816 .bf16) (a : ℕ) (ha : a + 512 ≤ 1024)
    (ia inb : ∀ b : Fin 2, ![a, 0] b + ![512, 1024] b ≤ S1024x1024.size b)
    (hH : ∀ (r : Fin 512) (n : Fin 2816), H (ix2 r n) = hiddenBlock x0 x1 x2 x3 (ix2 ⟨a + r.val, by omega⟩ n))
    (x : S512x1024.Idx) :
    outHalf x0 x4 x5 H a ia x
      = outBlock x0 x1 x2 x3 x4 x5 ((Rect.unit (s := S1024x1024) ![a, 0] ![512, 1024] inb).emb x) := by
  obtain ⟨r, l, rfl⟩ := eta x
  have e : (Rect.unit (s := S1024x1024) ![a, 0] ![512, 1024] inb).emb (ix2 r l)
      = ix2 (⟨a + r.val, by omega⟩ : Fin 1024) l := by
    funext b; apply Fin.ext
    match b with
    | ⟨0, _⟩ => show a + 1 * r.val = a + r.val; omega
    | ⟨1, _⟩ => show 0 + 1 * l.val = l.val; omega
  refine Eq.trans ?_ (congrArg (outBlock x0 x1 x2 x3 x4 x5) e).symm
  unfold outHalf
  rw [shapeCast_same (s := S2816x1024)]
  show row (half x0 a ia) r l + _ * row (norm _ x5) r l = _
  rw [half_row x0 a ha ia r, norm_row]
  have hd : row (dense 512 2816 1024 (φ := .bf16) (ψ := .bf16) H x4) r
      = times (hidden (row x0 ⟨a + r.val, by omega⟩) (row x1 0) (fun k => row x2 k) (fun k => row x3 k)) (fun k => row x4 k) :=
    funext fun n => (dense_apply 512 2816 1024 (φ := .bf16) (ψ := .bf16) H x4 r n).trans (Finset.sum_congr rfl fun k _ => congrArg (· * _) (hH r k))
  rw [hd]
  rfl

end Cert.FeedForward

end
-- ==== Proof.FeedForward.Array.lean ====
/-
  The feed-forward kernel's result array, of its argument arrays.
-/
module

public import proofs.«01_k».proof.Proof.FeedForward.Block

@[expose] public section

set_option maxRecDepth 16384

noncomputable section

namespace Cert.FeedForward

open Idealize.ShloMosaic hiding ix0 ix1 ix2 ix3 ix4 ix5
open Idealize.ShloMosaic.ValueIdx Cert.Layer Cert.Kernel2Ideal Cert.Kernel2Ideal.Gen Cert.Kernel2Ideal.Facts

/-- Reading back the stored hidden activations gives the hidden activations. -/
theorem read_hidden {κ : Kind} {sp : Space} (v : View sig κ sp S1024x2816 .bf16) (L : List (View.Piece (Elt Ideal) S1024x2816 .bf16))
    (H : Vec Ideal S1024x2816 .bf16) (hL : ∀ p ∈ L, ∀ x, p.2 x = H (p.1.emb x))
    (hc : ∀ y : S1024x2816.Idx, ∃ p ∈ L, y ∈ p.1.set) (a : ℕ) (ha : a + 512 ≤ 1024)
    (inb : ∀ b : Fin 2, ![a, 0] b + ![512, 2816] b ≤ S1024x2816.size b) (r : Fin 512) (n : Fin 2816) :
    v.readCov L (Rect.unit (s := S1024x2816) ![a, 0] ![512, 2816] inb).toLoadRect (ix2 r n)
      = H (ix2 ⟨a + r.val, by omega⟩ n) := by
  rw [View.readCov_eq_canon']
  refine (View.canon_apply_of_pieces H L hL _ (hc _)).trans (congrArg H ?_)
  funext b; apply Fin.ext
  match b with
  | ⟨0, _⟩ => show a + 1 * r.val = a + r.val; omega
  | ⟨1, _⟩ => show 0 + 1 * n.val = n.val; omega

variable (m : (ℓ : Loc nD τ sig) → Buf (Elt Ideal) ℓ) (c : Dev nD)

theorem after_apply (t : Fin cfg0.N) (y : S1024x1024.Idx) : (dats m 0 c).after 6 t y
    = outBlock (iblk m c 0 t) (iblk m c 1 t) (iblk m c 2 t) (iblk m c 3 t) (iblk m c 4 t) (iblk m c 5 t) y := by
  rw [after0_6]
  unfold outsAt0
  frame_out
  refine View.canon_apply_of_pieces (outBlock (iblk m c 0 t) (iblk m c 1 t) (iblk m c 2 t) (iblk m c 3 t) (iblk m c 4 t)
    (iblk m c 5 t)) _ ?_ y ?_
  case refine_2 => exact View.cover_of_tiledL (s := S1024x1024) _ ![512, 1024] (by sl_kernel_rfl) y
  generalize (iblk m c 0 t : Vec Ideal S1024x1024 .f32) = x0
  generalize (iblk m c 1 t : Vec Ideal S1x1024 .f32) = x1
  generalize (iblk m c 2 t : Vec Ideal S1024x2816 .bf16) = x2
  generalize (iblk m c 3 t : Vec Ideal S1024x2816 .bf16) = x3
  generalize (iblk m c 4 t : Vec Ideal S2816x1024 .bf16) = x4
  generalize (iblk m c 5 t : Vec Ideal S1x1024 .f32) = x5
  refine List.forall_mem_cons.2 ⟨fun x => ?_, List.forall_mem_cons.2 ⟨fun x => ?_, fun p hp => absurd hp (by simp)⟩⟩
  · refine outHalf_apply x0 x1 x2 x3 x4 x5 _ 512 (by norm_num) (by decide) (by decide)
      (fun r n => read_hidden _ _ (hiddenBlock x0 x1 x2 x3) ?_ ?_ 512 (by norm_num) (by decide) r n) x
    · intro p hp x
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl
      all_goals exact chunk_apply x0 x1 x2 x3 _ _ (by norm_num) (by norm_num) (by decide) (by decide) (by decide) x
    · exact View.cover_of_tiledL (s := S1024x2816) _ ![512, 256] (by sl_kernel_rfl)
  · refine outHalf_apply x0 x1 x2 x3 x4 x5 _ 0 (by norm_num) (by decide) (by decide)
      (fun r n => read_hidden _ _ (hiddenBlock x0 x1 x2 x3) ?_ ?_ 0 (by norm_num) (by decide) r n) x
    · intro p hp x
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl
      all_goals exact chunk_apply x0 x1 x2 x3 _ _ (by norm_num) (by norm_num) (by decide) (by decide) (by decide) x
    · exact View.cover_of_tiledL (s := S1024x2816) _ ![512, 256] (by sl_kernel_rfl)

/-- Where each window stands at a grid point. -/
theorem at_point : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0])

theorem block0 (t : Fin cfg0.N) (ht : t.val < 32) (r : Fin 1024) : row (iblk m c 0 t : (Mat 1024 1024).Idx → EReal) r
    = row (m ((c.tc : Thread nD τ).loc main_arg0) : (Mat 32768 1024).Idx → EReal) ⟨1024 * t.val + r.val, by omega⟩ := by
  funext l
  show iblk m c 0 t (ix2 r l) = m ((c.tc : Thread nD τ).loc main_arg0) (ix2 (⟨1024 * t.val + r.val, by omega⟩ : Fin 32768) l)
  rw [← V_main_arg0 m c]
  have e := (at_point t).1
  blk_simp [iblk]
  refine congrArg (V m c main_arg0) ?_
  funext a
  apply Fin.ext
  match a with
  | ⟨0, _⟩ => blk_simp [e]; show t.val * 1024 + r.val = 1024 * t.val + r.val; omega
  | ⟨1, _⟩ => blk_simp [e]

theorem block1 (t : Fin cfg0.N) : iblk m c 1 t = m ((c.tc : Thread nD τ).loc main_arg1) := by
  have e := (at_point t).2.1
  funext z
  rw [← V_main_arg1 m c]
  blk_simp [iblk]
  refine congrArg (V m c main_arg1) ?_
  funext a
  apply Fin.ext
  match a with
  | ⟨0, _⟩ => blk_simp [e]
  | ⟨1, _⟩ => blk_simp [e]

theorem block5 (t : Fin cfg0.N) : iblk m c 5 t = m ((c.tc : Thread nD τ).loc main_arg5) := by
  have e := (at_point t).2.2.2.2.2.1
  funext z
  rw [← V_main_arg5 m c]
  blk_simp [iblk]
  refine congrArg (V m c main_arg5) ?_
  funext a
  apply Fin.ext
  match a with
  | ⟨0, _⟩ => blk_simp [e]
  | ⟨1, _⟩ => blk_simp [e]

theorem cast2 : V m c main_v0 = (m ((c.tc : Thread nD τ).loc main_arg2) : (Mat 1024 2816).Idx → EReal) := by
  unfold_abbrev_sides
  after_results
  rfl

theorem block2 (t : Fin cfg0.N) : iblk m c 2 t = (m ((c.tc : Thread nD τ).loc main_arg2) : (Mat 1024 2816).Idx → EReal) := by
  have e := (at_point t).2.2.1
  funext z
  rw [← cast2 m c]
  blk_simp [iblk]
  refine congrArg (V m c main_v0) ?_
  funext a
  apply Fin.ext
  match a with
  | ⟨0, _⟩ => blk_simp [e]
  | ⟨1, _⟩ => blk_simp [e]

theorem cast3 : V m c main_v1 = (m ((c.tc : Thread nD τ).loc main_arg3) : (Mat 1024 2816).Idx → EReal) := by
  unfold_abbrev_sides
  after_results
  rfl

theorem block3 (t : Fin cfg0.N) : iblk m c 3 t = (m ((c.tc : Thread nD τ).loc main_arg3) : (Mat 1024 2816).Idx → EReal) := by
  have e := (at_point t).2.2.2.1
  funext z
  rw [← cast3 m c]
  blk_simp [iblk]
  refine congrArg (V m c main_v1) ?_
  funext a
  apply Fin.ext
  match a with
  | ⟨0, _⟩ => blk_simp [e]
  | ⟨1, _⟩ => blk_simp [e]

theorem cast4 : V m c main_v2 = (m ((c.tc : Thread nD τ).loc main_arg4) : (Mat 2816 1024).Idx → EReal) := by
  unfold_abbrev_sides
  after_results
  rfl

theorem block4 (t : Fin cfg0.N) : iblk m c 4 t = (m ((c.tc : Thread nD τ).loc main_arg4) : (Mat 2816 1024).Idx → EReal) := by
  have e := (at_point t).2.2.2.2.1
  funext z
  rw [← cast4 m c]
  blk_simp [iblk]
  refine congrArg (V m c main_v2) ?_
  funext a
  apply Fin.ext
  match a with
  | ⟨0, _⟩ => blk_simp [e]
  | ⟨1, _⟩ => blk_simp [e]

/-- The feed-forward part of the layer: every row by itself. -/
def result (x : (Mat 32768 1024).Idx → EReal) (pre : (Mat 1 1024).Idx → EReal) (wg wu : (Mat 1024 2816).Idx → EReal)
    (wd : (Mat 2816 1024).Idx → EReal) (post : (Mat 1 1024).Idx → EReal) : Vec Ideal S32768x1024 .f32 := fun i =>
  feed (row x (i 0)) (row pre 0) (fun k => row wg k) (fun k => row wu k) (fun k => row wd k) (row post 0) (i 1)

theorem feed_congr {x x' pre pre' : Fin 1024 → EReal} {wg wg' wu wu' : Fin 1024 → Fin 2816 → EReal}
    {wd wd' : Fin 2816 → Fin 1024 → EReal} {post post' : Fin 1024 → EReal} {l l' : Fin 1024} (h0 : x = x') (h1 : pre = pre')
    (h2 : wg = wg') (h3 : wu = wu') (h4 : wd = wd') (h5 : post = post') (h : l = l') :
    feed x pre wg wu wd post l = feed x' pre' wg' wu' wd' post' l' := by
  rw [h0, h1, h2, h3, h4, h5, h]

/-- The array the call leaves. -/
theorem array_eq : (dats m 0 c).arrAt 6 cfg0.N = result (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) := by
  refine (dats m 0 c).arrAt_eq_of_covers 6 _ (by decide +kernel) fun t hf y => ?_
  have ht : t.val < 32 := lt_of_lt_of_eq t.isLt N_0
  have e := (at_point t).2.2.2.2.2.2
  blk_simp
  rw [after_apply]
  have hy0 : (y 0).val < 1024 := (y 0).isLt
  have e0 : ((cfg0.win 6).blk t).view.emb y 0 = (⟨1024 * t.val + (y 0).val, by omega⟩ : Fin 32768) := by
    apply Fin.ext
    blk_simp [e]
    show t.val * 1024 + (y 0).val = 1024 * t.val + (y 0).val
    omega
  have e1 : ((cfg0.win 6).blk t).view.emb y 1 = (⟨(y 1).val, (y 1).isLt⟩ : Fin 1024) := by
    apply Fin.ext
    blk_simp [e]
  exact feed_congr ((block0 m c t ht _).trans (congrArg (row _) e0.symm)) (congrArg (row · 0) (block1 m c t))
    (congrArg (fun w k => row w k) (block2 m c t)) (congrArg (fun w k => row w k) (block3 m c t))
    (congrArg (fun w k => row w k) (block4 m c t)) (congrArg (row · 0) (block5 m c t)) e1.symm

end Cert.FeedForward

end
-- ==== Proof.Layer.HostRows.lean ====
/-
  The matrix product, the root mean square norm and the sigmoid, as the host writes them.
-/
module

public import proofs.«01_k».proof.Proof.Layer.Rows
public import Idealize.ShloMosaic.Lib.StackMember
public import Idealize.ShloMosaic.Lib.Pipeline.ValueKit

@[expose] public section

set_option maxRecDepth 16384

noncomputable section

namespace Cert.Layer

open Idealize.ShloMosaic hiding ix0 ix1 ix2 ix3 ix4 ix5
open Idealize.ShloMosaic.ValueIdx

/-- The shape of one number. -/
abbrev One : Shape := ⟨0, ![]⟩

/-- The host's matrix product. -/
theorem hostDense_apply {R K N : ℕ} (x : FVec Ideal (Mat R K) .f32) (w : FVec Ideal (Mat K N) .f32) (r : Fin R) (n : Fin N) :
    (Host.dotGeneral (DotDims.plain R K N) none x w : FVec Ideal (Mat R N) .f32) (ix2 r n) = times (row x r) (fun k => row w k) n :=
  StackMember.dotGeneral_plain_apply none x w r n

/-- A column spread over the columns of a matrix. -/
theorem spread_column {α : Type} (R D : ℕ) (hR : R ≠ 1) (h : (Mat R 1).BroadcastsInDim (Mat R D) ![0, 1])
    (v : (Mat R 1).Idx → α) (r : Fin R) (l : Fin D) : broadcastInDim (Mat R D) ![0, 1] h v (ix2 r l) = v (ix2 r 0) :=
  broadcastInDim_apply _ h v (ix2 r l) (ix2 r 0) fun a => by
    match a with
    | ⟨0, _⟩ => show r.val = if R = 1 then 0 else r.val; rw [if_neg hR]
    | ⟨1, _⟩ => rfl

/-- A row spread over the rows of a matrix. -/
theorem spread_row {α : Type} (R D : ℕ) (hD : D ≠ 1) (h : (Mat 1 D).BroadcastsInDim (Mat R D) ![0, 1])
    (v : (Mat 1 D).Idx → α) (r : Fin R) (l : Fin D) : broadcastInDim (Mat R D) ![0, 1] h v (ix2 r l) = v (ix2 0 l) :=
  broadcastInDim_apply _ h v (ix2 r l) (ix2 0 l) fun a => by
    match a with
    | ⟨0, _⟩ => rfl
    | ⟨1, _⟩ => show l.val = if D = 1 then 0 else l.val; rw [if_neg hD]

/-- A list of numbers as a column. -/
theorem spread_up {α : Type} (R : ℕ) (hR : R ≠ 1) (h : (⟨1, ![R]⟩ : Shape).BroadcastsInDim (Mat R 1) ![0])
    (v : (⟨1, ![R]⟩ : Shape).Idx → α) (r : Fin R) : broadcastInDim (Mat R 1) ![0] h v (ix2 r 0) = v (ix1 r) :=
  broadcastInDim_apply _ h v (ix2 r 0) (ix1 r) fun a => by
    match a with
    | ⟨0, _⟩ => show r.val = if R = 1 then 0 else r.val; rw [if_neg hR]

/-- The norm of every row of a matrix, as the host has it; `word` holds the number of columns. -/
def hostRms (R D : ℕ) (word : BitVec 32) (hr : (Mat R D).ReducesTo [1] ⟨1, ![R]⟩) (h0 : 0 < One.numel)
    (hb : (⟨1, ![R]⟩ : Shape).BroadcastsInDim (Mat R 1) ![0]) (hc : One.BroadcastsInDim (Mat R 1) ![])
    (hx : (Mat R 1).BroadcastsInDim (Mat R D) ![0, 1]) (hg : (Mat 1 D).BroadcastsInDim (Mat R D) ![0, 1])
    (x : FVec Ideal (Mat R D) .f32) (g : FVec Ideal (Mat 1 D) .f32) : FVec Ideal (Mat R D) .f32 :=
  mulf (mulf x (broadcastInDim (Mat R D) ![0, 1] hx (Host.rsqrt (addf
    (Host.divf (broadcastInDim (Mat R 1) ![0] hb (Host.reduceAdd (mulf x x) (constant One .f32 0x00000000#32) hr h0))
      (broadcastInDim (Mat R 1) ![] hc (constant One .f32 word)))
    (broadcastInDim (Mat R 1) ![] hc (constant One .f32 0x358637BD#32)))))) (broadcastInDim (Mat R D) ![0, 1] hg g)

theorem hostRms_apply (R D : ℕ) (hR : R ≠ 1) (hD : D ≠ 1) (word : BitVec 32) (hr : (Mat R D).ReducesTo [1] ⟨1, ![R]⟩) (h0 : 0 < One.numel)
    (hr' : (Mat R D).Reduces [1] ⟨1, ![R]⟩) (hb : (⟨1, ![R]⟩ : Shape).BroadcastsInDim (Mat R 1) ![0])
    (hc : One.BroadcastsInDim (Mat R 1) ![]) (hx : (Mat R 1).BroadcastsInDim (Mat R D) ![0, 1])
    (hg : (Mat 1 D).BroadcastsInDim (Mat R D) ![0, 1]) (x : FVec Ideal (Mat R D) .f32) (g : FVec Ideal (Mat 1 D) .f32)
    (r : Fin R) (l : Fin D) :
    hostRms R D word hr h0 hb hc hx hg x g (ix2 r l) = rms (Ideal.ofBits .f32 word) (row x r) (row g 0) l := by
  show x (ix2 r l) * broadcastInDim (s := Mat R 1) (Mat R D) ![0, 1] hx _ (ix2 r l)
    * broadcastInDim (s := Mat 1 D) (Mat R D) ![0, 1] hg g (ix2 r l) = _
  rw [spread_column R D hR, spread_row R D hD]
  show _ * Ideal.rsqrt (Ideal.div (broadcastInDim (s := ⟨1, ![R]⟩) (Mat R 1) ![0] hb _ (ix2 r 0)) _ + _) * _ = _
  rw [spread_up R hR]
  refine (congrArg (fun s => x (ix2 r l) * Ideal.rsqrt (Ideal.div s _ + _) * g (ix2 0 l))
    (Ideal.hostReduceAdd_single (a := 1) hr hr' (mulf x x) (Ideal.ofBits .f32 0x00000000#32) (ix1 r))).trans ?_
  rw [Ideal.ofBits_zero_f32, zero_add]
  refine congrArg (fun s => x (ix2 r l) * Ideal.rsqrt (Ideal.div s _ + _) * g (ix2 0 l)) (Finset.sum_congr rfl fun k _ => ?_)
  have e : hr'.lift (ix1 r) k = ix2 r k := by
    funext a; apply Fin.ext
    match a with
    | ⟨0, _⟩ => rfl
    | ⟨1, _⟩ => rfl
  rw [e]
  rfl

theorem one_word : Ideal.ofBits .f32 0x3F800000#32 = 1 := by
  simp [Ideal.ofBits, Ideal.ieee]
  rw [← EReal.coe_mul]
  norm_num

/-- One over one plus the exponential of the negative, as the host has it, is the sigmoid. -/
theorem hostLogistic (x : EReal) :
    Ideal.div (Ideal.ofBits .f32 0x3F800000#32) (Ideal.ofBits .f32 0x3F800000#32 + Ideal.exp (-x)) = Ideal.logistic x := by
  rw [one_word]
  rfl

end Cert.Layer

end
-- ==== Proof.FeedForward.Reference.lean ====
/-
  The plain feed-forward part, entry by entry.
-/
module

public import proofs.«01_k».proof.Proof.FeedForward.Array
public import proofs.«01_k».proof.Proof.Layer.HostRows
public import proofs.«01_k».proof.Proof.Gen.Reference2Ideal.Read

@[expose] public section

set_option maxRecDepth 16384

noncomputable section

namespace Cert.FeedForward

open Idealize.ShloMosaic hiding ix0 ix1 ix2 ix3 ix4 ix5
open Idealize.ShloMosaic.ValueIdx Cert.Layer Cert.Reference2Ideal Cert.Reference2Ideal.Gen Cert.Reference2Ideal.Read

variable (x : FVec Ideal S32768x1024 .f32) (pre : FVec Ideal S1x1024 .f32) (wg wu : FVec Ideal S1024x2816 .f32)
  (wd : FVec Ideal S2816x1024 .f32) (post : FVec Ideal S1x1024 .f32)

theorem normed (r : Fin 32768) : row (val_main_v11 (F := Ideal) x pre) r = rms width (row x r) (row pre 0) :=
  funext fun l => hostRms_apply 32768 1024 (by norm_num) (by norm_num) 0x44800000#32 (by decide) (by decide) (by decide)
    (by decide) (by decide) (by decide) (by decide) x pre r l

theorem hidden_row (r : Fin 32768) : row (val_main_v15 (F := Ideal) x pre wg wu) r
    = hidden (row x r) (row pre 0) (fun k => row wg k) (fun k => row wu k) := by
  funext n
  have hg : val_main_v12 (F := Ideal) x pre wg (ix2 r n) = times (rms width (row x r) (row pre 0)) (fun k => row wg k) n := by
    rw [← normed x pre r]
    exact hostDense_apply _ _ r n
  have hu : val_main_v14 (F := Ideal) x pre wu (ix2 r n) = times (rms width (row x r) (row pre 0)) (fun k => row wu k) n := by
    rw [← normed x pre r]
    exact hostDense_apply _ _ r n
  show val_main_v15 (F := Ideal) x pre wg wu (ix2 r n) = _
  rw [val_main_v15_apply, val_main_v13_apply, hu, val_main_call0_v5_apply, val_main_call0_v4_apply, val_main_call0_v3_apply,
    val_main_call0_v2_apply, val_main_call0_v1_apply, val_main_call0_v0_apply, hg]
  exact congrArg (fun s => _ * s * _) (hostLogistic _)

theorem down_row (r : Fin 32768) : row (val_main_v16 (F := Ideal) x pre wg wu wd) r
    = times (hidden (row x r) (row pre 0) (fun k => row wg k) (fun k => row wu k)) (fun k => row wd k) := by
  funext n
  rw [← hidden_row x pre wg wu r]
  exact hostDense_apply _ _ r n

/-- The reference's result is the kernel's. -/
theorem reference_eq : val_main_v31 (F := Ideal) x pre wg wu wd post = result x pre wg wu wd post := by
  funext i
  obtain ⟨r, l, rfl⟩ := eta i
  rw [val_main_v31_apply, val_main_v30_apply, val_main_v29_apply]
  have hn : val_main_v28 (F := Ideal) x pre wg wu wd post (ix2 r l)
      = rms width (row (val_main_v16 (F := Ideal) x pre wg wu wd) r) (row post 0) l :=
    hostRms_apply 32768 1024 (by norm_num) (by norm_num) 0x44800000#32 (by decide) (by decide) (by decide)
      (by decide) (by decide) (by decide) (by decide) _ post r l
  rw [hn, down_row]
  rfl

end Cert.FeedForward

end
-- ==== Proof.FeedForward.Claims.lean ====
/-
  The claims about the feed-forward call.
-/
module

public import proofs.«01_k».proof.Defs
public import proofs.«01_k».proof.Proof.FeedForward.Reference
public import proofs.«01_k».proof.Proof.Gen.Kernel2.Frame
public import proofs.«01_k».proof.Proof.Gen.Kernel2Ideal.Value
public import proofs.«01_k».proof.Proof.Gen.Reference2Ideal.Run

@[expose] public section

set_option maxRecDepth 16384

noncomputable section

namespace Cert.FeedForward

open Idealize.ShloMosaic Idealize.SL.Sem

theorem kernel_frame : quiescent_Kernel2 := fun m g _ => Cert.Kernel2.Gen.frame m g

theorem ideal_frame : quiescent_Kernel2Ideal := fun m g _ => Cert.Kernel2Ideal.Gen.frame m g

theorem reference_frame : quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The kernel's array is the reference's, element by element, for every input. -/
theorem algebraic : algebraic_Kernel2Ideal_Reference2Ideal := by
  intro m g m' g' _ hm
  refine ⟨fun c => result (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)), ?_, ?_⟩
  · refine (θ_run _ _ _).mono (fun r h c => ?_) (Cert.Kernel2Ideal.Value.run_blocks m g)
    exact ⟨(h c).1.trans (array_eq m c), (h c).2⟩
  · refine (θ_run _ _ _).mono (fun r h c => ?_) (Cert.Reference2Ideal.Value.run m' g')
    refine ⟨(h c).1.trans ?_, (h c).2⟩
    rw [Cert.Reference2Ideal.Read.val_main_v31_eq, (hm c).1, (hm c).2.1, (hm c).2.2.1, (hm c).2.2.2.1, (hm c).2.2.2.2.1,
      (hm c).2.2.2.2.2]
    exact reference_eq _ _ _ _ _ _

end Cert.FeedForward

end
-- ==== Proof.Layer.Loads.lean ====
/-
  Reading a block back, and the product of normed rows with a matrix.
-/
module

public import proofs.«01_k».proof.Proof.Layer.Rows
public import Idealize.ShloMosaic.Lib.Pipeline.ValueKit

@[expose] public section

set_option maxRecDepth 16384

noncomputable section

namespace Cert.Layer

open Idealize.ShloMosaic hiding ix0 ix1 ix2 ix3 ix4 ix5
open Idealize.ShloMosaic.ValueIdx

/-- A block of a matrix starting at row `a` and column `b`, read out. -/
theorem load_apply {R C P Q : ℕ} {ε : EltTy} (x : Vec Ideal (Mat R C) ε) (a b : ℕ) (ha : a + P ≤ R) (hb : b + Q ≤ C)
    (inb : ∀ d : Fin 2, ![a, b] d + ![P, Q] d ≤ (Mat R C).size d) (r : Fin P) (l : Fin Q) :
    View.ld x (Rect.unit (s := Mat R C) ![a, b] ![P, Q] inb) (ix2 r l) = x (ix2 ⟨a + r.val, by omega⟩ ⟨b + l.val, by omega⟩) := by
  refine congrArg x ?_
  funext d; apply Fin.ext
  match d with
  | ⟨0, _⟩ => show a + 1 * r.val = a + r.val; omega
  | ⟨1, _⟩ => show b + 1 * l.val = b + l.val; omega

/-- Where a stored block starting at row `a` and column `b` lands. -/
theorem emb_block {R C P Q : ℕ} (a b : ℕ) (ha : a + P ≤ R) (hb : b + Q ≤ C)
    (inb : ∀ d : Fin 2, ![a, b] d + ![P, Q] d ≤ (Mat R C).size d) (r : Fin P) (l : Fin Q) :
    (Rect.unit (s := Mat R C) ![a, b] ![P, Q] inb).emb (ix2 r l) = ix2 ⟨a + r.val, by omega⟩ ⟨b + l.val, by omega⟩ := by
  funext d; apply Fin.ext
  match d with
  | ⟨0, _⟩ => show a + 1 * r.val = a + r.val; omega
  | ⟨1, _⟩ => show b + 1 * l.val = b + l.val; omega

/-- A whole matrix read out is the matrix. -/
theorem load_all {R C : ℕ} {ε : EltTy} (x : Vec Ideal (Mat R C) ε) (inb : ∀ d : Fin 2, ![0, 0] d + ![R, C] d ≤ (Mat R C).size d) :
    View.ld x (Rect.unit (s := Mat R C) ![0, 0] ![R, C] inb) = x := by
  funext z
  obtain ⟨r, l, rfl⟩ := eta z
  refine (load_apply x 0 0 (by omega) (by omega) inb r l).trans (congrArg x ?_)
  funext d; apply Fin.ext
  match d with
  | ⟨0, _⟩ => exact Nat.zero_add _
  | ⟨1, _⟩ => exact Nat.zero_add _

/-- A stored whole matrix lands where it is. -/
theorem emb_all {R C : ℕ} (inb : ∀ d : Fin 2, ![0, 0] d + ![R, C] d ≤ (Mat R C).size d) (z : (Mat R C).Idx) :
    (Rect.unit (s := Mat R C) ![0, 0] ![R, C] inb).emb z = z := by
  funext d; apply Fin.ext
  match d with
  | ⟨0, _⟩ => show 0 + 1 * (z 0).val = (z 0).val; omega
  | ⟨1, _⟩ => show 0 + 1 * (z 1).val = (z 1).val; omega

/-- An entry of matrices laid side by side, read in the one it comes from; `pre` columns lie before it. -/
theorem beside_apply {R C Q : ℕ} {α : Type} (xs : List ((s : Shape) × (s.Idx → α)))
    (h : Shape.Concatenates (xs.map (·.1)) (Mat R C) (1 : Fin 2)) (k : ℕ) (hk : k < xs.length) (x : (Mat R Q).Idx → α)
    (hx : xs[k] = ⟨Mat R Q, x⟩) (pre : ℕ)
    (hpre : (((xs.take k).map (·.1)).map fun s => if h : s.rank = (Mat R C).rank then s.size ((1 : Fin 2).cast h.symm) else 0).sum = pre)
    (r : Fin R) (l : Fin Q) (j : Fin C) (hj : pre + l.val = j.val) : concatenate (Mat R C) (1 : Fin 2) xs h (ix2 r j) = x (ix2 r l) := by
  refine concatenate_apply_piece (t := Mat R C) (1 : Fin 2) xs h (ix2 r j) k hk (Mat R Q) x hx rfl pre hpre (ix2 r l) (fun b hb => ?_) hj
  match b with
  | ⟨0, _⟩ => rfl
  | ⟨1, _⟩ => exact absurd rfl hb

/-- The columns of a matrix from `o` on. -/
theorem cut_apply {R C Q : ℕ} {α : Type} (o : ℕ) (x : (Mat R C).Idx → α) (h : (Mat R C).Slices ![0, o] (Mat R Q)) (r : Fin R) (l : Fin Q)
    (j : Fin C) (hj : j.val = o + l.val) : extractStridedSlice (Mat R Q) ![0, o] x h (ix2 r l) = x (ix2 r j) :=
  extractStridedSlice_apply ![0, o] x h (ix2 r l) (ix2 r j) fun a => by
    match a with
    | ⟨0, _⟩ => exact (Nat.zero_add _).symm
    | ⟨1, _⟩ => exact hj

/-- The number of columns the norms divide by. -/
abbrev width : EReal := Ideal.ofBits .f32 0x44800000#32

/-- A row's norm times a matrix. -/
def project {N : ℕ} (x g : Fin 1024 → EReal) (w : Fin 1024 → Fin N → EReal) (n : Fin N) : EReal :=
  times (rms width x g) w n

theorem project_congr {N : ℕ} {x x' g g' : Fin 1024 → EReal} {w w' : Fin 1024 → Fin N → EReal} {n n' : Fin N}
    (h0 : x = x') (h1 : g = g') (h2 : w = w') (h : n = n') : project x g w n = project x' g' w' n' := by
  rw [h0, h1, h2, h]

end Cert.Layer

end
-- ==== Proof.Projection.Block.lean ====
/-
  One half of the rows of a grid point of the input projection: their norm times some columns of a weight block.
-/
module

public import proofs.«01_k».proof.Proof.Layer.Loads

@[expose] public section

set_option maxRecDepth 16384

noncomputable section

namespace Cert.Projection

open Idealize.ShloMosaic hiding ix0 ix1 ix2 ix3 ix4 ix5
open Idealize.ShloMosaic.ValueIdx Cert.Layer

/-- What a grid point leaves in an output block: every row's norm times the columns from `o` on of a weight block. -/
def slab {W : ℕ} (N o : ℕ) (ho : o + N ≤ W) (x0 : (Mat 1024 1024).Idx → EReal) (x1 : (Mat 1 1024).Idx → EReal)
    (w : (Mat 1024 W).Idx → EReal) : Vec Ideal (Mat 1024 N) .bf16 := fun y =>
  project (row x0 (y 0)) (row x1 0) (fun k (n : Fin N) => w (ix2 k ⟨o + n.val, by omega⟩)) (y 1)

/-- The same entries in a block of the wider format. -/
def wideSlab {W : ℕ} (N o : ℕ) (ho : o + N ≤ W) (x0 : (Mat 1024 1024).Idx → EReal) (x1 : (Mat 1 1024).Idx → EReal)
    (w : (Mat 1024 W).Idx → EReal) : Vec Ideal (Mat 1024 N) .f32 := slab N o ho x0 x1 w

/-- The normed rows of a half, as the body has them. -/
def half (a : ℕ) (inb : ∀ d : Fin 2, ![a, 0] d + ![512, 1024] d ≤ (Mat 1024 1024).size d)
    (x0 : Vec Ideal (Mat 1024 1024) .f32) (x1 : Vec Ideal (Mat 1 1024) .f32) : FVec Ideal (Mat 512 1024) .bf16 :=
  truncf .bf16 (rmsVec 512 1024 0x44800000#32 (by decide) (by decide) (by decide) (by decide)
    (View.ld x0 (Rect.unit (s := Mat 1024 1024) ![a, 0] ![512, 1024] inb))
    x1) (by decide)

theorem half_row (a : ℕ) (ha : a + 512 ≤ 1024) (inb : ∀ d : Fin 2, ![a, 0] d + ![512, 1024] d ≤ (Mat 1024 1024).size d)
    (x0 : Vec Ideal (Mat 1024 1024) .f32) (x1 : Vec Ideal (Mat 1 1024) .f32) (r : Fin 512) :
    row (half a inb x0 x1) r = rms width (row x0 ⟨a + r.val, by omega⟩) (row x1 0) := by
  funext l
  refine (rmsVec_apply 512 1024 (by norm_num) 0x44800000#32 _ _ _ _ _ _ r l).trans ?_
  have e : row (View.ld x0 (Rect.unit (s := Mat 1024 1024) ![a, 0] ![512, 1024] inb)) r = row x0 ⟨a + r.val, by omega⟩ := by
    funext k
    refine (load_apply x0 a 0 ha (by norm_num) inb r k).trans (congrArg x0 ?_)
    exact congrArg (ix2 _) (Fin.ext (Nat.zero_add _))
  exact congrArg (rms width · (row x1 0) l) e

/-- A stored half block, entry by entry. -/
theorem piece_apply {W : ℕ} (N o a : ℕ) (ho : o + N ≤ W) (ha : a + 512 ≤ 1024)
    (inb : ∀ d : Fin 2, ![a, 0] d + ![512, 1024] d ≤ (Mat 1024 1024).size d)
    (inbw : ∀ d : Fin 2, ![0, o] d + ![1024, N] d ≤ (Mat 1024 W).size d)
    (inbo : ∀ d : Fin 2, ![a, 0] d + ![512, N] d ≤ (Mat 1024 N).size d) (hs : (Mat 1024 N).ShapeCasts (Mat 1024 N))
    (x0 : Vec Ideal (Mat 1024 1024) .f32) (x1 : Vec Ideal (Mat 1 1024) .f32) (w : Vec Ideal (Mat 1024 W) .bf16)
    (z : (Mat 512 N).Idx) :
    dense (φ := .bf16) (ψ := .bf16) 512 1024 N (half a inb x0 x1)
      (shapeCast (Mat 1024 N) (View.ld w (Rect.unit (s := Mat 1024 W) ![0, o] ![1024, N] inbw)) hs) z
    = slab N o ho x0 x1 w ((Rect.unit (s := Mat 1024 N) ![a, 0] ![512, N] inbo).emb z) := by
  obtain ⟨r, n, rfl⟩ := eta z
  rw [dense_apply, half_row a ha, shapeCast_same (s := Mat 1024 N), emb_block a 0 ha (by omega) inbo r n]
  refine project_congr rfl rfl (n := n) ?_ (Fin.ext (Nat.zero_add _).symm)
  funext k l
  refine (load_apply w 0 o (by omega) ho inbw k l).trans (congrArg w ?_)
  exact congrArg (ix2 · _) (Fin.ext (Nat.zero_add _))

/-- The same when the columns are the whole weight block. -/
theorem whole_apply (N a : ℕ) (ho : 0 + N ≤ N) (ha : a + 512 ≤ 1024)
    (inb : ∀ d : Fin 2, ![a, 0] d + ![512, 1024] d ≤ (Mat 1024 1024).size d)
    (inbo : ∀ d : Fin 2, ![a, 0] d + ![512, N] d ≤ (Mat 1024 N).size d) (hs : (Mat 1024 N).ShapeCasts (Mat 1024 N))
    (x0 : Vec Ideal (Mat 1024 1024) .f32) (x1 : Vec Ideal (Mat 1 1024) .f32) (w : Vec Ideal (Mat 1024 N) .bf16)
    (z : (Mat 512 N).Idx) :
    dense (φ := .bf16) (ψ := .bf16) 512 1024 N (half a inb x0 x1) (shapeCast (Mat 1024 N) w hs) z
    = slab N 0 ho x0 x1 w ((Rect.unit (s := Mat 1024 N) ![a, 0] ![512, N] inbo).emb z) := by
  obtain ⟨r, n, rfl⟩ := eta z
  rw [dense_apply, half_row a ha, shapeCast_same (s := Mat 1024 N), emb_block a 0 ha (by omega) inbo r n]
  refine project_congr rfl rfl (n := n) ?_ (Fin.ext (Nat.zero_add _).symm)
  funext k l
  exact congrArg (fun j => w (ix2 k j)) (Fin.ext (Nat.zero_add _).symm)

end Cert.Projection

end
-- ==== Proof.Projection.Weights.lean ====
/-
  The weight arrays the host cuts and pads for the input projection, entry by entry of the weights it is given.
-/
module

public import proofs.«01_k».proof.Proof.Layer.Loads
public import proofs.«01_k».proof.Proof.Gen.Kernel3Ideal.Value

@[expose] public section

set_option maxRecDepth 16384

noncomputable section

namespace Cert.Projection

open Idealize.ShloMosaic hiding ix0 ix1 ix2 ix3 ix4 ix5
open Idealize.ShloMosaic.ValueIdx Cert.Layer Cert.Kernel3Ideal Cert.Kernel3Ideal.Gen Cert.Kernel3Ideal.Facts

variable (m : (ℓ : Loc nD τ sig) → Buf (Elt Ideal) ℓ) (c : Dev nD)

/-- The weights the call is given. -/
abbrev given : (Mat 1024 5296).Idx → EReal := m ((c.tc : Thread nD τ).loc main_arg2)

theorem whole_eq : V m c main_v0 = given m c := by
  show StableHlo.after _ _ _ = _
  simp only [List.flatten_cons, List.flatten_nil, List.append_nil, List.cons_append, List.nil_append, hostOps0, hostOps0_1, hostOps0_2]
  after_results
  rfl

/-- The last 2048 columns. -/
theorem gate_apply (k : Fin 1024) (n : Fin 2048) : V m c main_v7 (ix2 k n) = given m c (ix2 k ⟨3248 + n.val, by omega⟩) := by
  have e : V m c main_v7 = extractStridedSlice S1024x2048 ![0, 3248] (given m c) slices_S1024x5296_S1024x2048_0_3248 := by
    show StableHlo.after _ _ _ = _
    simp only [List.flatten_cons, List.flatten_nil, List.append_nil, List.cons_append, List.nil_append, hostOps0, hostOps0_1, hostOps0_2]
    after_results
    rfl
  rw [e]
  exact cut_apply 3248 _ _ k n _ rfl

/-- The columns the host lays side by side. -/
theorem small_eq : V m c main_v6 = concatenate S1024x768 1 [
    ⟨S1024x640, extractStridedSlice S1024x640 ![0, 2576] (given m c) slices_S1024x5296_S1024x640_0_2576⟩,
    ⟨S1024x16, extractStridedSlice S1024x16 ![0, 2560] (given m c) slices_S1024x5296_S1024x16_0_2560⟩,
    ⟨S1024x48, broadcastInDim S1024x48 ![] bcast_S_S1024x48 (constant (F := Ideal) S_ .bf16 0x0000#16)⟩,
    ⟨S1024x64, pad S1024x64 ![0, 0] ![0, 32] ![0, 0]
      (extractStridedSlice S1024x32 ![0, 3216] (given m c) slices_S1024x5296_S1024x32_0_3216)
      (sitofp (F := Ideal) .bf16 (constantI S_ 32 0#32)) pads_S1024x32_S1024x64_000_0320 h_S_⟩]
    concatenates_S1024x640_S1024x16_S1024x48_S1024x64_S1024x768_d1 := by
  unfold_abbrev_sides
  after_results
  rfl

theorem small_first (k : Fin 1024) (n : Fin 640) (j : Fin 768) (hj : n.val = j.val) :
    V m c main_v6 (ix2 k j) = given m c (ix2 k ⟨2576 + n.val, by omega⟩) := by
  rw [small_eq]
  refine (beside_apply _ _ 0 (by simp) _ rfl 0 rfl k n j (by omega)).trans ?_
  exact cut_apply 2576 _ _ k n _ rfl

/-- The weights behind the steps and the rotary keys: 16 columns, 48 of zeros, 32 columns, 32 of zeros. -/
def spaced (w : (Mat 1024 5296).Idx → EReal) (k : Fin 1024) (n : Fin 128) : EReal :=
  if h : n.val < 16 then w (ix2 k ⟨2560 + n.val, by omega⟩) else
  if n.val < 64 then 0 else
  if h : n.val < 96 then w (ix2 k ⟨3216 + (n.val - 64), by omega⟩) else 0

theorem small_last (k : Fin 1024) (n : Fin 128) (j : Fin 768) (hj : 640 + n.val = j.val) :
    V m c main_v6 (ix2 k j) = spaced (given m c) k n := by
  rw [small_eq]
  unfold spaced
  by_cases h0 : n.val < 16
  · rw [dif_pos h0]
    refine (beside_apply _ _ 1 (by simp) _ rfl 640 rfl k (⟨n.val, h0⟩ : Fin 16) j hj).trans ?_
    exact cut_apply 2560 _ _ k _ _ rfl
  rw [dif_neg h0]
  by_cases h1 : n.val < 64
  · rw [if_pos h1]
    refine (beside_apply _ _ 2 (by simp) _ rfl 656 rfl k (⟨n.val - 16, by omega⟩ : Fin 48) j (by show 656 + (n.val - 16) = j.val; omega)).trans ?_
    show Ideal.ofBits .bf16 0x0000#16 = 0
    simp [Ideal.ofBits, Ideal.ieee]
  rw [if_neg h1]
  refine (beside_apply _ _ 3 (by simp) _ rfl 704 rfl k (⟨n.val - 64, by omega⟩ : Fin 64) j (by show 704 + (n.val - 64) = j.val; omega)).trans ?_
  by_cases h2 : n.val < 96
  · rw [dif_pos h2]
    refine (pad_apply_of_inside _ _ _ _ _ _ _ _ (ix2 k (⟨n.val - 64, by omega⟩ : Fin 32)) (fun a => ?_)).trans ?_
    · match a with
      | ⟨0, _⟩ => show k.val = 0 + k.val * 1; omega
      | ⟨1, _⟩ => show n.val - 64 = 0 + (n.val - 64) * 1; omega
    · exact cut_apply 3216 _ _ k _ _ rfl
  · rw [dif_neg h2]
    refine (pad_apply_of_not_inside _ _ _ _ _ _ _ _ (1 : Fin 2) ?_).trans ?_
    · show ¬(0 ≤ n.val - 64 ∧ (n.val - 64 - 0) % 1 = 0 ∧ (n.val - 64 - 0) / 1 < 32)
      omega
    · show (((0#32 : BitVec 32).toInt : ℝ) : EReal) = 0
      simp

end Cert.Projection

end
-- ==== Proof.Projection.Array.lean ====
/-
  The input projection's six result arrays, of its argument arrays.
-/
module

public import proofs.«01_k».proof.Proof.Projection.Block
public import proofs.«01_k».proof.Proof.Projection.Weights

@[expose] public section

set_option maxRecDepth 16384

noncomputable section

namespace Cert.Projection

open Idealize.ShloMosaic hiding ix0 ix1 ix2 ix3 ix4 ix5
open Idealize.ShloMosaic.ValueIdx Cert.Layer Cert.Kernel3Ideal Cert.Kernel3Ideal.Gen Cert.Kernel3Ideal.Facts

variable (m : (ℓ : Loc nD τ sig) → Buf (Elt Ideal) ℓ) (c : Dev nD)

/-! ## What a grid point leaves in each output block -/

theorem after5_apply (t : Fin cfg0.N) (y : S1024x1024.Idx) : (dats m 0 c).after 5 t y
    = slab (W := 2560) 1024 0 (by norm_num) (iblk m c 0 t) (iblk m c 1 t) (X0_2 m c t) y := by
  rw [after0_5]
  unfold outsAt0
  frame_out
  refine View.canon_apply_of_pieces (S := S1024x1024) (slab (W := 2560) 1024 0 (by norm_num) (iblk m c 0 t) (iblk m c 1 t) (X0_2 m c t)) _ ?_ y ?_
  case refine_2 => exact View.cover_of_tiledL (s := S1024x1024) _ ![512, 1024] (by sl_kernel_rfl) y
  generalize (iblk m c 0 t : Vec Ideal S1024x1024 .f32) = x0
  generalize (iblk m c 1 t : Vec Ideal S1x1024 .f32) = x1
  generalize (X0_2 m c t : Vec Ideal S1024x2560 .bf16) = w
  refine List.forall_mem_cons.2 ⟨fun x => ?_, List.forall_mem_cons.2 ⟨fun x => ?_, fun p hp => absurd hp (by simp)⟩⟩
  · exact piece_apply (W := 2560) 1024 0 512 (by norm_num) (by norm_num) (by decide) (by decide) (by decide) (by decide) x0 x1 w x
  · exact piece_apply (W := 2560) 1024 0 0 (by norm_num) (by norm_num) (by decide) (by decide) (by decide) (by decide) x0 x1 w x

theorem after6_apply (t : Fin cfg0.N) (y : S1024x1536.Idx) : (dats m 0 c).after 6 t y
    = slab (W := 2560) 1536 1024 (by norm_num) (iblk m c 0 t) (iblk m c 1 t) (X0_2 m c t) y := by
  rw [after0_6]
  unfold outsAt0
  frame_out
  refine View.canon_apply_of_pieces (S := S1024x1536) (slab (W := 2560) 1536 1024 (by norm_num) (iblk m c 0 t) (iblk m c 1 t) (X0_2 m c t)) _ ?_ y ?_
  case refine_2 => exact View.cover_of_tiledL (s := S1024x1536) _ ![512, 1536] (by sl_kernel_rfl) y
  generalize (iblk m c 0 t : Vec Ideal S1024x1024 .f32) = x0
  generalize (iblk m c 1 t : Vec Ideal S1x1024 .f32) = x1
  generalize (X0_2 m c t : Vec Ideal S1024x2560 .bf16) = w
  refine List.forall_mem_cons.2 ⟨fun x => ?_, List.forall_mem_cons.2 ⟨fun x => ?_, fun p hp => absurd hp (by simp)⟩⟩
  · exact piece_apply (W := 2560) 1536 1024 512 (by norm_num) (by norm_num) (by decide) (by decide) (by decide) (by decide) x0 x1 w x
  · exact piece_apply (W := 2560) 1536 1024 0 (by norm_num) (by norm_num) (by decide) (by decide) (by decide) (by decide) x0 x1 w x

theorem after7_apply (t : Fin cfg0.N) (y : S1024x2048.Idx) : (dats m 0 c).after 7 t y
    = slab (W := 2048) 2048 0 (by norm_num) (iblk m c 0 t) (iblk m c 1 t) (iblk m c 3 t) y := by
  rw [after0_7]
  unfold outsAt0
  frame_out
  refine View.canon_apply_of_pieces (S := S1024x2048) (slab (W := 2048) 2048 0 (by norm_num) (iblk m c 0 t) (iblk m c 1 t) (iblk m c 3 t)) _ ?_ y ?_
  case refine_2 => exact View.cover_of_tiledL (s := S1024x2048) _ ![512, 2048] (by sl_kernel_rfl) y
  generalize (iblk m c 0 t : Vec Ideal S1024x1024 .f32) = x0
  generalize (iblk m c 1 t : Vec Ideal S1x1024 .f32) = x1
  generalize (iblk m c 3 t : Vec Ideal S1024x2048 .bf16) = w
  refine List.forall_mem_cons.2 ⟨fun x => ?_, List.forall_mem_cons.2 ⟨fun x => ?_, fun p hp => absurd hp (by simp)⟩⟩
  · exact whole_apply 2048 512 (by norm_num) (by norm_num) (by decide) (by decide) (by decide) x0 x1 w x
  · exact whole_apply 2048 0 (by norm_num) (by norm_num) (by decide) (by decide) (by decide) x0 x1 w x

theorem after8_apply (t : Fin cfg0.N) (y : S1024x384.Idx) : (dats m 0 c).after 8 t y
    = slab (W := 768) 384 0 (by norm_num) (iblk m c 0 t) (iblk m c 1 t) (iblk m c 4 t) y := by
  rw [after0_8]
  unfold outsAt0
  frame_out
  refine View.canon_apply_of_pieces (S := S1024x384) (slab (W := 768) 384 0 (by norm_num) (iblk m c 0 t) (iblk m c 1 t) (iblk m c 4 t)) _ ?_ y ?_
  case refine_2 => exact View.cover_of_tiledL (s := S1024x384) _ ![512, 384] (by sl_kernel_rfl) y
  generalize (iblk m c 0 t : Vec Ideal S1024x1024 .f32) = x0
  generalize (iblk m c 1 t : Vec Ideal S1x1024 .f32) = x1
  generalize (iblk m c 4 t : Vec Ideal S1024x768 .bf16) = w
  refine List.forall_mem_cons.2 ⟨fun x => ?_, List.forall_mem_cons.2 ⟨fun x => ?_, fun p hp => absurd hp (by simp)⟩⟩
  · exact piece_apply (W := 768) 384 0 512 (by norm_num) (by norm_num) (by decide) (by decide) (by decide) (by decide) x0 x1 w x
  · exact piece_apply (W := 768) 384 0 0 (by norm_num) (by norm_num) (by decide) (by decide) (by decide) (by decide) x0 x1 w x

theorem after9_apply (t : Fin cfg0.N) (y : S1024x256.Idx) : (dats m 0 c).after 9 t y
    = slab (W := 768) 256 384 (by norm_num) (iblk m c 0 t) (iblk m c 1 t) (iblk m c 4 t) y := by
  rw [after0_9]
  unfold outsAt0
  frame_out
  refine View.canon_apply_of_pieces (S := S1024x256) (slab (W := 768) 256 384 (by norm_num) (iblk m c 0 t) (iblk m c 1 t) (iblk m c 4 t)) _ ?_ y ?_
  case refine_2 => exact View.cover_of_tiledL (s := S1024x256) _ ![512, 256] (by sl_kernel_rfl) y
  generalize (iblk m c 0 t : Vec Ideal S1024x1024 .f32) = x0
  generalize (iblk m c 1 t : Vec Ideal S1x1024 .f32) = x1
  generalize (iblk m c 4 t : Vec Ideal S1024x768 .bf16) = w
  refine List.forall_mem_cons.2 ⟨fun x => ?_, List.forall_mem_cons.2 ⟨fun x => ?_, fun p hp => absurd hp (by simp)⟩⟩
  · exact piece_apply (W := 768) 256 384 512 (by norm_num) (by norm_num) (by decide) (by decide) (by decide) (by decide) x0 x1 w x
  · exact piece_apply (W := 768) 256 384 0 (by norm_num) (by norm_num) (by decide) (by decide) (by decide) (by decide) x0 x1 w x

theorem after10_apply (t : Fin cfg0.N) (y : S1024x128.Idx) : (dats m 0 c).after 10 t y
    = wideSlab (W := 768) 128 640 (by norm_num) (iblk m c 0 t) (iblk m c 1 t) (iblk m c 4 t) y := by
  rw [after0_10]
  unfold outsAt0
  frame_out
  refine View.canon_apply_of_pieces (S := S1024x128) (wideSlab (W := 768) 128 640 (by norm_num) (iblk m c 0 t) (iblk m c 1 t) (iblk m c 4 t)) _ ?_ y ?_
  case refine_2 => exact View.cover_of_tiledL (s := S1024x128) _ ![512, 128] (by sl_kernel_rfl) y
  generalize (iblk m c 0 t : Vec Ideal S1024x1024 .f32) = x0
  generalize (iblk m c 1 t : Vec Ideal S1x1024 .f32) = x1
  generalize (iblk m c 4 t : Vec Ideal S1024x768 .bf16) = w
  refine List.forall_mem_cons.2 ⟨fun x => ?_, List.forall_mem_cons.2 ⟨fun x => ?_, fun p hp => absurd hp (by simp)⟩⟩
  · exact piece_apply (W := 768) 128 640 512 (by norm_num) (by norm_num) (by decide) (by decide) (by decide) (by decide) x0 x1 w x
  · exact piece_apply (W := 768) 128 640 0 (by norm_num) (by norm_num) (by decide) (by decide) (by decide) (by decide) x0 x1 w x

/-! ## Where each window stands at a grid point -/

theorem at_point : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0])

theorem block0 (t : Fin cfg0.N) (ht : t.val < 32) (r : Fin 1024) : row (iblk m c 0 t : (Mat 1024 1024).Idx → EReal) r
    = row (m ((c.tc : Thread nD τ).loc main_arg0) : (Mat 32768 1024).Idx → EReal) ⟨1024 * t.val + r.val, by omega⟩ := by
  funext l
  show iblk m c 0 t (ix2 r l) = m ((c.tc : Thread nD τ).loc main_arg0) (ix2 (⟨1024 * t.val + r.val, by omega⟩ : Fin 32768) l)
  rw [← V_main_arg0 m c]
  have e := (at_point t).1
  blk_simp [iblk]
  refine congrArg (V m c main_arg0) ?_
  funext a
  apply Fin.ext
  match a with
  | ⟨0, _⟩ => blk_simp [e]; show t.val * 1024 + r.val = 1024 * t.val + r.val; omega
  | ⟨1, _⟩ => blk_simp [e]

theorem block1 (t : Fin cfg0.N) : iblk m c 1 t = m ((c.tc : Thread nD τ).loc main_arg1) := by
  have e := (at_point t).2.1
  funext z
  rw [← V_main_arg1 m c]
  blk_simp [iblk]
  refine congrArg (V m c main_arg1) ?_
  funext a
  apply Fin.ext
  match a with
  | ⟨0, _⟩ => blk_simp [e]
  | ⟨1, _⟩ => blk_simp [e]

theorem block2 (t : Fin cfg0.N) (k : Fin 1024) (n : Fin 2560) : X0_2 m c t (ix2 k n) = given m c (ix2 k ⟨n.val, by omega⟩) := by
  have e := (at_point t).2.2.1
  rw [← whole_eq m c]
  unfold X0_2 Pipeline.Window.fill
  rw [dif_pos (moved0_2 t _)]
  blk_simp [iblk]
  refine congrArg (V m c main_v0) ?_
  funext a
  apply Fin.ext
  match a with
  | ⟨0, _⟩ => blk_simp [e]
  | ⟨1, _⟩ => blk_simp [e]

theorem block3 (t : Fin cfg0.N) : iblk m c 3 t = V m c main_v7 := by
  have e := (at_point t).2.2.2.1
  funext z
  blk_simp [iblk]
  refine congrArg (V m c main_v7) ?_
  funext a
  apply Fin.ext
  match a with
  | ⟨0, _⟩ => blk_simp [e]
  | ⟨1, _⟩ => blk_simp [e]

theorem block4 (t : Fin cfg0.N) : iblk m c 4 t = V m c main_v6 := by
  have e := (at_point t).2.2.2.2.1
  funext z
  blk_simp [iblk]
  refine congrArg (V m c main_v6) ?_
  funext a
  apply Fin.ext
  match a with
  | ⟨0, _⟩ => blk_simp [e]
  | ⟨1, _⟩ => blk_simp [e]

/-! ## The arrays -/

/-- Every row's norm times a matrix. -/
def result {N : ℕ} (x : (Mat 32768 1024).Idx → EReal) (g : (Mat 1 1024).Idx → EReal) (w : Fin 1024 → Fin N → EReal) :
    (Mat 32768 N).Idx → EReal := fun i => project (row x (i 0)) (row g 0) w (i 1)

/-- The columns of the weights from `o` on. -/
def columns (o : ℕ) {N : ℕ} (ho : o + N ≤ 5296) (w : (Mat 1024 5296).Idx → EReal) (k : Fin 1024) (n : Fin N) : EReal :=
  w (ix2 k ⟨o + n.val, by omega⟩)

/-- The array of the inner activations. -/
theorem array5_eq : (dats m 0 c).arrAt 5 cfg0.N = (result (N := 1024) (m ((c.tc : Thread nD τ).loc main_arg0))
    (m ((c.tc : Thread nD τ).loc main_arg1)) (columns 0 (by norm_num) (given m c)) : Vec Ideal S32768x1024 .bf16) := by
  refine (dats m 0 c).arrAt_eq_of_covers 5 _ (by decide +kernel) fun t hf y => ?_
  have ht : t.val < 32 := lt_of_lt_of_eq t.isLt N_0
  have e := (at_point t).2.2.2.2.2.1
  blk_simp
  rw [after5_apply]
  have hy0 : (y 0).val < 1024 := (y 0).isLt
  have e0 : ((cfg0.win 5).blk t).view.emb y 0 = (⟨1024 * t.val + (y 0).val, by omega⟩ : Fin 32768) := by
    apply Fin.ext
    blk_simp [e]
    show t.val * 1024 + (y 0).val = 1024 * t.val + (y 0).val
    omega
  have e1 : ((cfg0.win 5).blk t).view.emb y 1 = (⟨(y 1).val, (y 1).isLt⟩ : Fin 1024) := by
    apply Fin.ext
    blk_simp [e]
  refine project_congr (N := 1024) ((block0 m c t ht _).trans (congrArg (row _) e0.symm)) (congrArg (row · 0) (block1 m c t))
    (funext fun k => funext fun n => ?_) e1.symm
  · have hn := n.isLt
    refine (block2 m c t k _).trans (congrArg (fun j => given m c (ix2 k j)) (Fin.ext ?_))
    rfl

/-- The array of what enters the convolution. -/
theorem array6_eq : (dats m 0 c).arrAt 6 cfg0.N = (result (N := 1536) (m ((c.tc : Thread nD τ).loc main_arg0))
    (m ((c.tc : Thread nD τ).loc main_arg1)) (columns 1024 (by norm_num) (given m c)) : Vec Ideal S32768x1536 .bf16) := by
  refine (dats m 0 c).arrAt_eq_of_covers 6 _ (by decide +kernel) fun t hf y => ?_
  have ht : t.val < 32 := lt_of_lt_of_eq t.isLt N_0
  have e := (at_point t).2.2.2.2.2.2.1
  blk_simp
  rw [after6_apply]
  have hy0 : (y 0).val < 1024 := (y 0).isLt
  have e0 : ((cfg0.win 6).blk t).view.emb y 0 = (⟨1024 * t.val + (y 0).val, by omega⟩ : Fin 32768) := by
    apply Fin.ext
    blk_simp [e]
    show t.val * 1024 + (y 0).val = 1024 * t.val + (y 0).val
    omega
  have e1 : ((cfg0.win 6).blk t).view.emb y 1 = (⟨(y 1).val, (y 1).isLt⟩ : Fin 1536) := by
    apply Fin.ext
    blk_simp [e]
  refine project_congr (N := 1536) ((block0 m c t ht _).trans (congrArg (row _) e0.symm)) (congrArg (row · 0) (block1 m c t))
    (funext fun k => funext fun n => ?_) e1.symm
  · have hn := n.isLt
    refine (block2 m c t k _).trans (congrArg (fun j => given m c (ix2 k j)) (Fin.ext ?_))
    rfl

/-- The array of the gates. -/
theorem array7_eq : (dats m 0 c).arrAt 7 cfg0.N = (result (N := 2048) (m ((c.tc : Thread nD τ).loc main_arg0))
    (m ((c.tc : Thread nD τ).loc main_arg1)) (columns 3248 (by norm_num) (given m c)) : Vec Ideal S32768x2048 .bf16) := by
  refine (dats m 0 c).arrAt_eq_of_covers 7 _ (by decide +kernel) fun t hf y => ?_
  have ht : t.val < 32 := lt_of_lt_of_eq t.isLt N_0
  have e := (at_point t).2.2.2.2.2.2.2.1
  blk_simp
  rw [after7_apply]
  have hy0 : (y 0).val < 1024 := (y 0).isLt
  have e0 : ((cfg0.win 7).blk t).view.emb y 0 = (⟨1024 * t.val + (y 0).val, by omega⟩ : Fin 32768) := by
    apply Fin.ext
    blk_simp [e]
    show t.val * 1024 + (y 0).val = 1024 * t.val + (y 0).val
    omega
  have e1 : ((cfg0.win 7).blk t).view.emb y 1 = (⟨(y 1).val, (y 1).isLt⟩ : Fin 2048) := by
    apply Fin.ext
    blk_simp [e]
  refine project_congr (N := 2048) ((block0 m c t ht _).trans (congrArg (row _) e0.symm)) (congrArg (row · 0) (block1 m c t))
    (funext fun k => funext fun n => ?_) e1.symm
  · have hn := n.isLt
    refine (congrFun (block3 m c t) _).trans ((gate_apply m c k _).trans (congrArg (fun j => given m c (ix2 k j)) (Fin.ext ?_)))
    show 3248 + (0 + n.val) = 3248 + n.val
    omega

/-- The array of the compressed queries. -/
theorem array8_eq : (dats m 0 c).arrAt 8 cfg0.N = (result (N := 384) (m ((c.tc : Thread nD τ).loc main_arg0))
    (m ((c.tc : Thread nD τ).loc main_arg1)) (columns 2576 (by norm_num) (given m c)) : Vec Ideal S32768x384 .bf16) := by
  refine (dats m 0 c).arrAt_eq_of_covers 8 _ (by decide +kernel) fun t hf y => ?_
  have ht : t.val < 32 := lt_of_lt_of_eq t.isLt N_0
  have e := (at_point t).2.2.2.2.2.2.2.2.1
  blk_simp
  rw [after8_apply]
  have hy0 : (y 0).val < 1024 := (y 0).isLt
  have e0 : ((cfg0.win 8).blk t).view.emb y 0 = (⟨1024 * t.val + (y 0).val, by omega⟩ : Fin 32768) := by
    apply Fin.ext
    blk_simp [e]
    show t.val * 1024 + (y 0).val = 1024 * t.val + (y 0).val
    omega
  have e1 : ((cfg0.win 8).blk t).view.emb y 1 = (⟨(y 1).val, (y 1).isLt⟩ : Fin 384) := by
    apply Fin.ext
    blk_simp [e]
  refine project_congr (N := 384) ((block0 m c t ht _).trans (congrArg (row _) e0.symm)) (congrArg (row · 0) (block1 m c t))
    (funext fun k => funext fun n => ?_) e1.symm
  · have hn := n.isLt
    refine (congrFun (block4 m c t) _).trans ((small_first m c k ⟨n.val, by omega⟩ _ (Nat.zero_add _).symm).trans ?_)
    rfl

/-- The array of the compressed keys and values. -/
theorem array9_eq : (dats m 0 c).arrAt 9 cfg0.N = (result (N := 256) (m ((c.tc : Thread nD τ).loc main_arg0))
    (m ((c.tc : Thread nD τ).loc main_arg1)) (columns 2960 (by norm_num) (given m c)) : Vec Ideal S32768x256 .bf16) := by
  refine (dats m 0 c).arrAt_eq_of_covers 9 _ (by decide +kernel) fun t hf y => ?_
  have ht : t.val < 32 := lt_of_lt_of_eq t.isLt N_0
  have e := (at_point t).2.2.2.2.2.2.2.2.2.1
  blk_simp
  rw [after9_apply]
  have hy0 : (y 0).val < 1024 := (y 0).isLt
  have e0 : ((cfg0.win 9).blk t).view.emb y 0 = (⟨1024 * t.val + (y 0).val, by omega⟩ : Fin 32768) := by
    apply Fin.ext
    blk_simp [e]
    show t.val * 1024 + (y 0).val = 1024 * t.val + (y 0).val
    omega
  have e1 : ((cfg0.win 9).blk t).view.emb y 1 = (⟨(y 1).val, (y 1).isLt⟩ : Fin 256) := by
    apply Fin.ext
    blk_simp [e]
  refine project_congr (N := 256) ((block0 m c t ht _).trans (congrArg (row _) e0.symm)) (congrArg (row · 0) (block1 m c t))
    (funext fun k => funext fun n => ?_) e1.symm
  · have hn := n.isLt
    refine (congrFun (block4 m c t) _).trans ((small_first m c k ⟨384 + n.val, by omega⟩ _ rfl).trans
      (congrArg (fun j => given m c (ix2 k j)) (Fin.ext ?_)))
    show 2576 + (384 + n.val) = 2960 + n.val
    omega

/-- The array of the steps and the rotary keys. -/
theorem array10_eq : (dats m 0 c).arrAt 10 cfg0.N = (result (N := 128) (m ((c.tc : Thread nD τ).loc main_arg0))
    (m ((c.tc : Thread nD τ).loc main_arg1)) (spaced (given m c)) : Vec Ideal S32768x128 .f32) := by
  refine (dats m 0 c).arrAt_eq_of_covers 10 _ (by decide +kernel) fun t hf y => ?_
  have ht : t.val < 32 := lt_of_lt_of_eq t.isLt N_0
  have e := (at_point t).2.2.2.2.2.2.2.2.2.2
  blk_simp
  rw [after10_apply]
  unfold wideSlab slab
  have hy0 : (y 0).val < 1024 := (y 0).isLt
  have e0 : ((cfg0.win 10).blk t).view.emb y 0 = (⟨1024 * t.val + (y 0).val, by omega⟩ : Fin 32768) := by
    apply Fin.ext
    blk_simp [e]
    show t.val * 1024 + (y 0).val = 1024 * t.val + (y 0).val
    omega
  have e1 : ((cfg0.win 10).blk t).view.emb y 1 = (⟨(y 1).val, (y 1).isLt⟩ : Fin 128) := by
    apply Fin.ext
    blk_simp [e]
  refine project_congr (N := 128) ((block0 m c t ht _).trans (congrArg (row _) e0.symm)) (congrArg (row · 0) (block1 m c t))
    (funext fun k => funext fun n => ?_) e1.symm
  · have hn := n.isLt
    exact (congrFun (block4 m c t) _).trans (small_last m c k n _ rfl)

end Cert.Projection

end
-- ==== Proof.Projection.Claims.lean ====
/-
  The claims about the input projection.
-/
module

public import proofs.«01_k».proof.Defs
public import proofs.«01_k».proof.Proof.Projection.Array
public import proofs.«01_k».proof.Proof.Layer.HostRows
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Projection

open Idealize.ShloMosaic hiding ix0 ix1 ix2 ix3 ix4 ix5
open Idealize.ShloMosaic.ValueIdx Cert.Layer Idealize.SL.Sem

section
open Cert.Reference3Ideal Cert.Reference3Ideal.Gen Cert.Reference3Ideal.Read

variable (x : FVec Ideal S32768x1024 .f32) (g : FVec Ideal S1x1024 .f32) (w : FVec Ideal S1024x5296 .f32)

/-- The whole product, entry by entry. -/
theorem product_apply (r : Fin 32768) (j : Fin 5296) :
    val_main_v12 (F := Ideal) x g w (ix2 r j) = times (rms width (row x r) (row g 0)) (fun k => row w k) j := by
  have hn : row (val_main_v11 (F := Ideal) x g) r = rms width (row x r) (row g 0) :=
    funext fun l => hostRms_apply 32768 1024 (by norm_num) (by norm_num) 0x44800000#32 (by decide) (by decide) (by decide)
      (by decide) (by decide) (by decide) (by decide) x g r l
  rw [← hn]
  exact hostDense_apply _ _ r j

theorem reference_z : val_main_v23 (F := Ideal) x g w = result x g (columns (N := 1024) 0 (by norm_num) w) := by
  funext i
  obtain ⟨r, l, rfl⟩ := eta i
  refine (cut_apply (C := 5296) 0 (val_main_v12 (F := Ideal) x g w) (by decide) r l ⟨0 + l.val, by omega⟩ rfl).trans ?_
  exact product_apply x g w r _

theorem reference_xbc : val_main_v24 (F := Ideal) x g w = result x g (columns (N := 1536) 1024 (by norm_num) w) := by
  funext i
  obtain ⟨r, l, rfl⟩ := eta i
  refine (cut_apply (C := 5296) 1024 (val_main_v12 (F := Ideal) x g w) (by decide) r l ⟨1024 + l.val, by omega⟩ rfl).trans ?_
  exact product_apply x g w r _

theorem reference_gate : val_main_v25 (F := Ideal) x g w = result x g (columns (N := 2048) 3248 (by norm_num) w) := by
  funext i
  obtain ⟨r, l, rfl⟩ := eta i
  refine (cut_apply (C := 5296) 3248 (val_main_v12 (F := Ideal) x g w) (by decide) r l ⟨3248 + l.val, by omega⟩ rfl).trans ?_
  exact product_apply x g w r _

theorem reference_queries : val_main_v26 (F := Ideal) x g w = result x g (columns (N := 384) 2576 (by norm_num) w) := by
  funext i
  obtain ⟨r, l, rfl⟩ := eta i
  refine (cut_apply (C := 5296) 2576 (val_main_v12 (F := Ideal) x g w) (by decide) r l ⟨2576 + l.val, by omega⟩ rfl).trans ?_
  exact product_apply x g w r _

theorem reference_latents : val_main_v27 (F := Ideal) x g w = result x g (columns (N := 256) 2960 (by norm_num) w) := by
  funext i
  obtain ⟨r, l, rfl⟩ := eta i
  refine (cut_apply (C := 5296) 2960 (val_main_v12 (F := Ideal) x g w) (by decide) r l ⟨2960 + l.val, by omega⟩ rfl).trans ?_
  exact product_apply x g w r _

/-- A sum of products with zeros. -/
theorem times_zero {K N : ℕ} (y : Fin K → EReal) (v : Fin K → Fin N → EReal) (n : Fin N) (h : ∀ k, v k n = 0) : times y v n = 0 := by
  unfold times
  exact Finset.sum_eq_zero fun k _ => by rw [h k, mul_zero]

theorem reference_steps : val_main_v22 (F := Ideal) x g w = result x g (spaced w) := by
  funext i
  obtain ⟨r, n, rfl⟩ := eta i
  show _ = times (rms width (row x r) (row g 0)) (spaced w) n
  unfold val_main_v22
  by_cases h0 : n.val < 16
  · refine (beside_apply _ _ 0 (by simp) _ rfl 0 rfl r (⟨n.val, h0⟩ : Fin 16) n (Nat.zero_add _)).trans ?_
    refine (cut_apply (C := 5296) 2560 (val_main_v12 (F := Ideal) x g w) (by decide) r ⟨n.val, h0⟩ ⟨2560 + n.val, by omega⟩ rfl).trans ?_
    refine (product_apply x g w r _).trans ?_
    unfold times
    refine Finset.sum_congr rfl fun k _ => congrArg _ ?_
    unfold spaced
    rw [dif_pos h0]
    rfl
  by_cases h1 : n.val < 64
  · refine (beside_apply _ _ 1 (by simp) _ rfl 16 rfl r (⟨n.val - 16, by omega⟩ : Fin 48) n (by show 16 + (n.val - 16) = n.val; omega)).trans ?_
    rw [times_zero _ _ _ (fun k => by unfold spaced; rw [dif_neg h0, if_pos h1])]
    exact Ideal.ofBits_zero_f32
  by_cases h2 : n.val < 96
  · refine (beside_apply _ _ 2 (by simp) _ rfl 64 rfl r (⟨n.val - 64, by omega⟩ : Fin 32) n (by show 64 + (n.val - 64) = n.val; omega)).trans ?_
    refine (cut_apply (C := 5296) 3216 (val_main_v12 (F := Ideal) x g w) (by decide) r ⟨n.val - 64, by omega⟩ ⟨3216 + (n.val - 64), by omega⟩ rfl).trans ?_
    refine (product_apply x g w r _).trans ?_
    unfold times
    refine Finset.sum_congr rfl fun k _ => congrArg _ ?_
    unfold spaced
    rw [dif_neg h0, if_neg h1, dif_pos h2]
    rfl
  · refine (beside_apply _ _ 3 (by simp) _ rfl 96 rfl r (⟨n.val - 96, by omega⟩ : Fin 32) n (by show 96 + (n.val - 96) = n.val; omega)).trans ?_
    rw [times_zero _ _ _ (fun k => by unfold spaced; rw [dif_neg h0, if_neg h1, dif_neg h2])]
    exact Ideal.ofBits_zero_f32

end

theorem kernel_frame : quiescent_Kernel3 := fun m g _ => Cert.Kernel3.Gen.frame m g

theorem ideal_frame : quiescent_Kernel3Ideal := fun m g _ => Cert.Kernel3Ideal.Gen.frame m g

theorem reference_frame : quiescent_Reference3Ideal := fun m g _ =>
  (θ_run Cert.Reference3Ideal.defs _ _).mono
    (fun r h => ⟨fun c => (h c).2.2.2.2.2.2, Idealize.ShloMosaic.sem_eq_zero_of_no_sems (by decide) r.2⟩)
    (Cert.Reference3Ideal.Value.run (F := Ideal) m g)

/-- The kernel's six arrays are the reference's, element by element, for every input. -/
theorem algebraic : algebraic_Kernel3Ideal_Reference3Ideal := by
  intro m g m' g' _ hm
  refine ⟨fun c => result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (columns (N := 1024) 0 (by norm_num) (m ((c.tc : Thread Cert.Kernel3Ideal.nD Cert.Kernel3Ideal.τ).loc Cert.Kernel3Ideal.main_arg2))),
    fun c => result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (columns (N := 1536) 1024 (by norm_num) (m ((c.tc : Thread Cert.Kernel3Ideal.nD Cert.Kernel3Ideal.τ).loc Cert.Kernel3Ideal.main_arg2))),
    fun c => result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (columns (N := 2048) 3248 (by norm_num) (m ((c.tc : Thread Cert.Kernel3Ideal.nD Cert.Kernel3Ideal.τ).loc Cert.Kernel3Ideal.main_arg2))),
    fun c => result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (columns (N := 384) 2576 (by norm_num) (m ((c.tc : Thread Cert.Kernel3Ideal.nD Cert.Kernel3Ideal.τ).loc Cert.Kernel3Ideal.main_arg2))),
    fun c => result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (columns (N := 256) 2960 (by norm_num) (m ((c.tc : Thread Cert.Kernel3Ideal.nD Cert.Kernel3Ideal.τ).loc Cert.Kernel3Ideal.main_arg2))),
    fun c => result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (spaced (m ((c.tc : Thread Cert.Kernel3Ideal.nD Cert.Kernel3Ideal.τ).loc Cert.Kernel3Ideal.main_arg2))), ?_, ?_⟩
  · refine (θ_run _ _ _).mono (fun r h c => ?_) (Cert.Kernel3Ideal.Value.run_blocks m g)
    obtain ⟨h5, h6, h7, h8, h9, h10, hr⟩ := h c
    exact ⟨h5.trans (array5_eq m c), h6.trans (array6_eq m c), h7.trans (array7_eq m c), h8.trans (array8_eq m c),
      h9.trans (array9_eq m c), h10.trans (array10_eq m c), hr⟩
  · refine (θ_run _ _ _).mono (fun r h c => ?_) (Cert.Reference3Ideal.Value.run m' g')
    obtain ⟨h5, h6, h7, h8, h9, h10, hr⟩ := h c
    refine ⟨h5.trans ?_, h6.trans ?_, h7.trans ?_, h8.trans ?_, h9.trans ?_, h10.trans ?_, hr⟩
    · rw [Cert.Reference3Ideal.Read.val_main_v23_eq, (hm c).1, (hm c).2.1, (hm c).2.2]
      exact reference_z _ _ _
    · rw [Cert.Reference3Ideal.Read.val_main_v24_eq, (hm c).1, (hm c).2.1, (hm c).2.2]
      exact reference_xbc _ _ _
    · rw [Cert.Reference3Ideal.Read.val_main_v25_eq, (hm c).1, (hm c).2.1, (hm c).2.2]
      exact reference_gate _ _ _
    · rw [Cert.Reference3Ideal.Read.val_main_v26_eq, (hm c).1, (hm c).2.1, (hm c).2.2]
      exact reference_queries _ _ _
    · rw [Cert.Reference3Ideal.Read.val_main_v27_eq, (hm c).1, (hm c).2.1, (hm c).2.2]
      exact reference_latents _ _ _
    · rw [Cert.Reference3Ideal.Read.val_main_v22_eq, (hm c).1, (hm c).2.1, (hm c).2.2]
      exact reference_steps _ _ _

end Cert.Projection

end
-- ==== Proof.Memory.Array.lean ====
/-
  The memory call's two result arrays, of its argument arrays: the normed memory times the key and the value weights.
-/
module

public import proofs.«01_k».proof.Proof.Layer.Loads
public import proofs.«01_k».proof.Proof.Gen.Kernel4Ideal.Value

@[expose] public section

set_option maxRecDepth 16384

noncomputable section

namespace Cert.Memory

open Idealize.ShloMosaic hiding ix0 ix1 ix2 ix3 ix4 ix5
open Idealize.ShloMosaic.ValueIdx Cert.Layer Cert.Kernel4Ideal Cert.Kernel4Ideal.Gen Cert.Kernel4Ideal.Facts

/-- The block a grid point stores: its rows of the memory, normed, times a matrix. -/
def blockFun (x0 : Vec Ideal S1024x1024 .f32) (x1 : Vec Ideal S1x1024 .f32) (w : Vec Ideal S1024x1024 .bf16) : Vec Ideal S1024x1024 .bf16 :=
  fun y => project (row x0 (y 0)) (row x1 0) (fun k => row w k) (y 1)

theorem normed (x0 : Vec Ideal S1024x1024 .f32) (x1 : Vec Ideal S1x1024 .f32) (r : Fin 1024) :
    row (k0_pay1 (F := Ideal) x0 x1) r = rms width (row x0 r) (row x1 0) :=
  funext fun l => rmsVec_apply 1024 1024 (by norm_num) 0x44800000#32 _ _ _ _ x0 x1 r l

theorem product_apply (x0 : Vec Ideal S1024x1024 .f32) (x1 : Vec Ideal S1x1024 .f32) (w : Vec Ideal S1024x1024 .bf16) (r l : Fin 1024) :
    k0_pay2 (F := Ideal) x0 x1 w (ix2 r l) = blockFun x0 x1 w (ix2 r l) := by
  show dense (φ := .bf16) (ψ := .bf16) 1024 1024 1024 (k0_pay1 (F := Ideal) x0 x1)
    (shapeCast S1024x1024 w shapeCasts_S1024x1024_S1024x1024) (ix2 r l) = _
  rw [dense_apply, normed, shapeCast_same (s := S1024x1024)]
  rfl

theorem out_apply (x0 : Vec Ideal S1024x1024 .f32) (x1 : Vec Ideal S1x1024 .f32) (w : Vec Ideal S1024x1024 .bf16) (y : S1024x1024.Idx) :
    View.canon ([⟨r0_0, k0_pay2 (F := Ideal) (View.ld x0 r0_0) (View.ld x1 r0_1) (View.ld w r0_0)⟩] :
      List (View.Piece (Elt Ideal) S1024x1024 .bf16)) y = blockFun x0 x1 w y := by
  refine View.canon_apply_of_pieces (blockFun x0 x1 w) _ ?_ y (cover0_4 _ y)
  refine List.forall_mem_cons.2 ⟨fun x => ?_, fun p hp => absurd hp (by simp)⟩
  obtain ⟨r, l, rfl⟩ := eta x
  show k0_pay2 (F := Ideal) (View.ld x0 r0_0) (View.ld x1 r0_1) (View.ld w r0_0) (ix2 r l) = _
  rw [show View.ld x0 r0_0 = x0 from load_all x0 _, show View.ld x1 r0_1 = x1 from load_all x1 _,
    show View.ld w r0_0 = w from load_all w _, product_apply]
  exact congrArg (blockFun x0 x1 w) (emb_all (R := 1024) (C := 1024) (by decide) (ix2 r l)).symm

/-- Where each window stands at a grid point. -/
theorem at_point : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧ win0_5.index t = ![t.val, 0])

variable (m : (ℓ : Loc nD τ sig) → Buf (Elt Ideal) ℓ) (c : Dev nD)

theorem block0 (t : Fin cfg0.N) (ht : t.val < 4) (r : Fin 1024) : row (iblk m c 0 t : (Mat 1024 1024).Idx → EReal) r
    = row (m ((c.tc : Thread nD τ).loc main_arg0) : (Mat 4096 1024).Idx → EReal) ⟨1024 * t.val + r.val, by omega⟩ := by
  funext l
  show iblk m c 0 t (ix2 r l) = m ((c.tc : Thread nD τ).loc main_arg0) (ix2 (⟨1024 * t.val + r.val, by omega⟩ : Fin 4096) l)
  rw [← V_main_arg0 m c]
  have e := (at_point t).1
  blk_simp [iblk]
  refine congrArg (V m c main_arg0) ?_
  funext a
  apply Fin.ext
  match a with
  | ⟨0, _⟩ => blk_simp [e]; show t.val * 1024 + r.val = 1024 * t.val + r.val; omega
  | ⟨1, _⟩ => blk_simp [e]

theorem block1 (t : Fin cfg0.N) : iblk m c 1 t = m ((c.tc : Thread nD τ).loc main_arg1) := by
  have e := (at_point t).2.1
  funext z
  rw [← V_main_arg1 m c]
  blk_simp [iblk]
  refine congrArg (V m c main_arg1) ?_
  funext a
  apply Fin.ext
  match a with
  | ⟨0, _⟩ => blk_simp [e]
  | ⟨1, _⟩ => blk_simp [e]

theorem cast2 : V m c main_v0 = (m ((c.tc : Thread nD τ).loc main_arg2) : (Mat 1024 1024).Idx → EReal) := by
  unfold_abbrev_sides
  after_results
  rfl

theorem block2 (t : Fin cfg0.N) : iblk m c 2 t = (m ((c.tc : Thread nD τ).loc main_arg2) : (Mat 1024 1024).Idx → EReal) := by
  have e := (at_point t).2.2.1
  funext z
  rw [← cast2 m c]
  blk_simp [iblk]
  refine congrArg (V m c main_v0) ?_
  funext a
  apply Fin.ext
  match a with
  | ⟨0, _⟩ => blk_simp [e]
  | ⟨1, _⟩ => blk_simp [e]

theorem cast3 : V m c main_v1 = (m ((c.tc : Thread nD τ).loc main_arg3) : (Mat 1024 1024).Idx → EReal) := by
  unfold_abbrev_sides
  after_results
  rfl

theorem block3 (t : Fin cfg0.N) : iblk m c 3 t = (m ((c.tc : Thread nD τ).loc main_arg3) : (Mat 1024 1024).Idx → EReal) := by
  have e := (at_point t).2.2.2.1
  funext z
  rw [← cast3 m c]
  blk_simp [iblk]
  refine congrArg (V m c main_v1) ?_
  funext a
  apply Fin.ext
  match a with
  | ⟨0, _⟩ => blk_simp [e]
  | ⟨1, _⟩ => blk_simp [e]

/-- Every row of the memory, normed, times a matrix. -/
def result (x : (Mat 4096 1024).Idx → EReal) (g : (Mat 1 1024).Idx → EReal) (w : (Mat 1024 1024).Idx → EReal) :
    Vec Ideal S4096x1024 .bf16 := fun i => project (row x (i 0)) (row g 0) (fun k => row w k) (i 1)

/-- The keys the call leaves. -/
theorem keys_eq : (dats m 0 c).arrAt 4 cfg0.N = result (m ((c.tc : Thread nD τ).loc main_arg0))
    (m ((c.tc : Thread nD τ).loc main_arg1)) (m ((c.tc : Thread nD τ).loc main_arg2)) := by
  refine (dats m 0 c).arrAt_eq_of_covers 4 _ (by decide +kernel) fun t hf y => ?_
  have ht : t.val < 4 := lt_of_lt_of_eq t.isLt N_0
  have e := (at_point t).2.2.2.2.1
  blk_simp
  rw [after0_4]
  have hy0 : (y 0).val < 1024 := (y 0).isLt
  have e0 : ((cfg0.win 4).blk t).view.emb y 0 = (⟨1024 * t.val + (y 0).val, by omega⟩ : Fin 4096) := by
    apply Fin.ext
    blk_simp [e]
    show t.val * 1024 + (y 0).val = 1024 * t.val + (y 0).val
    omega
  have e1 : ((cfg0.win 4).blk t).view.emb y 1 = (⟨(y 1).val, (y 1).isLt⟩ : Fin 1024) := by
    apply Fin.ext
    blk_simp [e]
  refine (out_apply _ _ _ y).trans ?_
  exact project_congr ((block0 m c t ht _).trans (congrArg (row _) e0.symm)) (congrArg (row · 0) (block1 m c t))
    (congrArg (fun w k => row w k) (block2 m c t)) e1.symm

/-- The values the call leaves. -/
theorem values_eq : (dats m 0 c).arrAt 5 cfg0.N = result (m ((c.tc : Thread nD τ).loc main_arg0))
    (m ((c.tc : Thread nD τ).loc main_arg1)) (m ((c.tc : Thread nD τ).loc main_arg3)) := by
  refine (dats m 0 c).arrAt_eq_of_covers 5 _ (by decide +kernel) fun t hf y => ?_
  have ht : t.val < 4 := lt_of_lt_of_eq t.isLt N_0
  have e := (at_point t).2.2.2.2.2
  blk_simp
  rw [after0_5]
  have hy0 : (y 0).val < 1024 := (y 0).isLt
  have e0 : ((cfg0.win 5).blk t).view.emb y 0 = (⟨1024 * t.val + (y 0).val, by omega⟩ : Fin 4096) := by
    apply Fin.ext
    blk_simp [e]
    show t.val * 1024 + (y 0).val = 1024 * t.val + (y 0).val
    omega
  have e1 : ((cfg0.win 5).blk t).view.emb y 1 = (⟨(y 1).val, (y 1).isLt⟩ : Fin 1024) := by
    apply Fin.ext
    blk_simp [e]
  refine (out_apply _ _ _ y).trans ?_
  exact project_congr ((block0 m c t ht _).trans (congrArg (row _) e0.symm)) (congrArg (row · 0) (block1 m c t))
    (congrArg (fun w k => row w k) (block3 m c t)) e1.symm

end Cert.Memory

end
-- ==== Proof.Memory.Claims.lean ====
/-
  The claims about the memory call.
-/
module

public import proofs.«01_k».proof.Defs
public import proofs.«01_k».proof.Proof.Memory.Array
public import proofs.«01_k».proof.Proof.Layer.HostRows
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Memory

open Idealize.ShloMosaic hiding ix0 ix1 ix2 ix3 ix4 ix5
open Idealize.ShloMosaic.ValueIdx Cert.Layer Idealize.SL.Sem

section
open Cert.Reference4Ideal Cert.Reference4Ideal.Gen Cert.Reference4Ideal.Read

theorem reference_eq (x : FVec Ideal S4096x1024 .f32) (g : FVec Ideal S1x1024 .f32) (w : FVec Ideal S1024x1024 .f32) :
    val_main_v13 (F := Ideal) x g w = result x g w := by
  funext i
  obtain ⟨r, l, rfl⟩ := eta i
  have hn : row (val_main_v11 (F := Ideal) x g) r = rms width (row x r) (row g 0) :=
    funext fun l => hostRms_apply 4096 1024 (by norm_num) (by norm_num) 0x44800000#32 (by decide) (by decide) (by decide)
      (by decide) (by decide) (by decide) (by decide) x g r l
  show val_main_v12 (F := Ideal) x g w (ix2 r l) = times (rms width (row x r) (row g 0)) (fun k => row w k) l
  rw [← hn]
  exact hostDense_apply _ _ r l

end

theorem kernel_frame : quiescent_Kernel4 := fun m g _ => Cert.Kernel4.Gen.frame m g

theorem ideal_frame : quiescent_Kernel4Ideal := fun m g _ => Cert.Kernel4Ideal.Gen.frame m g

theorem reference_frame : quiescent_Reference4Ideal := fun m g _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m g)

/-- The kernel's two arrays are the reference's, element by element, for every input. -/
theorem algebraic : algebraic_Kernel4Ideal_Reference4Ideal := by
  intro m g m' g' _ hm
  refine ⟨fun c => result (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    fun c => result (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg3)), ?_, ?_⟩
  · refine (θ_run _ _ _).mono (fun r h c => ?_) (Cert.Kernel4Ideal.Value.run_blocks m g)
    exact ⟨(h c).1.trans (keys_eq m c), (h c).2.1.trans (values_eq m c), (h c).2.2⟩
  · refine (θ_run _ _ _).mono (fun r h c => ?_) (Cert.Reference4Ideal.Value.run m' g')
    refine ⟨(h c).1.trans ?_, (h c).2.1.trans ?_, (h c).2.2⟩
    · rw [Cert.Reference4Ideal.Read.val_main_v13_eq, (hm c).1, (hm c).2.1, (hm c).2.2.1]
      exact reference_eq _ _ _
    · rw [Cert.Reference4Ideal.Read.val_main_v15_eq, (hm c).1, (hm c).2.1, (hm c).2.2.2]
      exact reference_eq _ _ _

end Cert.Memory

end
-- ==== Proof.Merge.Rows.lean ====
/-
  What the merge call does to one row: the gated mixture of the two mixers, the residual, and the attention over the
  memory of its batch in four heads of 256 entries.
-/
module

public import proofs.«01_k».proof.Proof.Layer.Loads
public import proofs.«01_k».proof.Proof.Gen.Kernel5Ideal.Value

@[expose] public section

set_option maxRecDepth 16384

noncomputable section

namespace Cert.Merge

open Idealize.ShloMosaic hiding ix0 ix1 ix2 ix3 ix4 ix5
open Idealize.ShloMosaic.ValueIdx Cert.Layer

/-- The two mixers' projections, each times the sigmoid of its half of the gate. -/
def mixed (yn o : Fin 1024 → EReal) (ws wm : Fin 1024 → Fin 1024 → EReal) (gt gb : Fin 2048 → EReal) (n : Fin 1024) : EReal :=
  Ideal.logistic (gt ⟨n.val, by omega⟩ + gb ⟨n.val, by omega⟩) * times yn ws n
    + Ideal.logistic (gt ⟨1024 + n.val, by omega⟩ + gb ⟨1024 + n.val, by omega⟩) * times o wm n

/-- A row plus the norm of another row's product with a matrix. -/
def joined (x y : Fin 1024 → EReal) (w : Fin 1024 → Fin 1024 → EReal) (g : Fin 1024 → EReal) (l : Fin 1024) : EReal :=
  x l + rms width (times y w) g l

/-- The scale of the queries: 1/16 over the logarithm of 2. -/
def scale : EReal := Named.named (F := Ideal) Cert.Kernel5Ideal.κ "query_scale" (φ := .f32) 0x3DB8AA3B#32

/-- The scaled queries of a row. -/
def queries (h g : Fin 1024 → EReal) (w : Fin 1024 → Fin 1024 → EReal) (n : Fin 1024) : EReal :=
  times (rms width h g) w n * scale

/-- The score of the key `j` in head `hd`. -/
def scores (q : Fin 1024 → EReal) (k : Fin 256 → Fin 1024 → EReal) (hd : Fin 4) (j : Fin 256) : EReal :=
  ∑ d : Fin 256, q ⟨256 * hd.val + d.val, by omega⟩ * k j ⟨256 * hd.val + d.val, by omega⟩

/-- The largest of the scores. -/
def top (s : Fin 256 → EReal) : EReal := (Finset.univ : Finset (Fin 256)).fold max ⊥ s

/-- The values weighted by the powers of two of the scores, over the sum of the powers. -/
def quotient (s v : Fin 256 → EReal) : EReal :=
  Ideal.div (∑ j, Ideal.exp2 (s j - top s) * v j) (∑ j, Ideal.exp2 (s j - top s))

/-- What a row reads from the memory. -/
def looked (q : Fin 1024 → EReal) (k v : Fin 256 → Fin 1024 → EReal) (n : Fin 1024) : EReal :=
  quotient (scores q k ⟨n.val / 256, by omega⟩) (fun j => v j n)

/-- The row after the mixture was added. -/
def hidden (x yn o : Fin 1024 → EReal) (gt gb : Fin 2048 → EReal) (ws wm wo : Fin 1024 → Fin 1024 → EReal)
    (g : Fin 1024 → EReal) : Fin 1024 → EReal := joined x (mixed yn o ws wm gt gb) wo g

/-- The attention over the memory of the row `h`, added to it. -/
def crossed (h g : Fin 1024 → EReal) (wq : Fin 1024 → Fin 1024 → EReal) (k v : Fin 256 → Fin 1024 → EReal)
    (wx : Fin 1024 → Fin 1024 → EReal) (gx : Fin 1024 → EReal) : Fin 1024 → EReal :=
  joined h (looked (queries h g wq) k v) wx gx

end Cert.Merge

end
-- ==== Proof.Merge.Unit.lean ====
/-
  The merge call's body over 512 rows, as vectors, read entry by entry.
-/
module

public import proofs.«01_k».proof.Proof.Merge.Rows

@[expose] public section

set_option maxRecDepth 16384

noncomputable section

namespace Cert.Merge

open Idealize.ShloMosaic hiding ix0 ix1 ix2 ix3 ix4 ix5
open Idealize.ShloMosaic.ValueIdx Cert.Layer Cert.Kernel5Ideal Cert.Kernel5Ideal.Gen Cert.Kernel5Ideal.Facts

/-- The gate: the sigmoid of the logits plus their bias. -/
def gateVec (gt : FVec Ideal S512x2048 .bf16) (gb : FVec Ideal S1x2048 .f32) : FVec Ideal S512x2048 .f32 :=
  logistic (addf (extf .f32 gt bitsLt_bf16_f32) (broadcastTo S512x2048 gb broadcasts_S1x2048_S512x2048))

/-- The gated mixture. -/
def mixVec (yn : FVec Ideal S512x1024 .bf16) (ws : FVec Ideal S1024x1024 .bf16) (o : FVec Ideal S512x1024 .bf16)
    (wm : FVec Ideal S1024x1024 .bf16) (gt : FVec Ideal S512x2048 .bf16) (gb : FVec Ideal S1x2048 .f32) : FVec Ideal S512x1024 .bf16 :=
  truncf .bf16 (addf
    (mulf (extractStridedSlice S512x1024 ![0, 0] (gateVec gt gb) slices_S512x2048_o0_0_S512x1024)
      (dense (φ := .bf16) (ψ := .bf16) 512 1024 1024 yn (shapeCast S1024x1024 ws shapeCasts_S1024x1024_S1024x1024)))
    (mulf (extractStridedSlice S512x1024 ![0, 1024] (gateVec gt gb) slices_S512x2048_o0_1024_S512x1024)
      (dense (φ := .bf16) (ψ := .bf16) 512 1024 1024 o (shapeCast S1024x1024 wm shapeCasts_S1024x1024_S1024x1024)))) bitsLt_bf16_f32

/-- The norm of the rows. -/
abbrev normVec (x : FVec Ideal S512x1024 .f32) (g : FVec Ideal S1x1024 .f32) : FVec Ideal S512x1024 .f32 :=
  rmsVec 512 1024 0x44800000#32 reduces_S512x1024_S512 shapeCasts_S512_S512x1 broadcasts_S512x1_S512x1024 broadcasts_S1x1024_S512x1024 x g

/-- The product with a weight matrix. -/
abbrev throughVec (y : FVec Ideal S512x1024 .bf16) (w : FVec Ideal S1024x1024 .bf16) : FVec Ideal S512x1024 .f32 :=
  dense (φ := .bf16) (ψ := .bf16) 512 1024 1024 y (shapeCast S1024x1024 w shapeCasts_S1024x1024_S1024x1024)

/-- The norm of a product, added. -/
def joinVec (x : FVec Ideal S512x1024 .f32) (y : FVec Ideal S512x1024 .bf16) (w : FVec Ideal S1024x1024 .bf16)
    (g : FVec Ideal S1x1024 .f32) : FVec Ideal S512x1024 .f32 := addf x (normVec (throughVec y w) g)

/-- The scaled queries. -/
def queryVec (h : FVec Ideal S512x1024 .f32) (g : FVec Ideal S1x1024 .f32) (w : FVec Ideal S1024x1024 .bf16) : FVec Ideal S512x1024 .bf16 :=
  truncf .bf16 (mulf (throughVec (truncf .bf16 (normVec h g) bitsLt_bf16_f32) w)
    (broadcast S512x1024 (Named.named κ "query_scale" 0x3DB8AA3B#32))) bitsLt_bf16_f32

/-- The scores of a head whose queries start at column `o`. -/
def scoreVec (o : ℕ) (h : S512x1024.Slices ![0, o] S512x256) (q : FVec Ideal S512x1024 .bf16) (k : FVec Ideal S256x256 .bf16) :
    FVec Ideal S512x256 .f32 :=
  matmul (φ₁ := .bf16) (φ₂ := .bf16) (DotDims.transposedRhs 512 256 256) none (extractStridedSlice S512x256 ![0, o] q h) k
    (constant S512x256 .f32 0x00000000#32)

/-- The powers of two of the scores, the largest of each row subtracted. -/
def powerVec (s : FVec Ideal S512x256 .f32) : FVec Ideal S512x256 .f32 :=
  exp2 (subf s (broadcastTo S512x256 (shapeCast S512x1
    (multiReduction .maximumf [1] S512 s 0xFF800000#32 reduces_S512x256_S512 (.inl rfl) rfl) shapeCasts_S512_S512x1)
    broadcasts_S512x1_S512x256))

/-- One head: the weighted values over the sum of the weights. -/
def headVec (s : FVec Ideal S512x256 .f32) (v : FVec Ideal S256x256 .bf16) : FVec Ideal S512x256 .bf16 :=
  truncf .bf16 (divf
    (dense (φ := .bf16) (ψ := .bf16) 512 256 256 (truncf .bf16 (powerVec s) bitsLt_bf16_f32) v)
    (broadcastTo S512x256 (shapeCast S512x1
      (multiReduction .add [1] S512 (powerVec s) 0x00000000#32 reduces_S512x256_S512 (.inl rfl) rfl) shapeCasts_S512_S512x1)
      broadcasts_S512x1_S512x256)) bitsLt_bf16_f32

/-- The four heads side by side. -/
def lookVec (q : FVec Ideal S512x1024 .bf16) (k0 k1 k2 k3 v0 v1 v2 v3 : FVec Ideal S256x256 .bf16) : FVec Ideal S512x1024 .bf16 :=
  concatenate S512x1024 1
    [⟨S512x256, headVec (scoreVec 0 slices_S512x1024_o0_0_S512x256 q k0) v0⟩,
     ⟨S512x256, headVec (scoreVec 256 slices_S512x1024_o0_256_S512x256 q k1) v1⟩,
     ⟨S512x256, headVec (scoreVec 512 slices_S512x1024_o0_512_S512x256 q k2) v2⟩,
     ⟨S512x256, headVec (scoreVec 768 slices_S512x1024_o0_768_S512x256 q k3) v3⟩]
    concatenates_S512x256_S512x256_S512x256_S512x256_S512x1024_d1

/-! ## Entry by entry -/

theorem gateVec_apply (gt : FVec Ideal S512x2048 .bf16) (gb : FVec Ideal S1x2048 .f32) (r : Fin 512) (j : Fin 2048) :
    gateVec gt gb (ix2 r j) = Ideal.logistic (row gt r j + row gb 0 j) := by
  show Ideal.logistic (gt (ix2 r j) + broadcastTo S512x2048 gb _ (ix2 r j)) = _
  rw [broadcastTo_apply gb _ (ix2 r j) (ix2 0 j) (fun a => ?_)]
  · rfl
  · match a with
    | ⟨0, _⟩ => rfl
    | ⟨1, _⟩ => rfl

theorem throughVec_apply (y : FVec Ideal S512x1024 .bf16) (w : FVec Ideal S1024x1024 .bf16) (r : Fin 512) (n : Fin 1024) :
    throughVec y w (ix2 r n) = times (row y r) (fun k => row w k) n := by
  show dense (φ := .bf16) (ψ := .bf16) 512 1024 1024 y (shapeCast S1024x1024 w _) (ix2 r n) = _
  rw [dense_apply, shapeCast_same (s := S1024x1024)]

theorem normVec_apply (x : FVec Ideal S512x1024 .f32) (g : FVec Ideal S1x1024 .f32) (r : Fin 512) (l : Fin 1024) :
    normVec x g (ix2 r l) = rms width (row x r) (row g 0) l :=
  rmsVec_apply 512 1024 (by norm_num) 0x44800000#32 _ _ _ _ x g r l

theorem mixVec_apply (yn : FVec Ideal S512x1024 .bf16) (ws : FVec Ideal S1024x1024 .bf16) (o : FVec Ideal S512x1024 .bf16)
    (wm : FVec Ideal S1024x1024 .bf16) (gt : FVec Ideal S512x2048 .bf16) (gb : FVec Ideal S1x2048 .f32) (r : Fin 512) (n : Fin 1024) :
    mixVec yn ws o wm gt gb (ix2 r n)
      = mixed (row yn r) (row o r) (fun k => row ws k) (fun k => row wm k) (row gt r) (row gb 0) n := by
  show extractStridedSlice S512x1024 ![0, 0] (gateVec gt gb) _ (ix2 r n) * throughVec yn ws (ix2 r n)
    + extractStridedSlice S512x1024 ![0, 1024] (gateVec gt gb) _ (ix2 r n) * throughVec o wm (ix2 r n) = _
  rw [throughVec_apply, throughVec_apply,
    cut_apply 0 (gateVec gt gb) _ r n (⟨n.val, by omega⟩ : Fin 2048) (Nat.zero_add _).symm,
    cut_apply 1024 (gateVec gt gb) _ r n (⟨1024 + n.val, by omega⟩ : Fin 2048) rfl, gateVec_apply, gateVec_apply]
  rfl

theorem joinVec_apply (x : FVec Ideal S512x1024 .f32) (y : FVec Ideal S512x1024 .bf16) (w : FVec Ideal S1024x1024 .bf16)
    (g : FVec Ideal S1x1024 .f32) (r : Fin 512) (l : Fin 1024) :
    joinVec x y w g (ix2 r l) = joined (row x r) (row y r) (fun k => row w k) (row g 0) l := by
  show x (ix2 r l) + normVec (throughVec y w) g (ix2 r l) = _
  rw [normVec_apply, show row (throughVec y w) r = times (row y r) (fun k => row w k) from funext fun n => throughVec_apply y w r n]
  rfl

theorem queryVec_apply (h : FVec Ideal S512x1024 .f32) (g : FVec Ideal S1x1024 .f32) (w : FVec Ideal S1024x1024 .bf16) (r : Fin 512)
    (n : Fin 1024) : queryVec h g w (ix2 r n) = queries (row h r) (row g 0) (fun k => row w k) n := by
  show throughVec (truncf .bf16 (normVec h g) _) w (ix2 r n) * scale = _
  rw [throughVec_apply, show row (truncf .bf16 (normVec h g) _ : FVec Ideal S512x1024 .bf16) r = rms width (row h r) (row g 0) from
    funext fun l => normVec_apply h g r l]
  rfl

theorem column_apply (m : FVec Ideal S512 .f32) (r : Fin 512) (c : Fin 256) :
    broadcastTo S512x256 (shapeCast S512x1 m shapeCasts_S512_S512x1) broadcasts_S512x1_S512x256 (ix2 r c) = m (ix1 r) := by
  rw [broadcastTo_apply _ _ (ix2 r c) (ix2 r 0) (fun a => ?_),
    shapeCast_apply m _ (ix2 r 0) (ix1 r) (by rw [Shape.rowMajor_val_two, Shape.rowMajor_val_one]; show r.val = r.val * 1 + 0; omega)]
  match a with
  | ⟨0, _⟩ => rfl
  | ⟨1, _⟩ => rfl

theorem lift_row (r : Fin 512) (c : Fin 256) : (reduces_S512x256_S512).lift (ix1 r) c = ix2 r c := by
  funext a; apply Fin.ext
  match a with
  | ⟨0, _⟩ => rfl
  | ⟨1, _⟩ => rfl

theorem powerVec_apply (s : FVec Ideal S512x256 .f32) (r : Fin 512) (c : Fin 256) :
    powerVec s (ix2 r c) = Ideal.exp2 (row s r c - top (row s r)) := by
  show Ideal.exp2 (s (ix2 r c) - broadcastTo S512x256 (shapeCast S512x1 _ _) _ (ix2 r c)) = _
  rw [column_apply]
  refine congrArg (fun m => Ideal.exp2 (s (ix2 r c) - m)) ?_
  refine (Ideal.multiReduction_maximumf_single (a := 1) s _ reduces_S512x256_S512 _ _ (ix1 r)).trans ?_
  show Finset.fold max (Ideal.ofBits .f32 0xFF800000#32) _ _ = _
  rw [show Ideal.ofBits .f32 0xFF800000#32 = (⊥ : EReal) by simp [Ideal.ofBits, Ideal.ieee]]
  exact Finset.fold_congr fun c _ => congrArg s (lift_row r c)

theorem headVec_apply (s : FVec Ideal S512x256 .f32) (v : FVec Ideal S256x256 .bf16) (r : Fin 512) (c : Fin 256) :
    headVec s v (ix2 r c) = quotient (row s r) (fun j => row v j c) := by
  show Ideal.div (dense (φ := .bf16) (ψ := .bf16) 512 256 256 (truncf .bf16 (powerVec s) _) v (ix2 r c))
    (broadcastTo S512x256 (shapeCast S512x1 _ _) _ (ix2 r c)) = _
  rw [dense_apply, column_apply]
  refine congrArg₂ Ideal.div (Finset.sum_congr rfl fun j _ => ?_) ?_
  · exact congrArg (· * row v j c) (powerVec_apply s r j)
  · refine (Ideal.multiReduction_add_single (a := 1) (powerVec s) 0x00000000#32 reduces_S512x256_S512 (.inl rfl) rfl (ix1 r)).trans ?_
    exact Finset.sum_congr rfl fun j _ => (congrArg (powerVec s) (lift_row r j)).trans (powerVec_apply s r j)

theorem scoreVec_apply (o : ℕ) (h : S512x1024.Slices ![0, o] S512x256) (hd : Fin 4) (ho : o = 256 * hd.val)
    (q : FVec Ideal S512x1024 .bf16) (k : FVec Ideal S256x256 .bf16) (K : Fin 256 → Fin 1024 → EReal)
    (hk : ∀ j d, k (ix2 j d) = K j ⟨256 * hd.val + d.val, by omega⟩) (r : Fin 512) :
    row (scoreVec o h q k) r = scores (row q r) K hd := by
  funext j
  refine (Ideal.matmul_transposedRhs_apply none _ k _ r j).trans ?_
  show Ideal.ofBits .f32 0x00000000#32 + _ = _
  rw [Ideal.ofBits_zero_f32, zero_add]
  refine Finset.sum_congr rfl fun d _ => ?_
  rw [hk j d, cut_apply o q h r d ⟨256 * hd.val + d.val, by omega⟩ (by show 256 * hd.val + d.val = o + d.val; omega)]
  rfl

theorem lookVec_apply (q : FVec Ideal S512x1024 .bf16) (k0 k1 k2 k3 v0 v1 v2 v3 : FVec Ideal S256x256 .bf16)
    (K V : Fin 256 → Fin 1024 → EReal)
    (hk0 : ∀ j (d : Fin 256), k0 (ix2 j d) = K j ⟨0 + d.val, by omega⟩) (hk1 : ∀ j (d : Fin 256), k1 (ix2 j d) = K j ⟨256 + d.val, by omega⟩)
    (hk2 : ∀ j (d : Fin 256), k2 (ix2 j d) = K j ⟨512 + d.val, by omega⟩) (hk3 : ∀ j (d : Fin 256), k3 (ix2 j d) = K j ⟨768 + d.val, by omega⟩)
    (hv0 : ∀ j (d : Fin 256), v0 (ix2 j d) = V j ⟨0 + d.val, by omega⟩) (hv1 : ∀ j (d : Fin 256), v1 (ix2 j d) = V j ⟨256 + d.val, by omega⟩)
    (hv2 : ∀ j (d : Fin 256), v2 (ix2 j d) = V j ⟨512 + d.val, by omega⟩) (hv3 : ∀ j (d : Fin 256), v3 (ix2 j d) = V j ⟨768 + d.val, by omega⟩)
    (r : Fin 512) (n : Fin 1024) : lookVec q k0 k1 k2 k3 v0 v1 v2 v3 (ix2 r n) = looked (row q r) K V n := by
  have hn := n.isLt
  unfold lookVec looked
  rcases (by omega : n.val / 256 = 0 ∨ n.val / 256 = 1 ∨ n.val / 256 = 2 ∨ n.val / 256 = 3) with h | h | h | h
  · have hl : n.val < 256 := by omega
    rw [beside_apply _ _ 0 (by simp) (headVec (scoreVec 0 slices_S512x1024_o0_0_S512x256 q k0) v0) rfl 0 rfl r ⟨n.val, hl⟩ n (Nat.zero_add _),
      headVec_apply, scoreVec_apply 0 _ 0 rfl q k0 K hk0]
    refine congrArg₂ quotient (congrArg _ (Fin.ext h.symm)) (funext fun j => (hv0 j _).trans (congrArg (V j) (Fin.ext (Nat.zero_add _))))
  · have hl : n.val - 256 < 256 := by omega
    rw [beside_apply _ _ 1 (by simp) (headVec (scoreVec 256 slices_S512x1024_o0_256_S512x256 q k1) v1) rfl 256 rfl r ⟨n.val - 256, hl⟩ n (by show 256 + (n.val - 256) = n.val; omega),
      headVec_apply, scoreVec_apply 256 _ 1 rfl q k1 K hk1]
    refine congrArg₂ quotient (congrArg _ (Fin.ext h.symm)) (funext fun j => (hv1 j _).trans (congrArg (V j) (Fin.ext (by show 256 + (n.val - 256) = n.val; omega))))
  · have hl : n.val - 512 < 256 := by omega
    rw [beside_apply _ _ 2 (by simp) (headVec (scoreVec 512 slices_S512x1024_o0_512_S512x256 q k2) v2) rfl 512 rfl r ⟨n.val - 512, hl⟩ n (by show 512 + (n.val - 512) = n.val; omega),
      headVec_apply, scoreVec_apply 512 _ 2 rfl q k2 K hk2]
    refine congrArg₂ quotient (congrArg _ (Fin.ext h.symm)) (funext fun j => (hv2 j _).trans (congrArg (V j) (Fin.ext (by show 512 + (n.val - 512) = n.val; omega))))
  · have hl : n.val - 768 < 256 := by omega
    rw [beside_apply _ _ 3 (by simp) (headVec (scoreVec 768 slices_S512x1024_o0_768_S512x256 q k3) v3) rfl 768 rfl r ⟨n.val - 768, hl⟩ n (by show 768 + (n.val - 768) = n.val; omega),
      headVec_apply, scoreVec_apply 768 _ 3 rfl q k3 K hk3]
    refine congrArg₂ quotient (congrArg _ (Fin.ext h.symm)) (funext fun j => (hv3 j _).trans (congrArg (V j) (Fin.ext (by show 768 + (n.val - 768) = n.val; omega))))

end Cert.Merge

end
-- ==== Proof.Merge.Block.lean ====
/-
  What the merge call's body leaves in its result's block: every row is the attention over the memory of the row with
  the gated mixture added.
-/
module

public import proofs.«01_k».proof.Proof.Merge.Unit

@[expose] public section

set_option maxRecDepth 16384

noncomputable section

namespace Cert.Merge

open Idealize.ShloMosaic hiding ix0 ix1 ix2 ix3 ix4 ix5
open Idealize.ShloMosaic.ValueIdx Cert.Layer Cert.Kernel5Ideal Cert.Kernel5Ideal.Gen Cert.Kernel5Ideal.Facts

section
variable (yn : FVec Ideal S512x1024 .bf16) (ws : FVec Ideal S1024x1024 .bf16) (o : FVec Ideal S512x1024 .bf16)
  (wm : FVec Ideal S1024x1024 .bf16) (gt : FVec Ideal S512x2048 .bf16) (gb : FVec Ideal S1x2048 .f32)
  (w wq wx : FVec Ideal S1024x1024 .bf16) (x h : FVec Ideal S512x1024 .f32) (y q : FVec Ideal S512x1024 .bf16) (g gq gx : FVec Ideal S1x1024 .f32)
  (k k0 k1 k2 k3 v v0 v1 v2 v3 : FVec Ideal S256x256 .bf16) (s : FVec Ideal S512x256 .f32)

theorem upper_mix : k0_pay2 (F := Ideal) yn ws o wm gt gb = mixVec yn ws o wm gt gb := rfl

theorem upper_hidden : k0_pay7 (F := Ideal) y w x g = joinVec x y w g := rfl

theorem lower_through : k0_pay6 (F := Ideal) (k0_pay3 yn ws) (k0_pay4 o wm) (k0_pay5 gt) gb w = throughVec (mixVec yn ws o wm gt gb) w := rfl

theorem lower_hidden : k0_pay9 (F := Ideal) (k0_pay6 (k0_pay3 yn ws) (k0_pay4 o wm) (k0_pay5 gt) gb w) x g
    (k0_pay8 (k0_pay3 yn ws) (k0_pay4 o wm) (k0_pay5 gt) gb w) = joinVec x (mixVec yn ws o wm gt gb) w g := rfl

theorem upper_query : k0_pay10 (F := Ideal) h g w = queryVec h g w := rfl

theorem lower_query (d : FVec Ideal S512x1024 .f32) (e : FVec Ideal S512x1 .f32) (he : k0_pay9 (F := Ideal) d x gq e = h) :
    k0_pay12 (k0_pay11 (F := Ideal) d x gq e g w) = queryVec h g w := by subst he; rfl

theorem head0 : k0_pay22 (F := Ideal) (k0_pay20 q k) (k0_pay21 q k) v = headVec (scoreVec 0 slices_S512x1024_o0_0_S512x256 q k) v := rfl
theorem head1 : k0_pay23 (F := Ideal) (k0_pay13 q k) v = headVec (scoreVec 256 slices_S512x1024_o0_256_S512x256 q k) v := rfl
theorem head2 : k0_pay24 (F := Ideal) (k0_pay14 q k) v = headVec (scoreVec 512 slices_S512x1024_o0_512_S512x256 q k) v := rfl
theorem score3 : k0_pay15 (F := Ideal) q k = scoreVec 768 slices_S512x1024_o0_768_S512x256 q k := rfl

theorem upper_look (a b c : FVec Ideal S512x256 .bf16) : k0_pay28 (F := Ideal) a b c (k0_pay26 s) (k0_pay27 s) v (constant S512x256 .f32 0x00000000#32)
    = concatenate S512x1024 1 [⟨S512x256, a⟩, ⟨S512x256, b⟩, ⟨S512x256, c⟩, ⟨S512x256, headVec s v⟩]
        concatenates_S512x256_S512x256_S512x256_S512x256_S512x1024_d1 := rfl

theorem upper_out : k0_pay33 (F := Ideal) h y w g = joinVec h y w g := rfl

theorem lower0 (a : FVec Ideal S512x1024 .f32) : k0_pay29 (F := Ideal) (k0_pay16 a k) v = headVec (scoreVec 0 slices_S512x1024_o0_0_S512x256 (k0_pay12 a) k) v := rfl
theorem lower1 (a : FVec Ideal S512x1024 .f32) : k0_pay30 (F := Ideal) (k0_pay17 a k) v = headVec (scoreVec 256 slices_S512x1024_o0_256_S512x256 (k0_pay12 a) k) v := rfl
theorem lower2 (a : FVec Ideal S512x1024 .f32) : k0_pay31 (F := Ideal) (k0_pay18 a k) v = headVec (scoreVec 512 slices_S512x1024_o0_512_S512x256 (k0_pay12 a) k) v := rfl
theorem lower3 (a : FVec Ideal S512x1024 .f32) : k0_pay19 (F := Ideal) a k = scoreVec 768 slices_S512x1024_o0_768_S512x256 (k0_pay12 a) k := rfl

theorem lower_out (a b c : FVec Ideal S512x256 .bf16) : k0_pay1 (F := Ideal) h (k0_pay32 s a b c v w) g (k0_pay34 s a b c v w)
    = joinVec h (concatenate S512x1024 1 [⟨S512x256, a⟩, ⟨S512x256, b⟩, ⟨S512x256, c⟩, ⟨S512x256, headVec s v⟩]
        concatenates_S512x256_S512x256_S512x256_S512x256_S512x1024_d1) w g := rfl

/-- The body over 512 rows. -/
def halfVec : FVec Ideal S512x1024 .f32 :=
  joinVec (joinVec x (mixVec yn ws o wm gt gb) w g)
    (lookVec (queryVec (joinVec x (mixVec yn ws o wm gt gb) w g) gq wq) k0 k1 k2 k3 v0 v1 v2 v3) wx gx

theorem halfVec_apply (K V : Fin 256 → Fin 1024 → EReal)
    (hk0 : ∀ j (d : Fin 256), k0 (ix2 j d) = K j ⟨0 + d.val, by omega⟩) (hk1 : ∀ j (d : Fin 256), k1 (ix2 j d) = K j ⟨256 + d.val, by omega⟩)
    (hk2 : ∀ j (d : Fin 256), k2 (ix2 j d) = K j ⟨512 + d.val, by omega⟩) (hk3 : ∀ j (d : Fin 256), k3 (ix2 j d) = K j ⟨768 + d.val, by omega⟩)
    (hv0 : ∀ j (d : Fin 256), v0 (ix2 j d) = V j ⟨0 + d.val, by omega⟩) (hv1 : ∀ j (d : Fin 256), v1 (ix2 j d) = V j ⟨256 + d.val, by omega⟩)
    (hv2 : ∀ j (d : Fin 256), v2 (ix2 j d) = V j ⟨512 + d.val, by omega⟩) (hv3 : ∀ j (d : Fin 256), v3 (ix2 j d) = V j ⟨768 + d.val, by omega⟩)
    (r : Fin 512) (l : Fin 1024) :
    halfVec yn ws o wm gt gb w wq wx x g gq gx k0 k1 k2 k3 v0 v1 v2 v3 (ix2 r l)
      = crossed (hidden (row x r) (row yn r) (row o r) (row gt r) (row gb 0) (fun n => row ws n) (fun n => row wm n) (fun n => row w n) (row g 0))
          (row gq 0) (fun n => row wq n) K V (fun n => row wx n) (row gx 0) l := by
  have eh : row (joinVec x (mixVec yn ws o wm gt gb) w g) r
      = hidden (row x r) (row yn r) (row o r) (row gt r) (row gb 0) (fun n => row ws n) (fun n => row wm n) (fun n => row w n) (row g 0) := by
    funext n
    refine (joinVec_apply _ _ _ _ r n).trans ?_
    rw [show row (mixVec yn ws o wm gt gb) r = _ from funext fun n => mixVec_apply yn ws o wm gt gb r n]
    rfl
  refine (joinVec_apply _ _ _ _ r l).trans ?_
  rw [show row (lookVec _ k0 k1 k2 k3 v0 v1 v2 v3) r = _ from
      funext fun n => lookVec_apply _ k0 k1 k2 k3 v0 v1 v2 v3 K V hk0 hk1 hk2 hk3 hv0 hv1 hv2 hv3 r n,
    show row (queryVec (joinVec x (mixVec yn ws o wm gt gb) w g) gq wq) r = _ from funext fun n => queryVec_apply _ gq wq r n, eh]
  rfl

end

/-- The block a grid point stores. -/
def blockFun (x0 : Vec Ideal S1024x1024 .f32) (x1 x2 : Vec Ideal S1024x1024 .bf16) (x3 : Vec Ideal S1024x2048 .bf16)
    (x4 : Vec Ideal S1x2048 .f32) (x5 x6 x7 : Vec Ideal S1024x1024 .bf16) (x8 x9 : Vec Ideal S1x1024 .f32)
    (x10 : Vec Ideal S1024x1024 .bf16) (x11 x12 : Vec Ideal S256x1024 .bf16) (x13 : Vec Ideal S1024x1024 .bf16)
    (x14 : Vec Ideal S1x1024 .f32) : Vec Ideal S1024x1024 .f32 := fun y =>
  crossed (hidden (row x0 (y 0)) (row x1 (y 0)) (row x2 (y 0)) (row x3 (y 0)) (row x4 0) (fun n => row x5 n) (fun n => row x6 n)
    (fun n => row x7 n) (row x8 0)) (row x9 0) (fun n => row x10 n) (fun j => row x11 j) (fun j => row x12 j) (fun n => row x13 n)
    (row x14 0) (y 1)

section
variable (x0 : Vec Ideal S1024x1024 .f32) (x1 x2 : Vec Ideal S1024x1024 .bf16) (x3 : Vec Ideal S1024x2048 .bf16)
  (x4 : Vec Ideal S1x2048 .f32) (x5 x6 x7 : Vec Ideal S1024x1024 .bf16) (x8 x9 : Vec Ideal S1x1024 .f32)
  (x10 : Vec Ideal S1024x1024 .bf16) (x11 x12 : Vec Ideal S256x1024 .bf16) (x13 : Vec Ideal S1024x1024 .bf16)
  (x14 : Vec Ideal S1x1024 .f32)

/-- The body over the 512 rows loaded from row `a` on is the block's function there. -/
theorem half_block (a : ℕ) (ha : a + 512 ≤ 1024) (inb : ∀ d : Fin 2, ![a, 0] d + ![512, 1024] d ≤ S1024x1024.size d)
    (inb' : ∀ d : Fin 2, ![a, 0] d + ![512, 2048] d ≤ S1024x2048.size d) (r : Fin 512) (l : Fin 1024) :
    halfVec (View.ld x1 (Rect.unit (s := S1024x1024) ![a, 0] ![512, 1024] inb)) x5 (View.ld x2 (Rect.unit (s := S1024x1024) ![a, 0] ![512, 1024] inb)) x6
      (View.ld x3 (Rect.unit (s := S1024x2048) ![a, 0] ![512, 2048] inb')) x4 x7 x10 x13 (View.ld x0 (Rect.unit (s := S1024x1024) ![a, 0] ![512, 1024] inb)) x8 x9 x14
      (View.ld x11 r0_7) (View.ld x11 r0_8) (View.ld x11 r0_9) (View.ld x11 r0_10)
      (View.ld x12 r0_7) (View.ld x12 r0_8) (View.ld x12 r0_9) (View.ld x12 r0_10) (ix2 r l)
      = blockFun x0 x1 x2 x3 x4 x5 x6 x7 x8 x9 x10 x11 x12 x13 x14 (ix2 ⟨a + r.val, by omega⟩ l) := by
  have part : ∀ (z : Vec Ideal S256x1024 .bf16) (b : ℕ) (hb : b + 256 ≤ 1024) (inb : ∀ d : Fin 2, ![0, b] d + ![256, 256] d ≤ S256x1024.size d)
      (j d : Fin 256), View.ld z (Rect.unit (s := S256x1024) ![0, b] ![256, 256] inb) (ix2 j d) = row z j ⟨b + d.val, by omega⟩ :=
    fun z b hb inb j d => (load_apply z 0 b (by omega) hb inb j d).trans (congrArg z (by
      funext e; apply Fin.ext
      match e with
      | ⟨0, _⟩ => exact Nat.zero_add _
      | ⟨1, _⟩ => rfl))
  have rows : ∀ {C : ℕ} {ε : EltTy} (z : Vec Ideal (Mat 1024 C) ε) (inb : ∀ d : Fin 2, ![a, 0] d + ![512, C] d ≤ (Mat 1024 C).size d) (c : Fin C),
      View.ld z (Rect.unit (s := Mat 1024 C) ![a, 0] ![512, C] inb) (ix2 r c) = z (ix2 ⟨a + r.val, by omega⟩ c) :=
    fun z inb c => (load_apply z a 0 ha (by omega) inb r c).trans (congrArg z (by
      funext e; apply Fin.ext
      match e with
      | ⟨0, _⟩ => rfl
      | ⟨1, _⟩ => exact Nat.zero_add _))
  refine (halfVec_apply _ _ _ _ _ _ _ _ _ _ _ _ _ _ _ _ _ _ _ _ _ (fun j => row x11 j) (fun j => row x12 j)
    (part x11 0 (by omega) _) (part x11 256 (by omega) _) (part x11 512 (by omega) _) (part x11 768 (by omega) _)
    (part x12 0 (by omega) _) (part x12 256 (by omega) _) (part x12 512 (by omega) _) (part x12 768 (by omega) _) r l).trans ?_
  rw [show row (View.ld x1 (Rect.unit (s := S1024x1024) ![a, 0] ![512, 1024] inb)) r = row x1 ⟨a + r.val, by omega⟩ from funext fun c => rows x1 inb c,
    show row (View.ld x2 (Rect.unit (s := S1024x1024) ![a, 0] ![512, 1024] inb)) r = row x2 ⟨a + r.val, by omega⟩ from funext fun c => rows x2 inb c,
    show row (View.ld x3 (Rect.unit (s := S1024x2048) ![a, 0] ![512, 2048] inb')) r = row x3 ⟨a + r.val, by omega⟩ from funext fun c => rows x3 inb' c,
    show row (View.ld x0 (Rect.unit (s := S1024x1024) ![a, 0] ![512, 1024] inb)) r = row x0 ⟨a + r.val, by omega⟩ from funext fun c => rows x0 inb c]
  rfl

theorem out_apply (y : S1024x1024.Idx) :
    out0_15 (F := Ideal) x0 x1 x2 x3 x4 x5 x6 x7 x8 x9 x10 x11 x12 x13 x14 y = blockFun x0 x1 x2 x3 x4 x5 x6 x7 x8 x9 x10 x11 x12 x13 x14 y := by
  unfold_out out0_15
  rw [show View.ld x5 r0_1 = x5 from load_all x5 _, show View.ld x6 r0_1 = x6 from load_all x6 _,
    show View.ld x7 r0_1 = x7 from load_all x7 _, show View.ld x10 r0_1 = x10 from load_all x10 _,
    show View.ld x13 r0_1 = x13 from load_all x13 _, show View.ld x4 r0_3 = x4 from load_all x4 _,
    show View.ld x8 r0_6 = x8 from load_all x8 _, show View.ld x9 r0_6 = x9 from load_all x9 _,
    show View.ld x14 r0_6 = x14 from load_all x14 _]
  rw [lower_out, lower_hidden, lower0, lower1, lower2, lower3, lower_query _ _ _ _ _ _ _ (lower_hidden _ _ _ _ _ _ _ _ _),
    upper_out, upper_mix, upper_hidden, upper_query, head0, head1, head2, score3, upper_look]
  refine View.canon_apply_of_pieces (blockFun x0 x1 x2 x3 x4 x5 x6 x7 x8 x9 x10 x11 x12 x13 x14) _ ?_ y (cover0_15 _ _ y)
  refine List.forall_mem_cons.2 ⟨fun x => ?_, List.forall_mem_cons.2 ⟨fun x => ?_, fun p hp => absurd hp (by simp)⟩⟩
  · obtain ⟨r, l, rfl⟩ := eta x
    refine (half_block x0 x1 x2 x3 x4 x5 x6 x7 x8 x9 x10 x11 x12 x13 x14 512 (by omega) (by decide) (by decide) r l).trans
      (congrArg (blockFun x0 x1 x2 x3 x4 x5 x6 x7 x8 x9 x10 x11 x12 x13 x14) ?_)
    exact ((emb_block (R := 1024) (C := 1024) 512 0 (by omega) (by omega) (by decide) r l).trans
      (congrArg (ix2 _) (Fin.ext (Nat.zero_add _)))).symm
  · obtain ⟨r, l, rfl⟩ := eta x
    refine (half_block x0 x1 x2 x3 x4 x5 x6 x7 x8 x9 x10 x11 x12 x13 x14 0 (by omega) (by decide) (by decide) r l).trans
      (congrArg (blockFun x0 x1 x2 x3 x4 x5 x6 x7 x8 x9 x10 x11 x12 x13 x14) ?_)
    exact ((emb_block (R := 1024) (C := 1024) 0 0 (by omega) (by omega) (by decide) r l).trans
      (congrArg (ix2 _) (Fin.ext (Nat.zero_add _)))).symm

end

end Cert.Merge

end
-- ==== Proof.Merge.Array.lean ====
/-
  The merge call's result array, of its argument arrays.
-/
module

public import proofs.«01_k».proof.Proof.Merge.Block

@[expose] public section

set_option maxRecDepth 16384

noncomputable section

namespace Cert.Merge

open Idealize.ShloMosaic hiding ix0 ix1 ix2 ix3 ix4 ix5
open Idealize.ShloMosaic.ValueIdx Cert.Layer Cert.Kernel5Ideal Cert.Kernel5Ideal.Gen Cert.Kernel5Ideal.Facts

/-- A column with the two heads of its pair exchanged. -/
def other (k : Fin 1024) : Fin 1024 := ⟨128 * (k.val / 128) + (k.val % 128 + 64) % 128, by omega⟩

/-- Where each window stands at a grid point. -/
theorem at_point : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val / 2, 0] ∧ win0_12.index t = ![t.val / 2, 0] ∧ win0_13.index t = ![0, 0] ∧ win0_14.index t = ![0, 0] ∧ win0_15.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val / 2, 0] ∧ win0_12.index t = ![t.val / 2, 0] ∧ win0_13.index t = ![0, 0] ∧ win0_14.index t = ![0, 0] ∧ win0_15.index t = ![t.val, 0])

variable (m : (ℓ : Loc nD τ sig) → Buf (Elt Ideal) ℓ) (c : Dev nD)

theorem block0 (t : Fin cfg0.N) (ht : t.val < 32) (r : Fin 1024) : row (iblk m c 0 t : (Mat 1024 1024).Idx → EReal) r
    = row (m ((c.tc : Thread nD τ).loc main_arg0) : (Mat 32768 1024).Idx → EReal) ⟨1024 * t.val + r.val, by omega⟩ := by
  funext l
  show iblk m c 0 t (ix2 r l) = m ((c.tc : Thread nD τ).loc main_arg0) (ix2 (⟨1024 * t.val + r.val, by omega⟩ : Fin 32768) l)
  rw [← V_main_arg0 m c]
  have e := (at_point t).1
  blk_simp [iblk]
  refine congrArg (V m c main_arg0) ?_
  funext a
  apply Fin.ext
  match a with
  | ⟨0, _⟩ => blk_simp [e]; show t.val * 1024 + r.val = 1024 * t.val + r.val; omega
  | ⟨1, _⟩ => blk_simp [e]

theorem block1 (t : Fin cfg0.N) (ht : t.val < 32) (r : Fin 1024) : row (iblk m c 1 t : (Mat 1024 1024).Idx → EReal) r
    = row (m ((c.tc : Thread nD τ).loc main_arg1) : (Mat 32768 1024).Idx → EReal) ⟨1024 * t.val + r.val, by omega⟩ := by
  funext l
  show iblk m c 1 t (ix2 r l) = m ((c.tc : Thread nD τ).loc main_arg1) (ix2 (⟨1024 * t.val + r.val, by omega⟩ : Fin 32768) l)
  rw [← V_main_arg1 m c]
  have e := (at_point t).2.1
  blk_simp [iblk]
  refine congrArg (V m c main_arg1) ?_
  funext a
  apply Fin.ext
  match a with
  | ⟨0, _⟩ => blk_simp [e]; show t.val * 1024 + r.val = 1024 * t.val + r.val; omega
  | ⟨1, _⟩ => blk_simp [e]

theorem block2 (t : Fin cfg0.N) (ht : t.val < 32) (r : Fin 1024) : row (iblk m c 2 t : (Mat 1024 1024).Idx → EReal) r
    = row (m ((c.tc : Thread nD τ).loc main_arg2) : (Mat 32768 1024).Idx → EReal) ⟨1024 * t.val + r.val, by omega⟩ := by
  funext l
  show iblk m c 2 t (ix2 r l) = m ((c.tc : Thread nD τ).loc main_arg2) (ix2 (⟨1024 * t.val + r.val, by omega⟩ : Fin 32768) l)
  rw [← V_main_arg2 m c]
  have e := (at_point t).2.2.1
  blk_simp [iblk]
  refine congrArg (V m c main_arg2) ?_
  funext a
  apply Fin.ext
  match a with
  | ⟨0, _⟩ => blk_simp [e]; show t.val * 1024 + r.val = 1024 * t.val + r.val; omega
  | ⟨1, _⟩ => blk_simp [e]

theorem block3 (t : Fin cfg0.N) (ht : t.val < 32) (r : Fin 1024) : row (iblk m c 3 t : (Mat 1024 2048).Idx → EReal) r
    = row (m ((c.tc : Thread nD τ).loc main_arg3) : (Mat 32768 2048).Idx → EReal) ⟨1024 * t.val + r.val, by omega⟩ := by
  funext l
  show iblk m c 3 t (ix2 r l) = m ((c.tc : Thread nD τ).loc main_arg3) (ix2 (⟨1024 * t.val + r.val, by omega⟩ : Fin 32768) l)
  rw [← V_main_arg3 m c]
  have e := (at_point t).2.2.2.1
  blk_simp [iblk]
  refine congrArg (V m c main_arg3) ?_
  funext a
  apply Fin.ext
  match a with
  | ⟨0, _⟩ => blk_simp [e]; show t.val * 1024 + r.val = 1024 * t.val + r.val; omega
  | ⟨1, _⟩ => blk_simp [e]

theorem block11 (t : Fin cfg0.N) (ht : t.val < 32) (r : Fin 256) : row (iblk m c 11 t : (Mat 256 1024).Idx → EReal) r
    = row (m ((c.tc : Thread nD τ).loc main_arg11) : (Mat 4096 1024).Idx → EReal) ⟨256 * (t.val / 2) + r.val, by omega⟩ := by
  funext l
  show iblk m c 11 t (ix2 r l) = m ((c.tc : Thread nD τ).loc main_arg11) (ix2 (⟨256 * (t.val / 2) + r.val, by omega⟩ : Fin 4096) l)
  rw [← V_main_arg11 m c]
  have e := (at_point t).2.2.2.2.2.2.2.2.2.2.2.1
  blk_simp [iblk]
  refine congrArg (V m c main_arg11) ?_
  funext a
  apply Fin.ext
  match a with
  | ⟨0, _⟩ => blk_simp [e]; show t.val / 2 * 256 + r.val = 256 * (t.val / 2) + r.val; omega
  | ⟨1, _⟩ => blk_simp [e]

theorem block12 (t : Fin cfg0.N) (ht : t.val < 32) (r : Fin 256) : row (iblk m c 12 t : (Mat 256 1024).Idx → EReal) r
    = row (m ((c.tc : Thread nD τ).loc main_arg12) : (Mat 4096 1024).Idx → EReal) ⟨256 * (t.val / 2) + r.val, by omega⟩ := by
  funext l
  show iblk m c 12 t (ix2 r l) = m ((c.tc : Thread nD τ).loc main_arg12) (ix2 (⟨256 * (t.val / 2) + r.val, by omega⟩ : Fin 4096) l)
  rw [← V_main_arg12 m c]
  have e := (at_point t).2.2.2.2.2.2.2.2.2.2.2.2.1
  blk_simp [iblk]
  refine congrArg (V m c main_arg12) ?_
  funext a
  apply Fin.ext
  match a with
  | ⟨0, _⟩ => blk_simp [e]; show t.val / 2 * 256 + r.val = 256 * (t.val / 2) + r.val; omega
  | ⟨1, _⟩ => blk_simp [e]

theorem block4 (t : Fin cfg0.N) : iblk m c 4 t = m ((c.tc : Thread nD τ).loc main_arg4) := by
  have e := (at_point t).2.2.2.2.1
  funext z
  rw [← V_main_arg4 m c]
  blk_simp [iblk]
  refine congrArg (V m c main_arg4) ?_
  funext a
  apply Fin.ext
  match a with
  | ⟨0, _⟩ => blk_simp [e]
  | ⟨1, _⟩ => blk_simp [e]

theorem cast5 : V m c main_v3 = (m ((c.tc : Thread nD τ).loc main_arg5) : (Mat 1024 1024).Idx → EReal) := by
  unfold_abbrev_sides
  after_results
  rfl

theorem block5 (t : Fin cfg0.N) : iblk m c 5 t = (m ((c.tc : Thread nD τ).loc main_arg5) : (Mat 1024 1024).Idx → EReal) := by
  have e := (at_point t).2.2.2.2.2.1
  funext z
  refine Eq.trans ?_ (congrFun (cast5 m c) z)
  blk_simp [iblk]
  refine congrArg (V m c main_v3) ?_
  funext a
  apply Fin.ext
  match a with
  | ⟨0, _⟩ => blk_simp [e]
  | ⟨1, _⟩ => blk_simp [e]

/-- The rows of a matrix, split in pairs of 64, with the two of each pair exchanged. -/
theorem exchanged (w : (Mat 1024 1024).Idx → EReal) (k n : Fin 1024) :
    shapeCast S1024x1024 (Host.reverse [1] (shapeCast S8x2x64x1024 w shapeCasts_S1024x1024_S8x2x64x1024))
      shapeCasts_S8x2x64x1024_S1024x1024 (ix2 k n) = w (ix2 (other k) n) := by
  have hk := k.isLt
  rw [shapeCast_apply _ _ (ix2 k n) (ix4 (⟨k.val / 128, by omega⟩ : Fin 8) (⟨k.val % 128 / 64, by omega⟩ : Fin 2) (⟨k.val % 64, by omega⟩ : Fin 64) n)
    (by rw [Shape.rowMajor_val_two, Shape.rowMajor_val_four]
        show ((k.val / 128 * 2 + k.val % 128 / 64) * 64 + k.val % 64) * 1024 + n.val = k.val * 1024 + n.val
        have : (k.val / 128 * 2 + k.val % 128 / 64) * 64 + k.val % 64 = k.val := by omega
        rw [this]), Host.reverse_apply]
  refine shapeCast_apply w _ _ (ix2 (other k) n) ?_
  rw [Shape.rowMajor_val_two, Shape.rowMajor_val_four]
  show (128 * (k.val / 128) + (k.val % 128 + 64) % 128) * 1024 + n.val
    = ((k.val / 128 * 2 + (2 - (k.val % 128 / 64 + 1))) * 64 + k.val % 64) * 1024 + n.val
  have : (k.val / 128 * 2 + (2 - (k.val % 128 / 64 + 1))) * 64 + k.val % 64 = 128 * (k.val / 128) + (k.val % 128 + 64) % 128 := by omega
  rw [this]

theorem cast6_host : V m c main_v4 = (shapeCast S1024x1024 (Host.reverse [1] (shapeCast S8x2x64x1024
    (m ((c.tc : Thread nD τ).loc main_arg6) : S1024x1024.Idx → EReal) shapeCasts_S1024x1024_S8x2x64x1024)) shapeCasts_S8x2x64x1024_S1024x1024) := by
  unfold_abbrev_sides
  after_results
  rfl

theorem cast6 : V m c main_v4 = fun z => (m ((c.tc : Thread nD τ).loc main_arg6) : (Mat 1024 1024).Idx → EReal) (ix2 (other (z 0)) (z 1)) := by
  funext z
  obtain ⟨k, n, rfl⟩ := eta z
  exact (congrFun (cast6_host m c) (ix2 k n)).trans (exchanged _ k n)

theorem block6 (t : Fin cfg0.N) : iblk m c 6 t = fun z => (m ((c.tc : Thread nD τ).loc main_arg6) : (Mat 1024 1024).Idx → EReal) (ix2 (other (z 0)) (z 1)) := by
  have e := (at_point t).2.2.2.2.2.2.1
  funext z
  refine Eq.trans ?_ (congrFun (cast6 m c) z)
  blk_simp [iblk]
  refine congrArg (V m c main_v4) ?_
  funext a
  apply Fin.ext
  match a with
  | ⟨0, _⟩ => blk_simp [e]
  | ⟨1, _⟩ => blk_simp [e]

theorem cast7 : V m c main_v5 = (m ((c.tc : Thread nD τ).loc main_arg7) : (Mat 1024 1024).Idx → EReal) := by
  unfold_abbrev_sides
  after_results
  rfl

theorem block7 (t : Fin cfg0.N) : iblk m c 7 t = (m ((c.tc : Thread nD τ).loc main_arg7) : (Mat 1024 1024).Idx → EReal) := by
  have e := (at_point t).2.2.2.2.2.2.2.1
  funext z
  refine Eq.trans ?_ (congrFun (cast7 m c) z)
  blk_simp [iblk]
  refine congrArg (V m c main_v5) ?_
  funext a
  apply Fin.ext
  match a with
  | ⟨0, _⟩ => blk_simp [e]
  | ⟨1, _⟩ => blk_simp [e]

theorem block8 (t : Fin cfg0.N) : iblk m c 8 t = m ((c.tc : Thread nD τ).loc main_arg8) := by
  have e := (at_point t).2.2.2.2.2.2.2.2.1
  funext z
  rw [← V_main_arg8 m c]
  blk_simp [iblk]
  refine congrArg (V m c main_arg8) ?_
  funext a
  apply Fin.ext
  match a with
  | ⟨0, _⟩ => blk_simp [e]
  | ⟨1, _⟩ => blk_simp [e]

theorem block9 (t : Fin cfg0.N) : iblk m c 9 t = m ((c.tc : Thread nD τ).loc main_arg9) := by
  have e := (at_point t).2.2.2.2.2.2.2.2.2.1
  funext z
  rw [← V_main_arg9 m c]
  blk_simp [iblk]
  refine congrArg (V m c main_arg9) ?_
  funext a
  apply Fin.ext
  match a with
  | ⟨0, _⟩ => blk_simp [e]
  | ⟨1, _⟩ => blk_simp [e]

theorem cast10 : V m c main_v6 = (m ((c.tc : Thread nD τ).loc main_arg10) : (Mat 1024 1024).Idx → EReal) := by
  unfold_abbrev_sides
  after_results
  rfl

theorem block10 (t : Fin cfg0.N) : iblk m c 10 t = (m ((c.tc : Thread nD τ).loc main_arg10) : (Mat 1024 1024).Idx → EReal) := by
  have e := (at_point t).2.2.2.2.2.2.2.2.2.2.1
  funext z
  refine Eq.trans ?_ (congrFun (cast10 m c) z)
  blk_simp [iblk]
  refine congrArg (V m c main_v6) ?_
  funext a
  apply Fin.ext
  match a with
  | ⟨0, _⟩ => blk_simp [e]
  | ⟨1, _⟩ => blk_simp [e]

theorem cast13 : V m c main_v7 = (m ((c.tc : Thread nD τ).loc main_arg13) : (Mat 1024 1024).Idx → EReal) := by
  unfold_abbrev_sides
  after_results
  rfl

theorem block13 (t : Fin cfg0.N) : iblk m c 13 t = (m ((c.tc : Thread nD τ).loc main_arg13) : (Mat 1024 1024).Idx → EReal) := by
  have e := (at_point t).2.2.2.2.2.2.2.2.2.2.2.2.2.1
  funext z
  refine Eq.trans ?_ (congrFun (cast13 m c) z)
  blk_simp [iblk]
  refine congrArg (V m c main_v7) ?_
  funext a
  apply Fin.ext
  match a with
  | ⟨0, _⟩ => blk_simp [e]
  | ⟨1, _⟩ => blk_simp [e]

theorem block14 (t : Fin cfg0.N) : iblk m c 14 t = m ((c.tc : Thread nD τ).loc main_arg14) := by
  have e := (at_point t).2.2.2.2.2.2.2.2.2.2.2.2.2.2.1
  funext z
  rw [← V_main_arg14 m c]
  blk_simp [iblk]
  refine congrArg (V m c main_arg14) ?_
  funext a
  apply Fin.ext
  match a with
  | ⟨0, _⟩ => blk_simp [e]
  | ⟨1, _⟩ => blk_simp [e]

/-- The `j`-th entry of the memory of the batch the row `R` is in. -/
def slot (R : Fin 32768) (j : Fin 256) : Fin 4096 := ⟨256 * (R.val / 2048) + j.val, by omega⟩

/-- The row `R` after the mixture was added. -/
def mergedRow (x : (Mat 32768 1024).Idx → EReal) (yn o : (Mat 32768 1024).Idx → EReal) (gt : (Mat 32768 2048).Idx → EReal)
    (gb : (Mat 1 2048).Idx → EReal) (ws wm w : (Mat 1024 1024).Idx → EReal) (g : (Mat 1 1024).Idx → EReal) (R : Fin 32768) : Fin 1024 → EReal :=
  hidden (row x R) (row yn R) (row o R) (row gt R) (row gb 0) (fun n => row ws n) (fun n => row wm (other n)) (fun n => row w n) (row g 0)

/-- The row `R` of the result: the merged row and what it reads from the memory of its batch. -/
def resultRow (x : (Mat 32768 1024).Idx → EReal) (yn o : (Mat 32768 1024).Idx → EReal) (gt : (Mat 32768 2048).Idx → EReal)
    (gb : (Mat 1 2048).Idx → EReal) (ws wm w : (Mat 1024 1024).Idx → EReal) (g gq : (Mat 1 1024).Idx → EReal)
    (wq : (Mat 1024 1024).Idx → EReal) (k v : (Mat 4096 1024).Idx → EReal) (wx : (Mat 1024 1024).Idx → EReal)
    (gx : (Mat 1 1024).Idx → EReal) (R : Fin 32768) : Fin 1024 → EReal :=
  crossed (mergedRow x yn o gt gb ws wm w g R) (row gq 0) (fun n => row wq n) (fun j => row k (slot R j)) (fun j => row v (slot R j))
    (fun n => row wx n) (row gx 0)

/-- The result. -/
def result (x : (Mat 32768 1024).Idx → EReal) (yn o : (Mat 32768 1024).Idx → EReal) (gt : (Mat 32768 2048).Idx → EReal)
    (gb : (Mat 1 2048).Idx → EReal) (ws wm w : (Mat 1024 1024).Idx → EReal) (g gq : (Mat 1 1024).Idx → EReal)
    (wq : (Mat 1024 1024).Idx → EReal) (k v : (Mat 4096 1024).Idx → EReal) (wx : (Mat 1024 1024).Idx → EReal)
    (gx : (Mat 1 1024).Idx → EReal) : Vec Ideal S32768x1024 .f32 := fun i => resultRow x yn o gt gb ws wm w g gq wq k v wx gx (i 0) (i 1)

theorem block_row (t : Fin cfg0.N) (ht : t.val < 32) (r l : Fin 1024) : blockFun (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r l)
    = resultRow (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      ⟨1024 * t.val + r.val, by omega⟩ l := by
  show crossed (hidden (row (iblk m c 0 t : (Mat 1024 1024).Idx → EReal) r) (row (iblk m c 1 t : (Mat 1024 1024).Idx → EReal) r)
      (row (iblk m c 2 t : (Mat 1024 1024).Idx → EReal) r) (row (iblk m c 3 t : (Mat 1024 2048).Idx → EReal) r)
      (row (iblk m c 4 t : (Mat 1 2048).Idx → EReal) 0) (fun n => row (iblk m c 5 t : (Mat 1024 1024).Idx → EReal) n)
      (fun n => row (iblk m c 6 t : (Mat 1024 1024).Idx → EReal) n) (fun n => row (iblk m c 7 t : (Mat 1024 1024).Idx → EReal) n)
      (row (iblk m c 8 t : (Mat 1 1024).Idx → EReal) 0)) (row (iblk m c 9 t : (Mat 1 1024).Idx → EReal) 0)
    (fun n => row (iblk m c 10 t : (Mat 1024 1024).Idx → EReal) n) (fun j => row (iblk m c 11 t : (Mat 256 1024).Idx → EReal) j)
    (fun j => row (iblk m c 12 t : (Mat 256 1024).Idx → EReal) j) (fun n => row (iblk m c 13 t : (Mat 1024 1024).Idx → EReal) n)
    (row (iblk m c 14 t : (Mat 1 1024).Idx → EReal) 0) l = _
  have hb : (1024 * t.val + r.val) / 2048 = t.val / 2 := by omega
  have hs : ∀ j : Fin 256, slot ⟨1024 * t.val + r.val, by omega⟩ j = ⟨256 * (t.val / 2) + j.val, by omega⟩ := fun j => Fin.ext (by
    show 256 * ((1024 * t.val + r.val) / 2048) + j.val = 256 * (t.val / 2) + j.val
    rw [hb])
  rw [block0 m c t ht, block1 m c t ht, block2 m c t ht, block3 m c t ht, block4 m c t, block5 m c t, block6 m c t, block7 m c t,
    block8 m c t, block9 m c t, block10 m c t, block13 m c t, block14 m c t,
    show (fun j : Fin 256 => row (iblk m c 11 t : (Mat 256 1024).Idx → EReal) j) = _ from
      funext fun j => (block11 m c t ht j).trans (congrArg (row _) (hs j).symm),
    show (fun j : Fin 256 => row (iblk m c 12 t : (Mat 256 1024).Idx → EReal) j) = _ from
      funext fun j => (block12 m c t ht j).trans (congrArg (row _) (hs j).symm)]
  rfl

/-- The array the call leaves. -/
theorem array_eq : (dats m 0 c).arrAt 15 cfg0.N = result (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14)) := by
  refine (dats m 0 c).arrAt_eq_of_covers 15 _ (by decide +kernel) fun t hf y => ?_
  have ht : t.val < 32 := lt_of_lt_of_eq t.isLt N_0
  have e := (at_point t).2.2.2.2.2.2.2.2.2.2.2.2.2.2.2
  blk_simp
  rw [after0_15]
  have hy0 : (y 0).val < 1024 := (y 0).isLt
  have e0 : ((cfg0.win 15).blk t).view.emb y 0 = (⟨1024 * t.val + (y 0).val, by omega⟩ : Fin 32768) := by
    apply Fin.ext
    blk_simp [e]
    show t.val * 1024 + (y 0).val = 1024 * t.val + (y 0).val
    omega
  have e1 : ((cfg0.win 15).blk t).view.emb y 1 = (⟨(y 1).val, (y 1).isLt⟩ : Fin 1024) := by
    apply Fin.ext
    blk_simp [e]
  refine (out_apply _ _ _ _ _ _ _ _ _ _ _ _ _ _ _ y).trans ((block_row m c t ht (y 0) (y 1)).trans ?_)
  exact congrArg₂ (resultRow _ _ _ _ _ _ _ _ _ _ _ _ _ _ _) e0.symm e1.symm

end Cert.Merge

end
-- ==== Proof.Merge.Scores.lean ====
/-
  The scores of the memory's keys are real numbers, since the norm of any row is; so the quotient of the kernel is
  the softmax's.
-/
module

public import proofs.«01_k».proof.Proof.Merge.Array
public import proofs.«01_k».proof.Proof.Attention.Weights

@[expose] public section

set_option maxRecDepth 16384

noncomputable section

namespace Cert.Merge

open Idealize.ShloMosaic hiding ix0 ix1 ix2 ix3 ix4 ix5
open Idealize.ShloMosaic.ValueIdx Cert.Layer
open Cert.Attention (weight Score attend exp2_sub exp_sub coe_mul_sum coe_sum score_fold le_fold real_of_le div_common softmax_attend
  weight_pos_of_coe weight_nonneg)

/-- A real number among the extended ones. -/
def IsReal (x : EReal) : Prop := ∃ r : ℝ, x = (r : EReal)

theorem mul_real {x y : EReal} (hx : IsReal x) (hy : IsReal y) : IsReal (x * y) := by
  obtain ⟨a, rfl⟩ := hx; obtain ⟨b, rfl⟩ := hy
  exact ⟨a * b, (EReal.coe_mul a b).symm⟩

theorem sum_real {ι : Type} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

theorem width_eq : width = ((1024 : ℝ) : EReal) := by
  simp [width, Ideal.ofBits, Ideal.ieee]
  rw [← EReal.coe_mul]
  congr 1
  norm_num

/-- The number added to the mean square is a positive real number. -/
theorem small_word : ∃ e : ℝ, 0 < e ∧ Ideal.ofBits .f32 0x358637BD#32 = (e : EReal) := by
  simp [Ideal.ofBits, Ideal.ieee]
  refine ⟨_, ?_, (EReal.coe_mul _ _).symm⟩
  norm_num

theorem square_nonneg (x : EReal) : 0 ≤ x * x := by
  induction x using EReal.rec with
  | bot => simp
  | coe r => rw [← EReal.coe_mul]; exact EReal.coe_nonneg.mpr (mul_self_nonneg r)
  | top => simp

theorem square_top {x : EReal} (h : x * x ≠ ⊤) : IsReal x := by
  induction x using EReal.rec with
  | bot => simp at h
  | coe r => exact ⟨r, rfl⟩
  | top => simp at h

/-- The norm of any row is real if the gains are: an infinite sum of squares norms every entry to zero. -/
theorem rms_real (x g : Fin 1024 → EReal) (hg : ∀ l, IsReal (g l)) (l : Fin 1024) : IsReal (rms width x g l) := by
  unfold rms
  refine mul_real ?_ (hg l)
  obtain ⟨e, he, hw⟩ := small_word
  have n0 : ((1024 : ℝ) : EReal) ≠ 0 := by exact_mod_cast (by norm_num : (1024 : ℝ) ≠ 0)
  have nonneg : 0 ≤ ∑ k, x k * x k := Finset.sum_nonneg fun k _ => square_nonneg _
  rw [hw, width_eq, Ideal.div, if_neg n0, ← EReal.coe_inv]
  by_cases ht : ∑ k, x k * x k = ⊤
  · rw [ht, EReal.top_mul_coe_of_pos (by norm_num), EReal.top_add_coe]
    exact ⟨0, by rw [Ideal.rsqrt_top]; simp⟩
  · have hx : IsReal (x l) := square_top fun h => ht (top_le_iff.mp (h ▸
      Finset.single_le_sum (f := fun k => x k * x k) (fun k _ => square_nonneg _) (Finset.mem_univ l)))
    refine mul_real hx ?_
    generalize ∑ k, x k * x k = s at *
    induction s using EReal.rec with
    | bot => simp at nonneg
    | top => exact absurd rfl ht
    | coe r =>
      have hr : 0 ≤ r := EReal.coe_nonneg.mp nonneg
      have hp : 0 < r * (1024 : ℝ)⁻¹ + e := by positivity
      rw [← EReal.coe_mul, ← EReal.coe_add]
      refine ⟨(Real.sqrt (r * (1024 : ℝ)⁻¹ + e))⁻¹, ?_⟩
      rw [Ideal.rsqrt_coe, if_neg hp.not_gt, if_neg hp.ne']

theorem scale_eq : scale = (((1 / 16) * (Real.log 2)⁻¹ : ℝ) : EReal) := IdealRules.named_const.ideal_named_scalar _ _ _ _ rfl

/-- The kernel's quotient is the attention of the scores, which are real. -/
theorem quotient_attend (s v : Fin 256 → EReal) (hs : ∀ j, IsReal (s j)) : quotient s v = attend s v := by
  have score : ∀ j, Score (s j) := fun j => Or.inr (hs j)
  obtain ⟨r₀, h₀⟩ := hs 0
  obtain ⟨M, hM⟩ : ∃ M : ℝ, top s = (M : EReal) := by
    refine real_of_le (score_fold _ _ score) r₀ ?_
    rw [← h₀]
    exact le_fold Finset.univ s 0 (Finset.mem_univ _)
  have hC : 0 < Real.rpow 2 (-M) := Real.rpow_pos_of_pos (by norm_num) _
  have hD : 0 < ∑ j, weight (s j) :=
    Finset.sum_pos' (fun j _ => weight_nonneg _) ⟨0, Finset.mem_univ _, by rw [h₀]; exact weight_pos_of_coe r₀⟩
  unfold quotient
  rw [hM]
  have e1 : ∀ j, Ideal.exp2 (s j - (M : EReal)) * v j
      = ((Real.rpow 2 (-M) : ℝ) : EReal) * ((weight (s j) : EReal) * v j) := fun j => by
    rw [exp2_sub (score j), mul_comm (weight (s j)), EReal.coe_mul, mul_assoc]
  have e2 : ∀ j, Ideal.exp2 (s j - (M : EReal)) = ((Real.rpow 2 (-M) * weight (s j) : ℝ) : EReal) := fun j => by
    rw [exp2_sub (score j), mul_comm (weight (s j))]
  rw [Finset.sum_congr rfl fun j _ => e1 j, Finset.sum_congr rfl fun j _ => e2 j, ← coe_mul_sum _ _ hC.le, ← coe_sum,
    ← Finset.mul_sum]
  exact div_common hC hD _

/-- The softmax of the scores times the logarithm of 2, over the values, is that attention too. -/
theorem softmax_eq (s v y e : Fin 256 → EReal) (hs : ∀ j, IsReal (s j)) (hy : ∀ j, y j = s j * ((Real.log 2 : ℝ) : EReal))
    (he : ∀ j, e j = Ideal.exp (y j - max ⊥ ((Finset.univ : Finset (Fin 256)).fold max ⊥ y))) :
    ∑ j, v j * Ideal.div (e j) (∑ i, e i) = quotient s v := by
  have hyr : ∀ j, IsReal (y j) := fun j => by rw [hy j]; exact mul_real (hs j) ⟨_, rfl⟩
  obtain ⟨r₀, h₀⟩ := hs 0
  obtain ⟨y₀, hy₀⟩ := hyr 0
  obtain ⟨M, hM⟩ : ∃ M : ℝ, (Finset.univ : Finset (Fin 256)).fold max ⊥ y = (M : EReal) := by
    refine real_of_le (score_fold _ _ fun j => Or.inr (hyr j)) y₀ ?_
    rw [← hy₀]
    exact le_fold Finset.univ y 0 (Finset.mem_univ _)
  rw [quotient_attend s v hs]
  refine softmax_attend s v e 0 r₀ h₀ (Real.exp (-M)) (Real.exp_pos _) fun j => ?_
  rw [he j, hM, max_eq_right bot_le]
  obtain ⟨r, hr⟩ := hs j
  refine exp_sub (Or.inr (hs j)) ?_ M
  rw [hy j, if_neg (by rw [hr]; exact EReal.coe_ne_bot r)]

section
variable (h g : Fin 1024 → EReal) (w : Fin 1024 → Fin 1024 → EReal) (k : Fin 256 → Fin 1024 → EReal)
  (hg : ∀ l, IsReal (g l)) (hw : ∀ n l, IsReal (w n l)) (hk : ∀ j l, IsReal (k j l))
include hg hw

theorem project_real (n : Fin 1024) : IsReal (times (rms width h g) w n) :=
  sum_real _ _ fun l => mul_real (rms_real h g hg l) (hw l n)

include hk

theorem scores_real (hd : Fin 4) (j : Fin 256) : IsReal (scores (queries h g w) k hd j) :=
  sum_real _ _ fun d => mul_real (mul_real (project_real h g w hg hw _) ⟨_, scale_eq⟩) (hk _ _)

/-- The reference's scores: the products over 16. -/
theorem plain_scores (hd : Fin 4) (j : Fin 256) (sixteenth : EReal) (h16 : sixteenth = ((1 / 16 : ℝ) : EReal)) :
    (∑ d : Fin 256, times (rms width h g) w ⟨256 * hd.val + d.val, by omega⟩ * k j ⟨256 * hd.val + d.val, by omega⟩) * sixteenth
      = scores (queries h g w) k hd j * ((Real.log 2 : ℝ) : EReal) := by
  choose q hq using project_real h g w hg hw
  choose kr hkr using hk
  unfold scores queries
  have hl : Real.log 2 ≠ 0 := (Real.log_pos (by norm_num)).ne'
  have e1 : ∀ d : Fin 256, times (rms width h g) w ⟨256 * hd.val + d.val, by omega⟩ * k j ⟨256 * hd.val + d.val, by omega⟩
      = ((q ⟨256 * hd.val + d.val, by omega⟩ * kr j ⟨256 * hd.val + d.val, by omega⟩ : ℝ) : EReal) := fun d => by rw [hq, hkr, EReal.coe_mul]
  have e2 : ∀ d : Fin 256, times (rms width h g) w ⟨256 * hd.val + d.val, by omega⟩ * scale * k j ⟨256 * hd.val + d.val, by omega⟩
      = ((q ⟨256 * hd.val + d.val, by omega⟩ * ((1 / 16) * (Real.log 2)⁻¹) * kr j ⟨256 * hd.val + d.val, by omega⟩ : ℝ) : EReal) := fun d => by
    rw [hq, hkr, scale_eq, ← EReal.coe_mul, ← EReal.coe_mul]
  rw [Finset.sum_congr rfl fun d _ => e1 d, Finset.sum_congr rfl fun d _ => e2 d, ← coe_sum, ← coe_sum, h16, ← EReal.coe_mul, ← EReal.coe_mul,
    Finset.sum_mul, Finset.sum_mul]
  congr 1
  refine Finset.sum_congr rfl fun d _ => ?_
  field_simp

end

/-- A row with the heads of every pair exchanged, times a matrix. -/
theorem times_other (x : Fin 1024 → EReal) (w : Fin 1024 → Fin 1024 → EReal) (n : Fin 1024) :
    times (fun k => x (other k)) w n = times x (fun k => w (other k)) n := by
  have inv : ∀ k, other (other k) = k := fun k => Fin.ext (by
    have h : (other k).val = 128 * (k.val / 128) + (k.val % 128 + 64) % 128 := rfl
    show 128 * ((other k).val / 128) + ((other k).val % 128 + 64) % 128 = k.val
    rw [h]
    omega)
  unfold times
  refine (Equiv.sum_comp (⟨other, other, inv, inv⟩ : Fin 1024 ≃ Fin 1024) (fun k => x (other k) * w k n)).symm.trans ?_
  refine Finset.sum_congr rfl fun k _ => ?_
  show x (other (other k)) * w (other k) n = _
  rw [inv]

end Cert.Merge

end
-- ==== Proof.Merge.Reference.lean ====
/-
  The reference's merge and memory attention, entry by entry, is the kernel's.
-/
module

public import proofs.«01_k».proof.Proof.Layer.HostRows
public import proofs.«01_k».proof.Proof.Merge.Scores
public import proofs.«01_k».proof.Proof.Gen.Reference5Ideal.Read

@[expose] public section

set_option maxRecDepth 16384

noncomputable section

namespace Cert.Merge

open Idealize.ShloMosaic hiding ix0 ix1 ix2 ix3 ix4 ix5
open Idealize.ShloMosaic.ValueIdx Cert.Layer Cert.Reference5Ideal Cert.Reference5Ideal.Gen Cert.Reference5Ideal.Read

variable (x : FVec Ideal S32768x1024 .f32) (yn o : FVec Ideal S32768x1024 .bf16) (gt : FVec Ideal S32768x2048 .bf16)
  (gb : FVec Ideal S1x2048 .f32) (ws wm w : FVec Ideal S1024x1024 .f32) (g gq : FVec Ideal S1x1024 .f32)
  (wq : FVec Ideal S1024x1024 .f32) (k v : FVec Ideal S4096x1024 .bf16) (wx : FVec Ideal S1024x1024 .f32) (gx : FVec Ideal S1x1024 .f32)

theorem gate_apply (r : Fin 32768) (j : Fin 2048) :
    val_main_v15 (F := Ideal) gt gb (ix2 r j) = Ideal.logistic (row gt r j + row gb 0 j) := by
  rw [val_main_v15_apply, val_main_v14_apply, val_main_v13_apply, val_main_v12_apply, val_main_v11_apply, val_main_v10_apply,
    val_main_v9_apply, val_main_v7_apply, val_main_v8_apply]
  refine (hostLogistic _).trans (congrArg (fun b => Ideal.logistic (gt (ix2 r j) + b)) (congrArg gb ?_))
  funext a
  match a with
  | ⟨0, _⟩ => rfl
  | ⟨1, _⟩ => rfl

theorem other_apply (r : Fin 32768) (n : Fin 1024) : val_main_v3 (F := Ideal) o (ix2 r n) = row o r (other n) := by
  rw [val_main_v3_apply]
  unfold val_main_v2
  rw [Host.reverse_apply, val_main_v1_apply, val_main_v0_apply]
  refine congrArg o ?_
  have hn := n.isLt
  have n0 : (r.val * 1024 + n.val) / 1024 = r.val := by omega
  have n1 : (r.val * 1024 + n.val) / 128 % 8 = n.val / 128 := by omega
  have n2 : (r.val * 1024 + n.val) / 64 % 2 = n.val % 128 / 64 := by omega
  have n3 : (r.val * 1024 + n.val) % 64 = n.val % 64 := by omega
  have n4 : ((r.val * 8 + n.val / 128) * 2 + (2 - (n.val % 128 / 64 + 1))) * 64 + n.val % 64
      = r.val * 1024 + (128 * (n.val / 128) + (n.val % 128 + 64) % 128) := by omega
  funext a
  apply Fin.ext
  match a with
  | ⟨0, _⟩ =>
    show (((((r.val * 1024 + n.val) / 1024) * 8 + (r.val * 1024 + n.val) / 128 % 8) * 2
      + (2 - ((r.val * 1024 + n.val) / 64 % 2 + 1))) * 64 + (r.val * 1024 + n.val) % 64) / 1024 = r.val
    rw [n0, n1, n2, n3, n4]; omega
  | ⟨1, _⟩ =>
    show (((((r.val * 1024 + n.val) / 1024) * 8 + (r.val * 1024 + n.val) / 128 % 8) * 2
      + (2 - ((r.val * 1024 + n.val) / 64 % 2 + 1))) * 64 + (r.val * 1024 + n.val) % 64) % 1024
      = 128 * (n.val / 128) + (n.val % 128 + 64) % 128
    rw [n0, n1, n2, n3, n4]; omega

theorem mixed_row (r : Fin 32768) : row (val_main_v20 (F := Ideal) yn o gt gb ws wm) r
    = mixed (row yn r) (row o r) (fun n => row ws n) (fun n => row wm (other n)) (row gt r) (row gb 0) := by
  funext n
  have hs : val_main_v5 (F := Ideal) yn ws (ix2 r n) = times (row yn r) (fun n => row ws n) n := hostDense_apply _ _ r n
  have hm : val_main_v6 (F := Ideal) o wm (ix2 r n) = times (row o r) (fun n => row wm (other n)) n := by
    refine (hostDense_apply (val_main_v3 (F := Ideal) o) wm r n).trans ?_
    rw [show row (val_main_v3 (F := Ideal) o) r = fun n => row o r (other n) from funext fun n => other_apply o r n]
    exact times_other (row o r) (fun n => row wm n) n
  show val_main_v20 (F := Ideal) yn o gt gb ws wm (ix2 r n) = _
  rw [val_main_v20_apply, val_main_v18_apply, val_main_v19_apply, hs, hm, val_main_v16_apply, val_main_v17_apply]
  have i0 : idx_main_v16 (ix2 r n) = ix2 r ⟨n.val, by omega⟩ := by
    funext a; apply Fin.ext
    match a with
    | ⟨0, _⟩ => rfl
    | ⟨1, _⟩ => rfl
  have i1 : idx_main_v17 (ix2 r n) = ix2 r ⟨1024 + n.val, by omega⟩ := by
    funext a; apply Fin.ext
    match a with
    | ⟨0, _⟩ => rfl
    | ⟨1, _⟩ => rfl
  rw [i0, i1, gate_apply, gate_apply]
  rfl

theorem merged_row (r : Fin 32768) : row (val_main_v34 (F := Ideal) x yn o gt gb ws wm w g) r = mergedRow x yn o gt gb ws wm w g r := by
  funext l
  show val_main_v34 (F := Ideal) x yn o gt gb ws wm w g (ix2 r l) = _
  have hd : row (val_main_v21 (F := Ideal) yn o gt gb ws wm w) r
      = times (mixed (row yn r) (row o r) (fun n => row ws n) (fun n => row wm (other n)) (row gt r) (row gb 0)) (fun n => row w n) := by
    funext n
    rw [← mixed_row yn o gt gb ws wm r]
    exact hostDense_apply _ _ r n
  have hn : val_main_v33 (F := Ideal) yn o gt gb ws wm w g (ix2 r l)
      = rms width (row (val_main_v21 (F := Ideal) yn o gt gb ws wm w) r) (row g 0) l :=
    hostRms_apply 32768 1024 (by norm_num) (by norm_num) 0x44800000#32 (by decide) (by decide) (by decide)
      (by decide) (by decide) (by decide) (by decide) _ g r l
  rw [val_main_v34_apply, hn, hd]
  rfl

/-- The queries before their scale. -/
abbrev plain (r : Fin 32768) : Fin 1024 → EReal := times (rms width (mergedRow x yn o gt gb ws wm w g r) (row gq 0)) (fun n => row wq n)

theorem plain_row (r : Fin 32768) : row (val_main_v47 (F := Ideal) x yn o gt gb ws wm w g gq wq) r = plain x yn o gt gb ws wm w g gq wq r := by
  funext n
  unfold plain
  rw [← merged_row]
  have hn : row (val_main_v46 (F := Ideal) x yn o gt gb ws wm w g gq) r
      = rms width (row (val_main_v34 (F := Ideal) x yn o gt gb ws wm w g) r) (row gq 0) := funext fun l =>
    hostRms_apply 32768 1024 (by norm_num) (by norm_num) 0x44800000#32 (by decide) (by decide) (by decide)
      (by decide) (by decide) (by decide) (by decide) _ gq r l
  rw [← hn]
  exact hostDense_apply _ _ r n

/-- The row a batch's token is in. -/
abbrev token (b : Fin 16) (t : Fin 2048) : Fin 32768 := ⟨2048 * b.val + t.val, by omega⟩

theorem query_apply (b : Fin 16) (t : Fin 2048) (h : Fin 4) (d : Fin 256) :
    val_main_v48 (F := Ideal) x yn o gt gb ws wm w g gq wq (ix4 b t h d)
      = plain x yn o gt gb ws wm w g gq wq (token b t) ⟨256 * h.val + d.val, by omega⟩ := by
  rw [val_main_v48_apply, ← plain_row]
  refine congrArg (val_main_v47 (F := Ideal) x yn o gt gb ws wm w g gq wq) ?_
  funext a
  apply Fin.ext
  match a with
  | ⟨0, _⟩ => show (((b.val * 2048 + t.val) * 4 + h.val) * 256 + d.val) / 1024 = 2048 * b.val + t.val; omega
  | ⟨1, _⟩ => show (((b.val * 2048 + t.val) * 4 + h.val) * 256 + d.val) % 1024 = 256 * h.val + d.val; omega

theorem key_apply (b : Fin 16) (j : Fin 256) (h : Fin 4) (d : Fin 256) (t : Fin 2048) :
    val_main_v50 (F := Ideal) k (ix4 b j h d) = row k (slot (token b t) j) ⟨256 * h.val + d.val, by omega⟩ := by
  rw [val_main_v50_apply, val_main_v49_apply]
  refine congrArg k ?_
  funext a
  apply Fin.ext
  match a with
  | ⟨0, _⟩ => show (((b.val * 256 + j.val) * 4 + h.val) * 256 + d.val) / 1024 = 256 * ((2048 * b.val + t.val) / 2048) + j.val; omega
  | ⟨1, _⟩ => show (((b.val * 256 + j.val) * 4 + h.val) * 256 + d.val) % 1024 = 256 * h.val + d.val; omega

theorem value_apply (b : Fin 16) (j : Fin 256) (h : Fin 4) (d : Fin 256) (t : Fin 2048) :
    val_main_v52 (F := Ideal) v (ix4 b j h d) = row v (slot (token b t) j) ⟨256 * h.val + d.val, by omega⟩ := by
  rw [val_main_v52_apply, val_main_v51_apply]
  refine congrArg v ?_
  funext a
  apply Fin.ext
  match a with
  | ⟨0, _⟩ => show (((b.val * 256 + j.val) * 4 + h.val) * 256 + d.val) / 1024 = 256 * ((2048 * b.val + t.val) / 2048) + j.val; omega
  | ⟨1, _⟩ => show (((b.val * 256 + j.val) * 4 + h.val) * 256 + d.val) % 1024 = 256 * h.val + d.val; omega

theorem product_apply (b : Fin 16) (h : Fin 4) (t : Fin 2048) (j : Fin 256) :
    val_main_v53 (F := Ideal) x yn o gt gb ws wm w g gq wq k (ix4 b h t j)
      = ∑ d : Fin 256, plain x yn o gt gb ws wm w g gq wq (token b t) ⟨256 * h.val + d.val, by omega⟩
          * row k (slot (token b t) j) ⟨256 * h.val + d.val, by omega⟩ := by
  rw [val_main_v53_apply]
  refine Finset.sum_congr rfl fun d _ => ?_
  rw [← query_apply, ← key_apply k b j h d t]
  refine congrArg₂ (· * ·) (congrArg _ ?_) (congrArg _ ?_)
  · funext a; match a with
    | ⟨0, _⟩ => rfl
    | ⟨1, _⟩ => rfl
    | ⟨2, _⟩ => rfl
    | ⟨3, _⟩ => rfl
  · funext a; match a with
    | ⟨0, _⟩ => rfl
    | ⟨1, _⟩ => rfl
    | ⟨2, _⟩ => rfl
    | ⟨3, _⟩ => rfl

theorem sixteenth_word : Ideal.ofBits .f32 0x3D800000#32 = ((1 / 16 : ℝ) : EReal) := by
  simp [Ideal.ofBits, Ideal.ieee]
  rw [← EReal.coe_mul]
  congr 1
  norm_num

theorem bottom_word : Ideal.ofBits .f32 0xFF800000#32 = (⊥ : EReal) := by simp [Ideal.ofBits, Ideal.ieee]

/-- The largest score of a row. -/
theorem maximum_apply (b : Fin 16) (h : Fin 4) (t : Fin 2048) : val_main_v56 (F := Ideal) x yn o gt gb ws wm w g gq wq k (ix3 b h t)
    = (Finset.univ : Finset (Fin 256)).fold max ⊥ fun j => val_main_v55 (F := Ideal) x yn o gt gb ws wm w g gq wq k (ix4 b h t j) := by
  unfold val_main_v56 val_main_cst_8
  generalize val_main_v55 (F := Ideal) x yn o gt gb ws wm w g gq wq k = s
  have hr : S16x4x2048x256.Reduces [3] S16x4x2048 := by decide
  have e := hostReduce_maximumf_eq_multiReduction (F := Ideal) (φ := .f32) s 0xFF800000#32
    reducesTo_S16x4x2048x256_S16x4x2048_d3 h_S_ hr (.inl rfl) rfl
  refine (congrFun e (ix3 b h t)).trans ?_
  refine (Ideal.multiReduction_maximumf_single (a := 3) s _ hr _ _ (ix3 b h t)).trans ?_
  show Finset.fold max (Ideal.ofBits .f32 0xFF800000#32) _ _ = _
  rw [bottom_word]
  refine Finset.fold_congr fun c _ => congrArg s ?_
  funext a; apply Fin.ext
  match a with
  | ⟨0, _⟩ => rfl
  | ⟨1, _⟩ => rfl
  | ⟨2, _⟩ => rfl
  | ⟨3, _⟩ => rfl

theorem shift_apply (b : Fin 16) (h : Fin 4) (t : Fin 2048) (j : Fin 256) :
    val_main_v60 (F := Ideal) x yn o gt gb ws wm w g gq wq k (ix4 b h t j)
      = max ⊥ (val_main_v56 (F := Ideal) x yn o gt gb ws wm w g gq wq k (ix3 b h t)) := by
  rw [val_main_v60_apply, val_main_v59_apply, val_main_v58_apply, val_main_v57_apply]
  refine congrArg₂ max bottom_word (congrArg _ ?_)
  funext a; match a with
  | ⟨0, _⟩ => rfl
  | ⟨1, _⟩ => rfl
  | ⟨2, _⟩ => rfl

theorem total_apply (b : Fin 16) (h : Fin 4) (t : Fin 2048) (j : Fin 256) :
    val_main_v65 (F := Ideal) x yn o gt gb ws wm w g gq wq k (ix4 b h t j)
      = ∑ i, val_main_v62 (F := Ideal) x yn o gt gb ws wm w g gq wq k (ix4 b h t i) := by
  rw [val_main_v65_apply, val_main_v64_apply, val_main_v63_apply]
  show Ideal.ofBits .f32 0x00000000#32 + _ = _
  rw [Ideal.ofBits_zero_f32, zero_add]
  refine Finset.sum_congr rfl fun i _ => congrArg _ ?_
  funext a; match a with
  | ⟨0, _⟩ => rfl
  | ⟨1, _⟩ => rfl
  | ⟨2, _⟩ => rfl
  | ⟨3, _⟩ => rfl

section
variable (hg : ∀ i, IsReal (gq i)) (hw : ∀ i, IsReal (wq i)) (hk : ∀ i, IsReal (k i))
include hg hw hk

theorem score_apply (b : Fin 16) (h : Fin 4) (t : Fin 2048) (j : Fin 256) :
    val_main_v55 (F := Ideal) x yn o gt gb ws wm w g gq wq k (ix4 b h t j)
      = scores (queries (mergedRow x yn o gt gb ws wm w g (token b t)) (row gq 0) (fun n => row wq n))
          (fun j => row k (slot (token b t) j)) h j * ((Real.log 2 : ℝ) : EReal) := by
  rw [val_main_v55_apply, product_apply, val_main_v54_apply]
  exact plain_scores _ (row gq 0) (fun n => row wq n) (fun j => row k (slot (token b t) j)) (fun l => hg _) (fun n l => hw _) (fun j l => hk _)
    h j _ sixteenth_word

theorem look_apply (b : Fin 16) (h : Fin 4) (d : Fin 256) (t : Fin 2048) :
    val_main_v67 (F := Ideal) x yn o gt gb ws wm w g gq wq k v (ix4 b h d t)
      = looked (queries (mergedRow x yn o gt gb ws wm w g (token b t)) (row gq 0) (fun n => row wq n))
          (fun j => row k (slot (token b t) j)) (fun j => row v (slot (token b t) j)) ⟨256 * h.val + d.val, by omega⟩ := by
  have eh : (⟨(256 * h.val + d.val) / 256, by omega⟩ : Fin 4) = h := Fin.ext (by show (256 * h.val + d.val) / 256 = h.val; omega)
  unfold looked
  show _ = quotient (scores _ _ (⟨(256 * h.val + d.val) / 256, by omega⟩ : Fin 4)) _
  rw [eh, val_main_v67_apply, ← softmax_eq _ _ (fun j => val_main_v55 (F := Ideal) x yn o gt gb ws wm w g gq wq k (ix4 b h t j))
    (fun j => val_main_v62 (F := Ideal) x yn o gt gb ws wm w g gq wq k (ix4 b h t j))
    (fun j => scores_real _ (row gq 0) (fun n => row wq n) (fun j => row k (slot (token b t) j)) (fun l => hg _) (fun n l => hw _) (fun j l => hk _) h j)
    (fun j => score_apply x yn o gt gb ws wm w g gq wq k hg hw hk b h t j)
    (fun j => by rw [val_main_v62_apply, val_main_v61_apply, shift_apply, maximum_apply]; rfl)]
  refine Finset.sum_congr rfl fun j _ => ?_
  show _ = row v (slot (token b t) j) ⟨256 * h.val + d.val, by omega⟩ * _
  rw [← value_apply v b j h d t, ← total_apply x yn o gt gb ws wm w g gq wq k b h t j]
  refine congrArg₂ (· * ·) (congrArg _ ?_) ?_
  · funext a; match a with
    | ⟨0, _⟩ => rfl
    | ⟨1, _⟩ => rfl
    | ⟨2, _⟩ => rfl
    | ⟨3, _⟩ => rfl
  · have ei : ridx_main_v67 (ix4 b h d t) j = ix4 b h t j := by
      funext a; match a with
      | ⟨0, _⟩ => rfl
      | ⟨1, _⟩ => rfl
      | ⟨2, _⟩ => rfl
      | ⟨3, _⟩ => rfl
    rw [ei]
    rfl

theorem look_row (r : Fin 32768) : row (val_main_v69 (F := Ideal) x yn o gt gb ws wm w g gq wq k v) r
    = looked (queries (mergedRow x yn o gt gb ws wm w g r) (row gq 0) (fun n => row wq n))
          (fun j => row k (slot r j)) (fun j => row v (slot r j)) := by
  funext n
  have hr := r.isLt
  have hn := n.isLt
  show val_main_v69 (F := Ideal) x yn o gt gb ws wm w g gq wq k v (ix2 r n) = _
  rw [val_main_v69_apply, val_main_v68_apply]
  have ei : ∀ y, y = ix4 (⟨r.val / 2048, by omega⟩ : Fin 16) (⟨n.val / 256, by omega⟩ : Fin 4) (⟨n.val % 256, by omega⟩ : Fin 256)
      (⟨r.val % 2048, by omega⟩ : Fin 2048) → val_main_v67 (F := Ideal) x yn o gt gb ws wm w g gq wq k v y
      = looked (queries (mergedRow x yn o gt gb ws wm w g r) (row gq 0) (fun n => row wq n))
          (fun j => row k (slot r j)) (fun j => row v (slot r j)) n := fun y hy => by
    rw [hy, look_apply x yn o gt gb ws wm w g gq wq k v hg hw hk]
    have er : token (⟨r.val / 2048, by omega⟩ : Fin 16) (⟨r.val % 2048, by omega⟩ : Fin 2048) = r :=
      Fin.ext (by show 2048 * (r.val / 2048) + r.val % 2048 = r.val; omega)
    have en : (⟨256 * (n.val / 256) + n.val % 256, by omega⟩ : Fin 1024) = n :=
      Fin.ext (by show 256 * (n.val / 256) + n.val % 256 = n.val; omega)
    rw [er]
    exact congrArg _ en
  refine ei _ ?_
  funext a
  apply Fin.ext
  match a with
  | ⟨0, _⟩ => show (r.val * 1024 + n.val) / 2097152 = r.val / 2048; omega
  | ⟨1, _⟩ => show (r.val * 1024 + n.val) / 256 % 4 = n.val / 256; omega
  | ⟨2, _⟩ => show (r.val * 1024 + n.val) % 256 = n.val % 256; omega
  | ⟨3, _⟩ => show (r.val * 1024 + n.val) / 1024 % 2048 = r.val % 2048; omega

/-- The reference's result is the kernel's. -/
theorem reference_eq : val_main_v83 (F := Ideal) x yn o gt gb ws wm w g gq wq k v wx gx = result x yn o gt gb ws wm w g gq wq k v wx gx := by
  funext i
  obtain ⟨r, l, rfl⟩ := eta i
  have hd : row (val_main_v70 (F := Ideal) x yn o gt gb ws wm w g gq wq k v wx) r
      = times (looked (queries (mergedRow x yn o gt gb ws wm w g r) (row gq 0) (fun n => row wq n))
          (fun j => row k (slot r j)) (fun j => row v (slot r j))) (fun n => row wx n) := by
    funext n
    rw [← look_row x yn o gt gb ws wm w g gq wq k v hg hw hk r]
    exact hostDense_apply _ _ r n
  have hn : val_main_v82 (F := Ideal) x yn o gt gb ws wm w g gq wq k v wx gx (ix2 r l)
      = rms width (row (val_main_v70 (F := Ideal) x yn o gt gb ws wm w g gq wq k v wx) r) (row gx 0) l :=
    hostRms_apply 32768 1024 (by norm_num) (by norm_num) 0x44800000#32 (by decide) (by decide) (by decide)
      (by decide) (by decide) (by decide) (by decide) _ gx r l
  rw [val_main_v83_apply, hn, hd, show val_main_v34 (F := Ideal) x yn o gt gb ws wm w g (ix2 r l) = mergedRow x yn o gt gb ws wm w g r l from
    congrFun (merged_row x yn o gt gb ws wm w g r) l]
  rfl

end

end Cert.Merge

end
-- ==== Proof.Merge.Inputs.lean ====
/-
  What the precondition says: the gains before the queries, the weights of the queries and the keys are real numbers.
-/
module

public import proofs.«01_k».proof.Proof.Attention.Inputs
public import proofs.«01_k».proof.Proof.Merge.Scores
public import proofs.«01_k».proof.Proof.Gen.Pre_merge_inputs

@[expose] public section

set_option maxRecDepth 16384

noncomputable section

namespace Cert.Merge

open Idealize.ShloMosaic hiding ix0 ix1 ix2 ix3 ix4 ix5
open Idealize.ShloMosaic.ValueIdx Cert.Pre_merge_inputs Cert.Attention

variable [Facts] (x : FVec Ideal S32768x1024 .f32) (yn o : FVec Ideal S32768x1024 .bf16) (gt : FVec Ideal S32768x2048 .bf16)
  (gb : FVec Ideal S1x2048 .f32) (ws wm w : FVec Ideal S1024x1024 .f32) (g gq : FVec Ideal S1x1024 .f32)
  (wq : FVec Ideal S1024x1024 .f32) (k v : FVec Ideal S4096x1024 .bf16) (wx : FVec Ideal S1024x1024 .f32) (gx : FVec Ideal S1x1024 .f32)

theorem finite_gains (h : (fn (F := Ideal) x yn o gt gb ws wm w g gq wq k v wx gx).1 = fun _ => 1#1) (i : S1x1024.Idx) : IsReal (gq i) := by
  have e : BitVec.ofBool (decide (max (gq i) (-(gq i)) < Ideal.ofBits .f32 0x7F800000#32)) = 1#1 := congrFun h i
  have e' := ofBool_one e
  rw [top_word] at e'
  exact finite_of_lt e'

theorem finite_weights (h : (fn (F := Ideal) x yn o gt gb ws wm w g gq wq k v wx gx).2.1 = fun _ => 1#1) (i : S1024x1024.Idx) :
    IsReal (wq i) := by
  have e : BitVec.ofBool (decide (max (wq i) (-(wq i)) < Ideal.ofBits .f32 0x7F800000#32)) = 1#1 := congrFun h i
  have e' := ofBool_one e
  rw [top_word] at e'
  exact finite_of_lt e'

theorem finite_keys (h : (fn (F := Ideal) x yn o gt gb ws wm w g gq wq k v wx gx).2.2 = fun _ => 1#1) (i : S4096x1024.Idx) :
    IsReal (k i) := by
  have e : BitVec.ofBool (decide (max (k i) (-(k i)) < Ideal.ofBits .f32 0x7F800000#32)) = 1#1 := congrFun h i
  have e' := ofBool_one e
  rw [top_word] at e'
  exact finite_of_lt e'

end Cert.Merge

end
-- ==== Proof.Merge.Claims.lean ====
/-
  The claims about the merge and the attention over the memory.
-/
module

public import proofs.«01_k».proof.Defs
public import proofs.«01_k».proof.Proof.Merge.Reference
public import proofs.«01_k».proof.Proof.Merge.Inputs
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

namespace Cert.Merge

open Idealize.ShloMosaic Idealize.SL.Sem

theorem kernel_frame : quiescent_Kernel5 := fun m g _ => Cert.Kernel5.Gen.frame m g

theorem ideal_frame : quiescent_Kernel5Ideal := fun m g _ => Cert.Kernel5Ideal.Gen.frame m g

theorem ideal_frame_pre : quiescent_Kernel5Ideal_pre_merge_inputs := fun m g _ => Cert.Kernel5Ideal.Gen.frame m g

theorem reference_frame : quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)

theorem reference_frame_pre : quiescent_Reference5Ideal_pre_merge_inputs := fun m g _ => reference_frame m g trivial

/-- The scale of the queries is the named real, a sixteenth over the logarithm of two. -/
theorem preserves : preserves_Kernel5_Kernel5Ideal :=
  IdealRules.named_const.statement Cert.Kernel5Ideal.κ "query_scale" .f32 0x3DB8AA3B#32
    (((1 / 16) * (Real.log 2)⁻¹ : ℝ) : EReal) rfl

/-- The kernel's array is the reference's, element by element, where the scores are real numbers. -/
theorem algebraic : algebraic_Kernel5Ideal_Reference5Ideal_pre_merge_inputs := by
  intro m g m' g' hpre hm
  refine ⟨fun c => result (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg7))
      (m ((c.tc : Thread Cert.Kernel5Ideal.nD Cert.Kernel5Ideal.τ).loc Cert.Kernel5Ideal.main_arg8))
      (m ((c.tc : Thread Cert.Kernel5Ideal.nD Cert.Kernel5Ideal.τ).loc Cert.Kernel5Ideal.main_arg9))
      (m ((c.tc : Thread Cert.Kernel5Ideal.nD Cert.Kernel5Ideal.τ).loc Cert.Kernel5Ideal.main_arg10))
      (m ((c.tc : Thread Cert.Kernel5Ideal.nD Cert.Kernel5Ideal.τ).loc Cert.Kernel5Ideal.main_arg11))
      (m ((c.tc : Thread Cert.Kernel5Ideal.nD Cert.Kernel5Ideal.τ).loc Cert.Kernel5Ideal.main_arg12))
      (m ((c.tc : Thread Cert.Kernel5Ideal.nD Cert.Kernel5Ideal.τ).loc Cert.Kernel5Ideal.main_arg13))
      (m ((c.tc : Thread Cert.Kernel5Ideal.nD Cert.Kernel5Ideal.τ).loc Cert.Kernel5Ideal.main_arg14)), ?_, ?_⟩
  · refine (θ_run _ _ _).mono (fun r h c => ?_) (Cert.Kernel5Ideal.Value.run_blocks m g)
    exact ⟨(h c).1.trans (array_eq m c), (h c).2⟩
  · refine (θ_run _ _ _).mono (fun r h c => ?_) (Cert.Reference5Ideal.Value.run m' g')
    refine ⟨(h c).1.trans ?_, (h c).2⟩
    rw [Cert.Reference5Ideal.Read.val_main_v83_eq]
    show Cert.Reference5Ideal.Read.val_main_v83 (F := Ideal) (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5))
      (m' ((c.tc : Thread Cert.Reference5Ideal.nD Cert.Reference5Ideal.τ).loc Cert.Reference5Ideal.main_arg6))
      (m' ((c.tc : Thread Cert.Reference5Ideal.nD Cert.Reference5Ideal.τ).loc Cert.Reference5Ideal.main_arg7))
      (m' ((c.tc : Thread Cert.Reference5Ideal.nD Cert.Reference5Ideal.τ).loc Cert.Reference5Ideal.main_arg8))
      (m' ((c.tc : Thread Cert.Reference5Ideal.nD Cert.Reference5Ideal.τ).loc Cert.Reference5Ideal.main_arg9))
      (m' ((c.tc : Thread Cert.Reference5Ideal.nD Cert.Reference5Ideal.τ).loc Cert.Reference5Ideal.main_arg10))
      (m' ((c.tc : Thread Cert.Reference5Ideal.nD Cert.Reference5Ideal.τ).loc Cert.Reference5Ideal.main_arg11))
      (m' ((c.tc : Thread Cert.Reference5Ideal.nD Cert.Reference5Ideal.τ).loc Cert.Reference5Ideal.main_arg12))
      (m' ((c.tc : Thread Cert.Reference5Ideal.nD Cert.Reference5Ideal.τ).loc Cert.Reference5Ideal.main_arg13))
      (m' ((c.tc : Thread Cert.Reference5Ideal.nD Cert.Reference5Ideal.τ).loc Cert.Reference5Ideal.main_arg14)) = _
    rw [(hm c).1, (hm c).2.1, (hm c).2.2.1, (hm c).2.2.2.1,
      (hm c).2.2.2.2.1, (hm c).2.2.2.2.2.1, (hm c).2.2.2.2.2.2.1, (hm c).2.2.2.2.2.2.2.1,
      (hm c).2.2.2.2.2.2.2.2.1, (hm c).2.2.2.2.2.2.2.2.2.1, (hm c).2.2.2.2.2.2.2.2.2.2.1, (hm c).2.2.2.2.2.2.2.2.2.2.2.1,
      (hm c).2.2.2.2.2.2.2.2.2.2.2.2.1, (hm c).2.2.2.2.2.2.2.2.2.2.2.2.2.1, (hm c).2.2.2.2.2.2.2.2.2.2.2.2.2.2]
    exact reference_eq _ _ _ _ _ _ _ _ _ _ _ _ _ _ _
      (finite_gains _ _ _ _ _ _ _ _ _ _ _ _ _ _ _ (hpre c).1) (finite_weights _ _ _ _ _ _ _ _ _ _ _ _ _ _ _ (hpre c).2.1)
      (finite_keys _ _ _ _ _ _ _ _ _ _ _ _ _ _ _ (hpre c).2.2)

end Cert.Merge

end
-- ==== Proof.Prep.Angles.lean ====
/-
  The cosines and sines of a block's tokens, spread over the columns of a head by a product with a table. The three pieces a
  number is split into add up to it, and of exact numbers the first piece is the number and the others are zero.
-/
module

public import proofs.«01_k».proof.Proof.Gen.Kernel6Ideal.Value
public import proofs.«01_k».proof.Proof.Layer.Loads
public import proofs.«01_k».proof.Proof.Merge.Scores

@[expose] public section

set_option maxRecDepth 16384

noncomputable section

namespace Cert.Prep

open Idealize.ShloMosaic hiding ix0 ix1 ix2 ix3 ix4 ix5
open Idealize.ShloMosaic.ValueIdx Cert.Layer Cert.Kernel6Ideal Cert.Kernel6Ideal.Gen Cert.Kernel6Ideal.Facts
open Cert.Merge (IsReal mul_real sum_real)

/-- The angle of pair `j` at a token: the pair's frequency times the token's position. -/
def angle (freq : Fin 16 → EReal) (pos : Fin 1024 → BitVec 32) (j : Fin 16) (r : Fin 1024) : EReal :=
  freq j * (((pos r).toInt : ℝ) : EReal)

theorem angle_real (freq : Fin 16 → EReal) (hf : ∀ j, IsReal (freq j)) (pos : Fin 1024 → BitVec 32) (j : Fin 16) (r : Fin 1024) :
    IsReal (angle freq pos j r) := mul_real (hf j) ⟨_, rfl⟩

/-- The angles as the body has them. -/
def angles (v0 : Vec Ideal S16x1 .f32) (v2 : Vec Ideal S1x1x1024 .i32) : FVec Ideal S16x1024 .f32 :=
  mulf (F := Ideal) (broadcastTo S16x1024 (shapeCast S16x1 v0 shapeCasts_S16x1_S16x1) broadcasts_S16x1_S16x1024)
    (broadcastTo S16x1024 (sitofp (F := Ideal) .f32 (shapeCast S1x1024 v2 shapeCasts_S1x1x1024_S1x1024)) broadcasts_S1x1024_S16x1024)

theorem angles_apply (v0 : Vec Ideal S16x1 .f32) (v2 : Vec Ideal S1x1x1024 .i32) (j : Fin 16) (r : Fin 1024) :
    angles v0 v2 (ix2 j r) = angle (fun j => v0 (ix2 j 0)) (fun r => v2 (ix3 0 0 r)) j r := by
  show broadcastTo S16x1024 _ _ (ix2 j r) * broadcastTo S16x1024 _ _ (ix2 j r) = _
  rw [broadcastTo_apply _ broadcasts_S16x1_S16x1024 (ix2 j r) (ix2 j 0) (fun a => by
      match a with
      | ⟨0, _⟩ => rfl
      | ⟨1, _⟩ => rfl),
    broadcastTo_apply _ broadcasts_S1x1024_S16x1024 (ix2 j r) (ix2 0 r) (fun a => by
      match a with
      | ⟨0, _⟩ => rfl
      | ⟨1, _⟩ => rfl), shapeCast_same (s := S16x1)]
  show v0 (ix2 j 0) * (((shapeCast S1x1024 v2 shapeCasts_S1x1x1024_S1x1024 (ix2 0 r)).toInt : ℝ) : EReal) = _
  rw [shapeCast_apply v2 shapeCasts_S1x1x1024_S1x1024 (ix2 0 r) (ix3 0 0 r) (by
    rw [Shape.rowMajor_val_two, Shape.rowMajor_val_three]; rfl)]
  rfl

/-- The leading piece of every entry, and what is left of it. -/
def lead (x : FVec Ideal S16x1024 .f32) : FVec Ideal S16x1024 .f32 := extf .f32 (truncf .bf16 x bitsLt_bf16_f32) bitsLt_bf16_f32
def left (x : FVec Ideal S16x1024 .f32) : FVec Ideal S16x1024 .f32 := subf x (lead x)

theorem left_apply (x : FVec Ideal S16x1024 .f32) (i : S16x1024.Idx) (h : IsReal (x i)) : left x i = 0 := by
  obtain ⟨r, hr⟩ := h
  show x i - x i = 0
  rw [hr, ← EReal.coe_sub, sub_self]
  rfl

theorem left_left_apply (x : FVec Ideal S16x1024 .f32) (i : S16x1024.Idx) (h : IsReal (x i)) : left (left x) i = 0 :=
  left_apply _ i ⟨0, left_apply x i h⟩

/-- The pieces of the cosines and of the sines on top of each other, and rows of zeros. -/
def stack (a : FVec Ideal S16x1024 .f32) : FVec Ideal S128x1024 .f32 :=
  concatenate S128x1024 0 [⟨S16x1024, lead (cos a)⟩, ⟨S16x1024, lead (left (cos a))⟩, ⟨S16x1024, lead (left (left (cos a)))⟩,
    ⟨S16x1024, lead (sin a)⟩, ⟨S16x1024, lead (left (sin a))⟩, ⟨S16x1024, lead (left (left (sin a)))⟩,
    ⟨S32x1024, (broadcast S32x1024 (Scalar.ofBits (F := Ideal) .f32 0x00000000#32) : FVec Ideal S32x1024 .f32)⟩]
    concatenates_S16x1024_S16x1024_S16x1024_S16x1024_S16x1024_S16x1024_S32x1024_S128x1024_d0

/-- An entry of matrices laid on top of each other, read in the one it comes from; `pre` rows lie before it. -/
theorem above_apply {R C Q : ℕ} {α : Type} (xs : List ((s : Shape) × (s.Idx → α)))
    (h : Shape.Concatenates (xs.map (·.1)) (Mat R C) (0 : Fin 2)) (k : ℕ) (hk : k < xs.length) (x : (Mat Q C).Idx → α)
    (hx : xs[k] = ⟨Mat Q C, x⟩) (pre : ℕ)
    (hpre : (((xs.take k).map (·.1)).map fun s => if h : s.rank = (Mat R C).rank then s.size ((0 : Fin 2).cast h.symm) else 0).sum = pre)
    (r : Fin Q) (l : Fin C) (j : Fin R) (hj : pre + r.val = j.val) : concatenate (Mat R C) (0 : Fin 2) xs h (ix2 j l) = x (ix2 r l) := by
  refine concatenate_apply_piece (t := Mat R C) (0 : Fin 2) xs h (ix2 j l) k hk (Mat Q C) x hx rfl pre hpre (ix2 r l) (fun b hb => ?_) hj
  match b with
  | ⟨0, _⟩ => exact absurd rfl hb
  | ⟨1, _⟩ => rfl

theorem stack_cosine (a : FVec Ideal S16x1024 .f32) (j : Fin 16) (r : Fin 1024) (k : Fin 128) (hk : k.val = j.val) :
    stack a (ix2 k r) = Ideal.cos (a (ix2 j r)) := by
  unfold stack
  exact above_apply (R := 128) (C := 1024) (Q := 16) _ _ 0 (by simp) (lead (cos a)) rfl 0 rfl j r k (by omega)

theorem stack_sine (a : FVec Ideal S16x1024 .f32) (j : Fin 16) (r : Fin 1024) (k : Fin 128) (hk : k.val = 48 + j.val) :
    stack a (ix2 k r) = Ideal.sin (a (ix2 j r)) := by
  unfold stack
  exact above_apply (R := 128) (C := 1024) (Q := 16) _ _ 3 (by simp) (lead (sin a)) rfl 48 rfl j r k (by omega)

theorem cos_real {x : EReal} (h : IsReal x) : IsReal (Ideal.cos x) := by
  obtain ⟨r, rfl⟩ := h; exact ⟨_, Ideal.cos_coe r⟩
theorem sin_real {x : EReal} (h : IsReal x) : IsReal (Ideal.sin x) := by
  obtain ⟨r, rfl⟩ := h; exact ⟨_, Ideal.sin_coe r⟩

theorem stack_rest (a : FVec Ideal S16x1024 .f32) (ha : ∀ i, IsReal (a i)) (r : Fin 1024) (k : Fin 128)
    (hk : 16 ≤ k.val ∧ k.val < 48 ∨ 64 ≤ k.val) : stack a (ix2 k r) = 0 := by
  have hc : ∀ i, IsReal ((cos a : FVec Ideal S16x1024 .f32) i) := fun i => cos_real (ha i)
  have hs : ∀ i, IsReal ((sin a : FVec Ideal S16x1024 .f32) i) := fun i => sin_real (ha i)
  unfold stack
  by_cases h1 : k.val < 32
  · exact (above_apply (R := 128) (C := 1024) (Q := 16) _ _ 1 (by simp) (lead (left (cos a))) rfl 16 rfl ⟨k.val - 16, by omega⟩ r k
      (by show 16 + (k.val - 16) = k.val; omega)).trans (left_apply _ _ (hc _))
  by_cases h2 : k.val < 48
  · exact (above_apply (R := 128) (C := 1024) (Q := 16) _ _ 2 (by simp) (lead (left (left (cos a)))) rfl 32 rfl ⟨k.val - 32, by omega⟩ r k
      (by show 32 + (k.val - 32) = k.val; omega)).trans (left_left_apply _ _ (hc _))
  by_cases h3 : k.val < 80
  · exact (above_apply (R := 128) (C := 1024) (Q := 16) _ _ 4 (by simp) (lead (left (sin a))) rfl 64 rfl ⟨k.val - 64, by omega⟩ r k
      (by show 64 + (k.val - 64) = k.val; omega)).trans (left_apply _ _ (hs _))
  by_cases h4 : k.val < 96
  · exact (above_apply (R := 128) (C := 1024) (Q := 16) _ _ 5 (by simp) (lead (left (left (sin a)))) rfl 80 rfl ⟨k.val - 80, by omega⟩ r k
      (by show 80 + (k.val - 80) = k.val; omega)).trans (left_left_apply _ _ (hs _))
  · refine (above_apply (R := 128) (C := 1024) (Q := 32) _ _ 6 (by simp) (broadcast S32x1024 (Scalar.ofBits (F := Ideal) .f32 0x00000000#32))
      rfl 96 rfl ⟨k.val - 96, by omega⟩ r k (by show 96 + (k.val - 96) = k.val; omega)).trans ?_
    exact Ideal.ofBits_zero_f32

/-! ## The table's product -/

/-- What the table holds in the rows of the cosines and of the sines. -/
structure Spread (e : (Mat 128 256).Idx → EReal) : Prop where
  cosine : ∀ (k : Fin 128) (l : Fin 256), k.val < 16 → e (ix2 k l) = if l.val = 64 + k.val ∨ l.val = 80 + k.val then 1 else 0
  sine : ∀ (k : Fin 128) (l : Fin 256), 48 ≤ k.val → k.val < 64 → e (ix2 k l)
    = if l.val = 48 + k.val ∨ l.val = 64 + k.val ∨ l.val = 160 + k.val then 1 else if l.val = 144 + k.val then -1 else 0

variable (v0 : Vec Ideal S16x1 .f32) (v2 : Vec Ideal S1x1x1024 .i32) (v30 : Vec Ideal S128x256 .bf16)

theorem spread_apply (r : Fin 1024) (l : Fin 256) :
    k0_pay8 (F := Ideal) v0 v2 v30 (ix2 r l) = ∑ k : Fin 128, stack (angles v0 v2) (ix2 k r) * v30 (ix2 k l) := by
  refine (dense_apply 1024 128 256 (φ := .bf16) (ψ := .bf16)
    (truncf .bf16 (transpose S1024x128 [1, 0] (stack (angles v0 v2)) transposes_S128x1024_p1_0_S1024x128) bitsLt_bf16_f32) v30 r l).trans ?_
  refine Finset.sum_congr rfl fun k _ => congrArg (· * v30 (ix2 k l)) ?_
  exact transpose_apply [1, 0] (stack (angles v0 v2)) transposes_S128x1024_p1_0_S1024x128 (ix2 r k) (ix2 k r) (fun b => by
    match b with
    | ⟨0, _⟩ => rfl
    | ⟨1, _⟩ => rfl)

variable (hf : ∀ j : Fin 16, IsReal (v0 (ix2 j 0))) (he : Spread v30)

include hf he

theorem angles_real (i : S16x1024.Idx) : IsReal (angles v0 v2 i) := by
  obtain ⟨j, r, rfl⟩ := eta i
  rw [angles_apply]
  exact angle_real _ hf _ j r

/-- A column that no row of the table meets. -/
theorem spread_zero (r : Fin 1024) (l : Fin 256) (hl : l.val < 64 ∨ 128 ≤ l.val ∧ l.val < 192 ∨ 224 ≤ l.val) :
    k0_pay8 (F := Ideal) v0 v2 v30 (ix2 r l) = 0 := by
  rw [spread_apply]
  refine Finset.sum_eq_zero fun k _ => ?_
  have := k.isLt
  by_cases h0 : k.val < 16
  · rw [he.cosine k l h0, if_neg (by omega), mul_zero]
  by_cases h1 : 48 ≤ k.val ∧ k.val < 64
  · rw [he.sine k l h1.1 h1.2, if_neg (by omega), if_neg (by omega), mul_zero]
  · rw [stack_rest _ (angles_real v0 v2 v30 hf he) r k (by omega), zero_mul]

/-- A column that one row of the cosines meets. -/
theorem spread_cosine (r : Fin 1024) (l : Fin 256) (j : Fin 16) (hl : l.val = 64 + j.val ∨ l.val = 80 + j.val) :
    k0_pay8 (F := Ideal) v0 v2 v30 (ix2 r l) = Ideal.cos (angles v0 v2 (ix2 j r)) := by
  rw [spread_apply]
  refine (Finset.sum_eq_single (⟨j.val, by omega⟩ : Fin 128) (fun k _ hk => ?_) (fun h => absurd (Finset.mem_univ _) h)).trans ?_
  · have hk' : k.val ≠ j.val := fun h => hk (Fin.ext h)
    have := k.isLt
    have := j.isLt
    by_cases h0 : k.val < 16
    · rw [he.cosine k l h0, if_neg (by omega), mul_zero]
    by_cases h1 : 48 ≤ k.val ∧ k.val < 64
    · rw [he.sine k l h1.1 h1.2, if_neg (by omega), if_neg (by omega), mul_zero]
    · rw [stack_rest _ (angles_real v0 v2 v30 hf he) r k (by omega), zero_mul]
  · rw [stack_cosine _ j r _ rfl, he.cosine _ l j.isLt, if_pos hl, mul_one]

/-- A column that one row of the sines meets. -/
theorem spread_sine (r : Fin 1024) (l : Fin 256) (j : Fin 16) (hl : l.val = 96 + j.val ∨ l.val = 112 + j.val ∨ l.val = 208 + j.val) :
    k0_pay8 (F := Ideal) v0 v2 v30 (ix2 r l) = Ideal.sin (angles v0 v2 (ix2 j r)) := by
  rw [spread_apply]
  have := j.isLt
  refine (Finset.sum_eq_single (⟨48 + j.val, by omega⟩ : Fin 128) (fun k _ hk => ?_) (fun h => absurd (Finset.mem_univ _) h)).trans ?_
  · have hk' : k.val ≠ 48 + j.val := fun h => hk (Fin.ext h)
    have := k.isLt
    by_cases h0 : k.val < 16
    · rw [he.cosine k l h0, if_neg (by omega), mul_zero]
    by_cases h1 : 48 ≤ k.val ∧ k.val < 64
    · rw [he.sine k l h1.1 h1.2, if_neg (by omega), if_neg (by omega), mul_zero]
    · rw [stack_rest _ (angles_real v0 v2 v30 hf he) r k (by omega), zero_mul]
  · rw [stack_sine _ j r _ rfl, he.sine _ l (by show 48 ≤ 48 + j.val; omega) (by show 48 + j.val < 64; omega),
      if_pos (by show l.val = 48 + (48 + j.val) ∨ l.val = 64 + (48 + j.val) ∨ l.val = 160 + (48 + j.val); omega), mul_one]

/-- A column that one row of the sines meets with a minus sign. -/
theorem spread_minus (r : Fin 1024) (l : Fin 256) (j : Fin 16) (hl : l.val = 192 + j.val) :
    k0_pay8 (F := Ideal) v0 v2 v30 (ix2 r l) = -Ideal.sin (angles v0 v2 (ix2 j r)) := by
  rw [spread_apply]
  have := j.isLt
  refine (Finset.sum_eq_single (⟨48 + j.val, by omega⟩ : Fin 128) (fun k _ hk => ?_) (fun h => absurd (Finset.mem_univ _) h)).trans ?_
  · have hk' : k.val ≠ 48 + j.val := fun h => hk (Fin.ext h)
    have := k.isLt
    by_cases h0 : k.val < 16
    · rw [he.cosine k l h0, if_neg (by omega), mul_zero]
    by_cases h1 : 48 ≤ k.val ∧ k.val < 64
    · rw [he.sine k l h1.1 h1.2, if_neg (by omega), if_neg (by omega), mul_zero]
    · rw [stack_rest _ (angles_real v0 v2 v30 hf he) r k (by omega), zero_mul]
  · rw [stack_sine _ j r _ rfl, he.sine _ l (by show 48 ≤ 48 + j.val; omega) (by show 48 + j.val < 64; omega),
      if_neg (by show ¬(l.val = 48 + (48 + j.val) ∨ l.val = 64 + (48 + j.val) ∨ l.val = 160 + (48 + j.val)); omega),
      if_pos (by show l.val = 144 + (48 + j.val); omega), mul_neg, mul_one]

end Cert.Prep

end
-- ==== Proof.Prep.Block.lean ====
/-
  What one grid point leaves in its three output blocks, entry by entry: in every head's 128 columns the queries times their
  table, the keys with the rotated columns behind them, and the values with ones before them.
-/
module

public import proofs.«01_k».proof.Proof.Prep.Angles

@[expose] public section

set_option maxRecDepth 16384

noncomputable section

namespace Cert.Prep

open Idealize.ShloMosaic hiding ix0 ix1 ix2 ix3 ix4 ix5
open Idealize.ShloMosaic.ValueIdx Cert.Layer Cert.Kernel6Ideal Cert.Kernel6Ideal.Gen Cert.Kernel6Ideal.Facts
open Cert.Merge (IsReal mul_real sum_real)

/-- The scale of the queries. -/
abbrev scale : EReal := Ideal.ofBits .f32 0x3E16C740#32

/-- The column of a head that column `n` of a block is. -/
def lane (n : Fin 2048) : Fin 128 := ⟨n.val % 128, Nat.mod_lt _ (by norm_num)⟩

/-! ## The masks and the tables -/

/-- The first 64 columns. -/
theorem low_apply (r : Fin 1024) (l : Fin 128) :
    k0_pay15 (iota .tc S1024x128 32 [1] iota_S1024x128_d1_w32) (ix2 r l) = if l.val < 64 then 1#1 else 0#1 := by
  show IntOp.cmpi .slt (iota .tc S1024x128 32 [1] iota_S1024x128_d1_w32 (ix2 r l)) 64#32 = _
  rw [iota_single_apply]
  have hl := l.isLt
  show IntOp.cmpi .slt (BitVec.ofNat 32 l.val) (BitVec.ofNat 32 64) = _
  rw [WordCmp.cmpi_slt_ofNat (by norm_num; omega) (by norm_num)]
  by_cases h : l.val < 64
  · rw [if_pos h, decide_eq_true h]; rfl
  · rw [if_neg h, decide_eq_false h]; rfl

theorem between : ∀ l : Fin 128, IntOp.andi (IntOp.cmpi .sge (BitVec.ofNat 32 l.val) 64#32) (IntOp.cmpi .slt (BitVec.ofNat 32 l.val) 80#32)
    = if 64 ≤ l.val ∧ l.val < 80 then 1#1 else 0#1 := by decide +kernel

/-- The columns of the first entries of the pairs. -/
theorem first_apply (r : Fin 1024) (l : Fin 128) : k0_pay11 (ix2 r l) = if 64 ≤ l.val ∧ l.val < 80 then 1#1 else 0#1 := by
  refine Eq.trans ?_ (between l)
  show IntOp.andi (IntOp.cmpi .sge (iota .tc S1024x128 32 [1] iota_S1024x128_d1_w32 (ix2 r l)) 64#32)
    (IntOp.cmpi .slt (iota .tc S1024x128 32 [1] iota_S1024x128_d1_w32 (ix2 r l)) 80#32) = _
  rw [iota_single_apply]

variable (v0 : Vec Ideal S16x1 .f32) (v2 : Vec Ideal S1x1x1024 .i32) (v30 : Vec Ideal S128x256 .bf16)

/-- The table of the queries at a token and a column. -/
def queryTable (r : Fin 1024) (l : Fin 128) : EReal :=
  (if l.val < 64 then 1 else k0_pay8 (F := Ideal) v0 v2 v30 (ix2 r ⟨l.val, by omega⟩)) * scale

theorem one_word : Ideal.ofBits .f32 0x3F800000#32 = 1 := by
  simp [Ideal.ofBits, Ideal.ieee]
  rw [← EReal.coe_mul, ← EReal.coe_one]
  congr 1
  norm_num

theorem cosines_apply (r : Fin 1024) (l : Fin 128) :
    k0_pay9 (F := Ideal) v0 v2 v30 (ix2 r l) = k0_pay8 (F := Ideal) v0 v2 v30 (ix2 r ⟨l.val, by omega⟩) :=
  cut_apply 0 (k0_pay8 (F := Ideal) v0 v2 v30) slices_S1024x256_o0_0_S1024x128 r l ⟨l.val, by omega⟩ (by show l.val = 0 + l.val; omega)

theorem sines_apply (r : Fin 1024) (l : Fin 128) :
    k0_pay10 (F := Ideal) v0 v2 v30 (ix2 r l) = k0_pay8 (F := Ideal) v0 v2 v30 (ix2 r ⟨128 + l.val, by omega⟩) :=
  cut_apply 128 (k0_pay8 (F := Ideal) v0 v2 v30) slices_S1024x256_o0_128_S1024x128 r l ⟨128 + l.val, by omega⟩ rfl

theorem queryTable_apply (r : Fin 1024) (l : Fin 128) :
    k0_pay14 (k0_pay12 (F := Ideal) v0 v2 v30) (k0_pay13 (F := Ideal)) (ix2 r l) = queryTable v0 v2 v30 r l := by
  show Scalar.select (k0_pay15 (iota .tc S1024x128 32 [1] iota_S1024x128_d1_w32) (ix2 r l)) (Ideal.ofBits .f32 0x3F800000#32)
    (k0_pay9 (F := Ideal) v0 v2 v30 (ix2 r l)) * scale = _
  rw [low_apply, one_word, cosines_apply]
  unfold queryTable
  by_cases h : l.val < 64
  · rw [if_pos h, if_pos h]; rfl
  · rw [if_neg h, if_neg h]; rfl

/-! ## The rotated columns of the keys -/

/-- A column `s` further on, around the end. -/
def turn (s : ℕ) (l : Fin 128) : Fin 128 := ⟨(l.val + s) % 128, Nat.mod_lt _ (by norm_num)⟩

/-- A row times its cosines, plus the row with the halves of the pairs changed over times its sines. -/
def roped (kr q s : Fin 128 → EReal) (l : Fin 128) : EReal :=
  kr l * q l + (if 64 ≤ l.val ∧ l.val < 80 then kr (turn 16 l) else kr (turn 112 l)) * s l

theorem turned (x : FVec Ideal S1024x128 .f32) (amount : BitVec 32) (s : ℕ) (hs : amount.toNat + s = 128) (r : Fin 1024) (l : Fin 128) :
    dynamicRotate 1 amount none x rotates_S1024x128_d1 (ix2 r l) = x (ix2 r (turn s l)) := by
  refine dynamicRotate_apply (s := S1024x128) 1 amount x rotates_S1024x128_d1 (ix2 r l) (ix2 r (turn s l)) (fun b => ?_)
  match b with
  | ⟨0, _⟩ => rfl
  | ⟨1, _⟩ =>
    show (l.val + s) % 128 = (l.val + 128 - amount.toNat % 128) % 128
    have := l.isLt
    by_cases h : amount.toNat = 128
    · have h0 : s = 0 := by omega
      rw [h, h0]; omega
    · rw [Nat.mod_eq_of_lt (by omega : amount.toNat < 128)]
      congr 1; omega

theorem roped_apply (q s : FVec Ideal S1024x128 .f32) (kr : Vec Ideal S1024x128 .f32) (r : Fin 1024) (l : Fin 128) :
    k0_pay16 (F := Ideal) q s k0_pay11 kr (ix2 r l)
      = roped (row kr r) (row q r) (row s r) l + roped (row kr r) (row q r) (row s r) (turn 96 l) := by
  have inner : ∀ l : Fin 128, addf (mulf kr q) (mulf (select k0_pay11 (dynamicRotate 1 112#32 none kr rotates_S1024x128_d1)
      (dynamicRotate 1 16#32 none kr rotates_S1024x128_d1)) s) (ix2 r l) = roped (row kr r) (row q r) (row s r) l := by
    intro l
    show kr (ix2 r l) * q (ix2 r l) + Scalar.select (k0_pay11 (ix2 r l)) (dynamicRotate 1 112#32 none kr rotates_S1024x128_d1 (ix2 r l))
      (dynamicRotate 1 16#32 none kr rotates_S1024x128_d1 (ix2 r l)) * s (ix2 r l) = _
    rw [first_apply, turned kr 112#32 16 rfl, turned kr 16#32 112 rfl]
    unfold roped
    by_cases h : 64 ≤ l.val ∧ l.val < 80
    · rw [if_pos h, if_pos h]; rfl
    · rw [if_neg h, if_neg h]; rfl
  refine congrArg₂ (· + ·) (inner l) ?_
  exact (turned _ 32#32 96 rfl r l).trans (inner (turn 96 l))

/-! ## The pieces -/

/-- Two heads' columns of a product, from column `o` on. -/
def pair (K o : ℕ) (inb : ∀ d : Fin 2, ![0, o] d + ![K, 256] d ≤ (Mat K 2048).size d) (hk : (Mat K 256).ShapeCasts (Mat K 256))
    (x : FVec Ideal (Mat 1024 K) .bf16) (w : Vec Ideal (Mat K 2048) .bf16) : FVec Ideal (Mat 1024 256) .f32 :=
  dense (φ := .bf16) (ψ := .bf16) 1024 K 256 x (shapeCast (Mat K 256) (View.ld w (Rect.unit (s := Mat K 2048) ![0, o] ![K, 256] inb)) hk)

/-- One head's columns of the pair. -/
def head (K o h : ℕ) (inb : ∀ d : Fin 2, ![0, o] d + ![K, 256] d ≤ (Mat K 2048).size d) (hk : (Mat K 256).ShapeCasts (Mat K 256))
    (hs : (Mat 1024 256).Slices ![0, h] (Mat 1024 128))
    (x : FVec Ideal (Mat 1024 K) .bf16) (w : Vec Ideal (Mat K 2048) .bf16) : FVec Ideal (Mat 1024 128) .f32 :=
  extractStridedSlice (Mat 1024 128) ![0, h] (pair K o inb hk x w) hs

theorem head_apply (K o h : ℕ) (ho : o + 256 ≤ 2048) (hh : h + 128 ≤ 256) (inb : ∀ d : Fin 2, ![0, o] d + ![K, 256] d ≤ (Mat K 2048).size d)
    (hk : (Mat K 256).ShapeCasts (Mat K 256)) (hs : (Mat 1024 256).Slices ![0, h] (Mat 1024 128))
    (x : FVec Ideal (Mat 1024 K) .bf16) (w : Vec Ideal (Mat K 2048) .bf16) (r : Fin 1024) (l : Fin 128) :
    head K o h inb hk hs x w (ix2 r l) = times (row x r) (fun k => row w k) ⟨o + h + l.val, by omega⟩ := by
  refine (cut_apply h (pair K o inb hk x w) hs r l ⟨h + l.val, by omega⟩ rfl).trans ?_
  unfold pair
  refine (dense_apply (φ := .bf16) (ψ := .bf16) 1024 K 256 _ _ r _).trans ?_
  rw [shapeCast_same (s := Mat K 256)]
  refine Finset.sum_congr rfl fun k _ => congrArg (x (ix2 r k) * ·) ?_
  refine (load_apply w 0 o (by omega) ho inb k _).trans (congrArg w ?_)
  funext d; apply Fin.ext
  match d with
  | ⟨0, _⟩ => show 0 + k.val = k.val; omega
  | ⟨1, _⟩ => show o + (h + l.val) = o + h + l.val; omega

/-- The three blocks, given the norms, the table of the queries and the rotated columns. -/
def queryBlock (x : Fin 1024 → Fin 384 → EReal) (w : (Mat 384 2048).Idx → EReal) (tab : Fin 1024 → Fin 128 → EReal) :
    (Mat 1024 2048).Idx → EReal := fun y => times (x (y 0)) (fun k => row w k) (y 1) * tab (y 0) (lane (y 1))
def keyBlock (x : Fin 1024 → Fin 256 → EReal) (w : (Mat 256 2048).Idx → EReal) (rot : Fin 1024 → Fin 128 → EReal) :
    (Mat 1024 2048).Idx → EReal :=
  fun y => if (lane (y 1)).val < 64 then times (x (y 0)) (fun k => row w k) (y 1) else rot (y 0) (lane (y 1))
def valueBlock (x : Fin 1024 → Fin 256 → EReal) (w : (Mat 256 2048).Idx → EReal) : (Mat 1024 2048).Idx → EReal :=
  fun y => if (lane (y 1)).val < 64 then 1 else times (x (y 0)) (fun k => row w k) (y 1)

theorem lane_eq (o : ℕ) (ho : o + 128 ≤ 2048) (hd : o % 128 = 0) (l : Fin 128) : lane ⟨o + l.val, by omega⟩ = l := by
  apply Fin.ext
  show (o + l.val) % 128 = l.val
  have := l.isLt
  omega

theorem query_piece (o h : ℕ) (ho : o + 256 ≤ 2048) (hh : h + 128 ≤ 256) (hd : (o + h) % 128 = 0)
    (inb : ∀ d : Fin 2, ![0, o] d + ![384, 256] d ≤ (Mat 384 2048).size d)
    (hs : (Mat 1024 256).Slices ![0, h] (Mat 1024 128)) (c : ℕ) (hc : c = o + h)
    (inb' : ∀ d : Fin 2, ![0, c] d + ![1024, 128] d ≤ (Mat 1024 2048).size d)
    (x : FVec Ideal (Mat 1024 384) .bf16) (w : Vec Ideal (Mat 384 2048) .bf16) (tab : FVec Ideal (Mat 1024 128) .f32) (z : (Mat 1024 128).Idx) :
    mulf (head 384 o h inb shapeCasts_S384x256_S384x256 hs x w) tab z
      = queryBlock (row x) w (row tab) ((Rect.unit (s := Mat 1024 2048) ![0, c] ![1024, 128] inb').emb z) := by
  subst hc
  obtain ⟨r, l, rfl⟩ := eta z
  rw [emb_block 0 (o + h) (by omega) (by omega) inb' r l]
  show head 384 o h inb shapeCasts_S384x256_S384x256 hs x w (ix2 r l) * tab (ix2 r l)
    = times (row x ⟨0 + r.val, _⟩) (fun k => row w k) ⟨o + h + l.val, _⟩ * row tab ⟨0 + r.val, _⟩ (lane ⟨o + h + l.val, _⟩)
  rw [head_apply 384 o h ho hh, lane_eq (o + h) (by omega) hd l]
  simp only [Nat.zero_add]
  rfl

theorem key_piece (o h : ℕ) (ho : o + 256 ≤ 2048) (hh : h + 128 ≤ 256) (hd : (o + h) % 128 = 0)
    (inb : ∀ d : Fin 2, ![0, o] d + ![256, 256] d ≤ (Mat 256 2048).size d)
    (hs : (Mat 1024 256).Slices ![0, h] (Mat 1024 128)) (c : ℕ) (hc : c = o + h)
    (inb' : ∀ d : Fin 2, ![0, c] d + ![1024, 128] d ≤ (Mat 1024 2048).size d)
    (x : FVec Ideal (Mat 1024 256) .bf16) (w : Vec Ideal (Mat 256 2048) .bf16) (rot : FVec Ideal (Mat 1024 128) .f32) (z : (Mat 1024 128).Idx) :
    select (k0_pay15 (iota .tc S1024x128 32 [1] iota_S1024x128_d1_w32)) (head 256 o h inb shapeCasts_S256x256_S256x256 hs x w) rot z
      = keyBlock (row x) w (row rot) ((Rect.unit (s := Mat 1024 2048) ![0, c] ![1024, 128] inb').emb z) := by
  subst hc
  obtain ⟨r, l, rfl⟩ := eta z
  rw [emb_block 0 (o + h) (by omega) (by omega) inb' r l]
  show Scalar.select (k0_pay15 (iota .tc S1024x128 32 [1] iota_S1024x128_d1_w32) (ix2 r l))
      (head 256 o h inb shapeCasts_S256x256_S256x256 hs x w (ix2 r l)) (rot (ix2 r l))
    = if (lane ⟨o + h + l.val, _⟩).val < 64 then times (row x ⟨0 + r.val, _⟩) (fun k => row w k) ⟨o + h + l.val, _⟩
      else row rot ⟨0 + r.val, _⟩ (lane ⟨o + h + l.val, _⟩)
  rw [head_apply 256 o h ho hh, lane_eq (o + h) (by omega) hd l, low_apply]
  simp only [Nat.zero_add]
  by_cases h : l.val < 64
  · rw [if_pos h, if_pos h]; rfl
  · rw [if_neg h, if_neg h]; rfl

theorem value_piece (o h : ℕ) (ho : o + 256 ≤ 2048) (hh : h + 128 ≤ 256) (hd : (o + h) % 128 = 0)
    (inb : ∀ d : Fin 2, ![0, o] d + ![256, 256] d ≤ (Mat 256 2048).size d)
    (hs : (Mat 1024 256).Slices ![0, h] (Mat 1024 128)) (c : ℕ) (hc : c = o + h)
    (inb' : ∀ d : Fin 2, ![0, c] d + ![1024, 128] d ≤ (Mat 1024 2048).size d)
    (x : FVec Ideal (Mat 1024 256) .bf16) (w : Vec Ideal (Mat 256 2048) .bf16) (z : (Mat 1024 128).Idx) :
    select (k0_pay15 (iota .tc S1024x128 32 [1] iota_S1024x128_d1_w32))
      (broadcast S1024x128 (Scalar.ofBits (F := Ideal) .f32 0x3F800000#32)) (head 256 o h inb shapeCasts_S256x256_S256x256 hs x w) z
      = valueBlock (row x) w ((Rect.unit (s := Mat 1024 2048) ![0, c] ![1024, 128] inb').emb z) := by
  subst hc
  obtain ⟨r, l, rfl⟩ := eta z
  rw [emb_block 0 (o + h) (by omega) (by omega) inb' r l]
  show Scalar.select (k0_pay15 (iota .tc S1024x128 32 [1] iota_S1024x128_d1_w32) (ix2 r l))
      (Ideal.ofBits .f32 0x3F800000#32) (head 256 o h inb shapeCasts_S256x256_S256x256 hs x w (ix2 r l))
    = if (lane ⟨o + h + l.val, _⟩).val < 64 then 1 else times (row x ⟨0 + r.val, _⟩) (fun k => row w k) ⟨o + h + l.val, _⟩
  rw [head_apply 256 o h ho hh, lane_eq (o + h) (by omega) hd l, low_apply, one_word]
  simp only [Nat.zero_add]
  by_cases h : l.val < 64
  · rw [if_pos h, if_pos h]; rfl
  · rw [if_neg h, if_neg h]; rfl

end Cert.Prep

end
-- ==== Proof.Prep.Out.lean ====
/-
  The three output blocks of a grid point from its input blocks: every head's columns are one stored piece.
-/
module

public import proofs.«01_k».proof.Proof.Prep.Block

@[expose] public section

set_option maxRecDepth 16384

noncomputable section

namespace Cert.Prep

open Idealize.ShloMosaic hiding ix0 ix1 ix2 ix3 ix4 ix5
open Idealize.ShloMosaic.ValueIdx Cert.Layer Cert.Kernel6Ideal Cert.Kernel6Ideal.Gen Cert.Kernel6Ideal.Facts

/-- The numbers of columns the norms divide by. -/
abbrev queryWidth : EReal := Ideal.ofBits .f32 0x43C00000#32
abbrev keyWidth : EReal := Ideal.ofBits .f32 0x43800000#32

variable (x0 : Vec Ideal S1024x384 .bf16) (x1 : Vec Ideal S1024x256 .bf16) (x2 : Vec Ideal S1024x128 .f32)
  (x3 : Vec Ideal S1x1x1024 .i32) (x4 : Vec Ideal S16x1 .f32) (x5 : Vec Ideal S128x256 .bf16) (x6 : Vec Ideal S1x384 .f32)
  (x7 : Vec Ideal S1x256 .f32) (x8 : Vec Ideal S384x2048 .bf16) (x9 : Vec Ideal S256x2048 .bf16)

/-! ## What the pieces share -/

theorem query_norm (r : Fin 1024) : row (k0_pay83 (F := Ideal) x0 x1 x2 x3 x4 x5 x6 x7 x8 x9) r = rms queryWidth (row x0 r) (row x6 0) := by
  funext l
  refine (rmsVec_apply 1024 384 (by decide) 0x43C00000#32 (by decide) (by decide) (by decide) (by decide)
    (extf .f32 (View.ld x0 r0_4) bitsLt_bf16_f32) (View.ld x6 r0_5) r l).trans ?_
  rw [load_all (R := 1024) (C := 384) x0, load_all (R := 1) (C := 384) x6]
  rfl

theorem key_norm (r : Fin 1024) : row (k0_pay86 (F := Ideal) x0 x1 x2 x3 x4 x5 x6 x7 x8 x9) r = rms keyWidth (row x1 r) (row x7 0) := by
  funext l
  refine (rmsVec_apply 1024 256 (by decide) 0x43800000#32 (by decide) (by decide) (by decide) (by decide)
    (extf .f32 (View.ld x1 r0_6) bitsLt_bf16_f32) (View.ld x7 r0_7) r l).trans ?_
  rw [load_all (R := 1024) (C := 256) x1, load_all (R := 1) (C := 256) x7]
  rfl

/-- A block of one row of one row read out is the block. -/
theorem load_positions : View.ld x3 r0_1 = x3 := by
  funext z
  refine congrArg x3 ?_
  funext d; apply Fin.ext
  match d with
  | ⟨0, _⟩ => show 0 + 1 * (z 0).val = (z 0).val; omega
  | ⟨1, _⟩ => show 0 + 1 * (z 1).val = (z 1).val; omega
  | ⟨2, _⟩ => show 0 + 1 * (z 2).val = (z 2).val; omega

theorem query_table (r : Fin 1024) : row (k0_pay80 (F := Ideal) x0 x1 x2 x3 x4 x5 x6 x7 x8 x9) r = queryTable x4 x3 x5 r := by
  funext l
  unfold k0_pay80
  rw [load_positions, load_all (R := 16) (C := 1) x4, load_all (R := 128) (C := 256) x5]
  exact queryTable_apply x4 x3 x5 r l

/-- The rotated columns of the keys at a token and a column. -/
def rotated (x2 : Vec Ideal S1024x128 .f32) (x3 : Vec Ideal S1x1x1024 .i32) (x4 : Vec Ideal S16x1 .f32) (x5 : Vec Ideal S128x256 .bf16)
    (r : Fin 1024) (l : Fin 128) : EReal :=
  roped (row x2 r) (fun l => k0_pay8 (F := Ideal) x4 x3 x5 (ix2 r ⟨l.val, by omega⟩)) (fun l => k0_pay8 (F := Ideal) x4 x3 x5 (ix2 r ⟨128 + l.val, by omega⟩)) l
    + roped (row x2 r) (fun l => k0_pay8 (F := Ideal) x4 x3 x5 (ix2 r ⟨l.val, by omega⟩)) (fun l => k0_pay8 (F := Ideal) x4 x3 x5 (ix2 r ⟨128 + l.val, by omega⟩)) (turn 96 l)

theorem key_rotated (r : Fin 1024) : row (k0_pay82 (F := Ideal) x0 x1 x2 x3 x4 x5 x6 x7 x8 x9) r = rotated x2 x3 x4 x5 r := by
  funext l
  unfold k0_pay82
  rw [load_positions, load_all (R := 16) (C := 1) x4, load_all (R := 128) (C := 256) x5, load_all (R := 1024) (C := 128) x2]
  refine (roped_apply _ _ x2 r l).trans ?_
  have hq : row (k0_pay9 (F := Ideal) x4 x3 x5) r = fun l => k0_pay8 (F := Ideal) x4 x3 x5 (ix2 r ⟨l.val, by omega⟩) := funext fun l => cosines_apply x4 x3 x5 r l
  have hs : row (k0_pay10 (F := Ideal) x4 x3 x5) r = fun l => k0_pay8 (F := Ideal) x4 x3 x5 (ix2 r ⟨128 + l.val, by omega⟩) := funext fun l => sines_apply x4 x3 x5 r l
  rw [hq, hs]
  rfl

/-! ## The blocks -/

theorem out10_apply (y : S1024x2048.Idx) : out0_10 (F := Ideal) x0 x1 x2 x3 x4 x5 x6 x7 x8 x9 y = queryBlock (fun r => rms queryWidth (row x0 r) (row x6 0)) x8 (queryTable x4 x3 x5) y := by
  unfold out0_10
  refine View.canon_apply_of_pieces (S := S1024x2048) (Val := Elt Ideal) (e := .bf16) (queryBlock (fun r => rms queryWidth (row x0 r) (row x6 0)) x8 (queryTable x4 x3 x5)) _ ?_ y
    (View.cover_of_tiledL (s := S1024x2048) _ ![1024, 128] (by sl_kernel_rfl) y)
  rw [← funext (query_norm x0 x1 x2 x3 x4 x5 x6 x7 x8 x9), ← funext (query_table x0 x1 x2 x3 x4 x5 x6 x7 x8 x9)]
  exact
    List.forall_mem_cons.2 ⟨fun z => query_piece 1792 128 (by norm_num) (by norm_num) (by norm_num) (by decide) (by decide) 1920 rfl (by decide) _ _ _ z,
    List.forall_mem_cons.2 ⟨fun z => query_piece 1792 0 (by norm_num) (by norm_num) (by norm_num) (by decide) (by decide) 1792 rfl (by decide) _ _ _ z,
    List.forall_mem_cons.2 ⟨fun z => query_piece 1536 128 (by norm_num) (by norm_num) (by norm_num) (by decide) (by decide) 1664 rfl (by decide) _ _ _ z,
    List.forall_mem_cons.2 ⟨fun z => query_piece 1536 0 (by norm_num) (by norm_num) (by norm_num) (by decide) (by decide) 1536 rfl (by decide) _ _ _ z,
    List.forall_mem_cons.2 ⟨fun z => query_piece 1280 128 (by norm_num) (by norm_num) (by norm_num) (by decide) (by decide) 1408 rfl (by decide) _ _ _ z,
    List.forall_mem_cons.2 ⟨fun z => query_piece 1280 0 (by norm_num) (by norm_num) (by norm_num) (by decide) (by decide) 1280 rfl (by decide) _ _ _ z,
    List.forall_mem_cons.2 ⟨fun z => query_piece 1024 128 (by norm_num) (by norm_num) (by norm_num) (by decide) (by decide) 1152 rfl (by decide) _ _ _ z,
    List.forall_mem_cons.2 ⟨fun z => query_piece 1024 0 (by norm_num) (by norm_num) (by norm_num) (by decide) (by decide) 1024 rfl (by decide) _ _ _ z,
    List.forall_mem_cons.2 ⟨fun z => query_piece 768 128 (by norm_num) (by norm_num) (by norm_num) (by decide) (by decide) 896 rfl (by decide) _ _ _ z,
    List.forall_mem_cons.2 ⟨fun z => query_piece 768 0 (by norm_num) (by norm_num) (by norm_num) (by decide) (by decide) 768 rfl (by decide) _ _ _ z,
    List.forall_mem_cons.2 ⟨fun z => query_piece 512 128 (by norm_num) (by norm_num) (by norm_num) (by decide) (by decide) 640 rfl (by decide) _ _ _ z,
    List.forall_mem_cons.2 ⟨fun z => query_piece 512 0 (by norm_num) (by norm_num) (by norm_num) (by decide) (by decide) 512 rfl (by decide) _ _ _ z,
    List.forall_mem_cons.2 ⟨fun z => query_piece 256 128 (by norm_num) (by norm_num) (by norm_num) (by decide) (by decide) 384 rfl (by decide) _ _ _ z,
    List.forall_mem_cons.2 ⟨fun z => query_piece 256 0 (by norm_num) (by norm_num) (by norm_num) (by decide) (by decide) 256 rfl (by decide) _ _ _ z,
    List.forall_mem_cons.2 ⟨fun z => query_piece 0 128 (by norm_num) (by norm_num) (by norm_num) (by decide) (by decide) 128 rfl (by decide) _ _ _ z,
    List.forall_mem_cons.2 ⟨fun z => query_piece 0 0 (by norm_num) (by norm_num) (by norm_num) (by decide) (by decide) 0 rfl (by decide) _ _ _ z,
    fun p hp => absurd hp List.not_mem_nil⟩⟩⟩⟩⟩⟩⟩⟩⟩⟩⟩⟩⟩⟩⟩⟩

theorem out11_apply (y : S1024x2048.Idx) : out0_11 (F := Ideal) x0 x1 x2 x3 x4 x5 x6 x7 x8 x9 y = keyBlock (fun r => rms keyWidth (row x1 r) (row x7 0)) x9 (rotated x2 x3 x4 x5) y := by
  unfold out0_11
  refine View.canon_apply_of_pieces (S := S1024x2048) (Val := Elt Ideal) (e := .bf16) (keyBlock (fun r => rms keyWidth (row x1 r) (row x7 0)) x9 (rotated x2 x3 x4 x5)) _ ?_ y
    (View.cover_of_tiledL (s := S1024x2048) _ ![1024, 128] (by sl_kernel_rfl) y)
  rw [← funext (key_norm x0 x1 x2 x3 x4 x5 x6 x7 x8 x9), ← funext (key_rotated x0 x1 x2 x3 x4 x5 x6 x7 x8 x9)]
  exact
    List.forall_mem_cons.2 ⟨fun z => key_piece 1792 128 (by norm_num) (by norm_num) (by norm_num) (by decide) (by decide) 1920 rfl (by decide) _ _ _ z,
    List.forall_mem_cons.2 ⟨fun z => key_piece 1792 0 (by norm_num) (by norm_num) (by norm_num) (by decide) (by decide) 1792 rfl (by decide) _ _ _ z,
    List.forall_mem_cons.2 ⟨fun z => key_piece 1536 128 (by norm_num) (by norm_num) (by norm_num) (by decide) (by decide) 1664 rfl (by decide) _ _ _ z,
    List.forall_mem_cons.2 ⟨fun z => key_piece 1536 0 (by norm_num) (by norm_num) (by norm_num) (by decide) (by decide) 1536 rfl (by decide) _ _ _ z,
    List.forall_mem_cons.2 ⟨fun z => key_piece 1280 128 (by norm_num) (by norm_num) (by norm_num) (by decide) (by decide) 1408 rfl (by decide) _ _ _ z,
    List.forall_mem_cons.2 ⟨fun z => key_piece 1280 0 (by norm_num) (by norm_num) (by norm_num) (by decide) (by decide) 1280 rfl (by decide) _ _ _ z,
    List.forall_mem_cons.2 ⟨fun z => key_piece 1024 128 (by norm_num) (by norm_num) (by norm_num) (by decide) (by decide) 1152 rfl (by decide) _ _ _ z,
    List.forall_mem_cons.2 ⟨fun z => key_piece 1024 0 (by norm_num) (by norm_num) (by norm_num) (by decide) (by decide) 1024 rfl (by decide) _ _ _ z,
    List.forall_mem_cons.2 ⟨fun z => key_piece 768 128 (by norm_num) (by norm_num) (by norm_num) (by decide) (by decide) 896 rfl (by decide) _ _ _ z,
    List.forall_mem_cons.2 ⟨fun z => key_piece 768 0 (by norm_num) (by norm_num) (by norm_num) (by decide) (by decide) 768 rfl (by decide) _ _ _ z,
    List.forall_mem_cons.2 ⟨fun z => key_piece 512 128 (by norm_num) (by norm_num) (by norm_num) (by decide) (by decide) 640 rfl (by decide) _ _ _ z,
    List.forall_mem_cons.2 ⟨fun z => key_piece 512 0 (by norm_num) (by norm_num) (by norm_num) (by decide) (by decide) 512 rfl (by decide) _ _ _ z,
    List.forall_mem_cons.2 ⟨fun z => key_piece 256 128 (by norm_num) (by norm_num) (by norm_num) (by decide) (by decide) 384 rfl (by decide) _ _ _ z,
    List.forall_mem_cons.2 ⟨fun z => key_piece 256 0 (by norm_num) (by norm_num) (by norm_num) (by decide) (by decide) 256 rfl (by decide) _ _ _ z,
    List.forall_mem_cons.2 ⟨fun z => key_piece 0 128 (by norm_num) (by norm_num) (by norm_num) (by decide) (by decide) 128 rfl (by decide) _ _ _ z,
    List.forall_mem_cons.2 ⟨fun z => key_piece 0 0 (by norm_num) (by norm_num) (by norm_num) (by decide) (by decide) 0 rfl (by decide) _ _ _ z,
    fun p hp => absurd hp List.not_mem_nil⟩⟩⟩⟩⟩⟩⟩⟩⟩⟩⟩⟩⟩⟩⟩⟩

theorem out12_apply (y : S1024x2048.Idx) : out0_12 (F := Ideal) x0 x1 x2 x3 x4 x5 x6 x7 x8 x9 y = valueBlock (fun r => rms keyWidth (row x1 r) (row x7 0)) x9 y := by
  unfold out0_12
  refine View.canon_apply_of_pieces (S := S1024x2048) (Val := Elt Ideal) (e := .bf16) (valueBlock (fun r => rms keyWidth (row x1 r) (row x7 0)) x9) _ ?_ y
    (View.cover_of_tiledL (s := S1024x2048) _ ![1024, 128] (by sl_kernel_rfl) y)
  rw [← funext (key_norm x0 x1 x2 x3 x4 x5 x6 x7 x8 x9)]
  exact
    List.forall_mem_cons.2 ⟨fun z => value_piece 1792 128 (by norm_num) (by norm_num) (by norm_num) (by decide) (by decide) 1920 rfl (by decide) _ _ z,
    List.forall_mem_cons.2 ⟨fun z => value_piece 1792 0 (by norm_num) (by norm_num) (by norm_num) (by decide) (by decide) 1792 rfl (by decide) _ _ z,
    List.forall_mem_cons.2 ⟨fun z => value_piece 1536 128 (by norm_num) (by norm_num) (by norm_num) (by decide) (by decide) 1664 rfl (by decide) _ _ z,
    List.forall_mem_cons.2 ⟨fun z => value_piece 1536 0 (by norm_num) (by norm_num) (by norm_num) (by decide) (by decide) 1536 rfl (by decide) _ _ z,
    List.forall_mem_cons.2 ⟨fun z => value_piece 1280 128 (by norm_num) (by norm_num) (by norm_num) (by decide) (by decide) 1408 rfl (by decide) _ _ z,
    List.forall_mem_cons.2 ⟨fun z => value_piece 1280 0 (by norm_num) (by norm_num) (by norm_num) (by decide) (by decide) 1280 rfl (by decide) _ _ z,
    List.forall_mem_cons.2 ⟨fun z => value_piece 1024 128 (by norm_num) (by norm_num) (by norm_num) (by decide) (by decide) 1152 rfl (by decide) _ _ z,
    List.forall_mem_cons.2 ⟨fun z => value_piece 1024 0 (by norm_num) (by norm_num) (by norm_num) (by decide) (by decide) 1024 rfl (by decide) _ _ z,
    List.forall_mem_cons.2 ⟨fun z => value_piece 768 128 (by norm_num) (by norm_num) (by norm_num) (by decide) (by decide) 896 rfl (by decide) _ _ z,
    List.forall_mem_cons.2 ⟨fun z => value_piece 768 0 (by norm_num) (by norm_num) (by norm_num) (by decide) (by decide) 768 rfl (by decide) _ _ z,
    List.forall_mem_cons.2 ⟨fun z => value_piece 512 128 (by norm_num) (by norm_num) (by norm_num) (by decide) (by decide) 640 rfl (by decide) _ _ z,
    List.forall_mem_cons.2 ⟨fun z => value_piece 512 0 (by norm_num) (by norm_num) (by norm_num) (by decide) (by decide) 512 rfl (by decide) _ _ z,
    List.forall_mem_cons.2 ⟨fun z => value_piece 256 128 (by norm_num) (by norm_num) (by norm_num) (by decide) (by decide) 384 rfl (by decide) _ _ z,
    List.forall_mem_cons.2 ⟨fun z => value_piece 256 0 (by norm_num) (by norm_num) (by norm_num) (by decide) (by decide) 256 rfl (by decide) _ _ z,
    List.forall_mem_cons.2 ⟨fun z => value_piece 0 128 (by norm_num) (by norm_num) (by norm_num) (by decide) (by decide) 128 rfl (by decide) _ _ z,
    List.forall_mem_cons.2 ⟨fun z => value_piece 0 0 (by norm_num) (by norm_num) (by norm_num) (by decide) (by decide) 0 rfl (by decide) _ _ z,
    fun p hp => absurd hp List.not_mem_nil⟩⟩⟩⟩⟩⟩⟩⟩⟩⟩⟩⟩⟩⟩⟩⟩

end Cert.Prep

end
-- ==== Proof.Prep.Table.lean ====
/-
  The table that spreads the rows of cosines and sines over the columns of a head: its entries are the words of 0, 1 and −1. Row
  `j` is one in the columns 64 + j and 80 + j; row 48 + j is one in the columns 96 + j, 112 + j and 208 + j and minus one in the
  column 192 + j. The other rows belong to the pieces of the numbers below the first, which are zero here.
-/
module

public import proofs.«01_k».proof.Kernel6Ideal

@[expose] public section

set_option maxRecDepth 16384

namespace Cert.Prep

open Idealize.ShloMosaic

/-- The word in row `k` and column `l` of the table, for the rows of the first pieces. -/
def word (k l : ℕ) : BitVec 16 :=
  if k < 48 then if l = 64 + k ∨ l = 80 + k then 0x3F80#16 else 0#16
  else if l = 48 + k ∨ l = 64 + k ∨ l = 160 + k then 0x3F80#16 else if l = 144 + k then 0xBF80#16 else 0#16

set_option maxHeartbeats 0 in
theorem cosine_rows : ∀ a : Fin 16, ∀ b : Fin 256, Cert.Kernel6Ideal.lit0 ⟨a.val * 256 + b.val, by omega⟩ = word a.val b.val := by
  decide +kernel

set_option maxHeartbeats 0 in
theorem sine_rows : ∀ a : Fin 16, ∀ b : Fin 256,
    Cert.Kernel6Ideal.lit0 ⟨(48 + a.val) * 256 + b.val, by omega⟩ = word (48 + a.val) b.val := by
  decide +kernel

end Cert.Prep
-- ==== Proof.Prep.Weights.lean ====
/-
  What the host hands the call: the frequencies, the positions in rows of 1024, the table, and the weights in 128 columns per head,
  entry by entry of the arguments.
-/
module

public import proofs.«01_k».proof.Proof.Prep.Out
public import proofs.«01_k».proof.Proof.Prep.Table

@[expose] public section

set_option maxRecDepth 16384

noncomputable section

namespace Cert.Prep

open Idealize.ShloMosaic hiding ix0 ix1 ix2 ix3 ix4 ix5
open Idealize.ShloMosaic.ValueIdx Cert.Layer Cert.Kernel6Ideal Cert.Kernel6Ideal.Gen Cert.Kernel6Ideal.Facts
open Cert.Merge (IsReal mul_real sum_real)

/-! ## The frequencies -/

/-- 10000 to the power −2j/32. -/
def frequencies : FVec Ideal S16 .f32 :=
  Host.powf (broadcastInDim S16 ![] bcast_S_S16 (constant (F := Ideal) S_ .f32 0x461C4000#32))
    (Host.divf (Host.negf (addf (broadcastInDim S16 ![] bcast_S_S16 (constant (F := Ideal) S_ .f32 0x00000000#32))
        (mulf (broadcastInDim S16 ![] bcast_S_S16 (constant (F := Ideal) S_ .f32 0x40000000#32)) (sitofp (F := Ideal) .f32 (iotaInDim S16 32 0)))))
      (broadcastInDim S16 ![] bcast_S_S16 (constant (F := Ideal) S_ .f32 0x42000000#32)))

theorem base_real : IsReal (Ideal.ofBits .f32 0x461C4000#32) := by
  simp [Ideal.ofBits, Ideal.ieee]
  exact ⟨_, (EReal.coe_mul _ _).symm⟩

theorem two_real : IsReal (Ideal.ofBits .f32 0x40000000#32) := by
  simp [Ideal.ofBits, Ideal.ieee]
  exact ⟨_, (EReal.coe_mul _ _).symm⟩

theorem thirtyTwo : Ideal.ofBits .f32 0x42000000#32 = ((32 : ℝ) : EReal) := by
  simp [Ideal.ofBits, Ideal.ieee]
  rw [← EReal.coe_mul]
  congr 1
  norm_num

theorem frequencies_real (j : Fin 16) : IsReal (frequencies (ix1 j)) := by
  show IsReal (Ideal.pow (Ideal.ofBits .f32 0x461C4000#32) (Ideal.div
    (-(Ideal.ofBits .f32 0x00000000#32 + Ideal.ofBits .f32 0x40000000#32 * ((((BitVec.ofNat 32 j.val).toInt : ℝ)) : EReal)))
    (Ideal.ofBits .f32 0x42000000#32)))
  obtain ⟨b, hb⟩ := base_real
  obtain ⟨w, hw⟩ := two_real
  have n0 : ((32 : ℝ) : EReal) ≠ 0 := by exact_mod_cast (by norm_num : (32 : ℝ) ≠ 0)
  rw [hb, hw, thirtyTwo, Ideal.ofBits_zero_f32, zero_add, ← EReal.coe_mul, ← EReal.coe_neg, Ideal.div, if_neg n0, ← EReal.coe_inv,
    ← EReal.coe_mul, Ideal.pow_coe_coe]
  exact ⟨_, rfl⟩

variable (m : (ℓ : Loc nD τ sig) → Buf (Elt Ideal) ℓ) (c : Dev nD)

theorem frequency_apply (j : Fin 16) : V m c main_v11 (ix2 j 0) = frequencies (ix1 j) := by
  have e : V m c main_v11 = shapeCast S16x1 frequencies shapeCasts_S16_S16x1 := by
    unfold_abbrev_sides
    after_results
    rfl
  rw [e]
  exact shapeCast_apply frequencies shapeCasts_S16_S16x1 (ix2 j 0) (ix1 j) (by
    rw [Shape.rowMajor_val_two, Shape.rowMajor_val_one]; show j.val = j.val * 1 + 0; omega)

/-! ## The positions -/

theorem position_apply (t : Fin 32) (r : Fin 1024) : V m c main_v0 (ix3 t 0 r)
    = m ((c.tc : Thread nD τ).loc main_arg3) (ix2 (⟨(1024 * t.val + r.val) / 2048, by omega⟩ : Fin 16) ⟨(1024 * t.val + r.val) % 2048, by omega⟩) := by
  have e : V m c main_v0 = shapeCast S32x1x1024 (m ((c.tc : Thread nD τ).loc main_arg3)) shapeCasts_S16x2048_S32x1x1024 := by
    unfold_abbrev_sides
    after_results
    rfl
  rw [e]
  exact shapeCast_apply _ shapeCasts_S16x2048_S32x1x1024 (ix3 t 0 r) _ (by
    rw [Shape.rowMajor_val_two, Shape.rowMajor_val_three]
    show (1024 * t.val + r.val) / 2048 * 2048 + (1024 * t.val + r.val) % 2048 = (t.val * 1 + 0) * 1024 + r.val
    omega)

/-! ## The table -/

theorem one_half : Ideal.ofBits .bf16 0x3F80#16 = 1 := by
  simp [Ideal.ofBits, Ideal.ieee]
  rw [← EReal.coe_mul, ← EReal.coe_one]
  congr 1
  norm_num

theorem minus_half : Ideal.ofBits .bf16 0xBF80#16 = -1 := by
  simp [Ideal.ofBits, Ideal.ieee]
  rw [← EReal.coe_mul, ← EReal.coe_one]
  congr 1
  norm_num

theorem zero_half : Ideal.ofBits .bf16 0#16 = 0 := by
  simp [Ideal.ofBits, Ideal.ieee]

theorem table_apply (k : Fin 128) (l : Fin 256) :
    V m c main_cst (ix2 k l) = Ideal.ofBits .bf16 (lit0 ⟨k.val * 256 + l.val, by omega⟩) := by
  have e : V m c main_cst = fun i => Ideal.ofBits .bf16 (lit0 (S128x256.rowMajor i)) := by
    unfold_abbrev_sides
    after_results
    rfl
  rw [e]
  refine congrArg (fun i => Ideal.ofBits .bf16 (lit0 i)) (Fin.ext ?_)
  rw [Shape.rowMajor_val_two]
  rfl

theorem table_spread : Spread (V m c main_cst) where
  cosine k l hk := by
    rw [table_apply]
    have e := cosine_rows ⟨k.val, hk⟩ l
    rw [show lit0 ⟨k.val * 256 + l.val, by omega⟩ = word k.val l.val from e]
    unfold word
    rw [if_pos (by omega)]
    split
    · exact one_half
    · exact zero_half
  sine k l h0 h1 := by
    rw [table_apply]
    have e := sine_rows ⟨k.val - 48, by omega⟩ l
    have hk : 48 + (k.val - 48) = k.val := by omega
    simp only [hk] at e
    rw [e]
    unfold word
    rw [if_neg (by omega)]
    split
    · exact one_half
    split
    · exact minus_half
    · exact zero_half

/-! ## The weights -/

/-- An entry of arrays laid one behind the other along the last axis, read in the one it comes from; `pre` entries lie before it. -/
theorem behind_apply {A B C Q : ℕ} {α : Type} (xs : List ((s : Shape) × (s.Idx → α)))
    (h : Shape.Concatenates (xs.map (·.1)) (⟨3, ![A, B, C]⟩ : Shape) (2 : Fin 3)) (k : ℕ) (hk : k < xs.length)
    (x : (⟨3, ![A, B, Q]⟩ : Shape).Idx → α) (hx : xs[k] = ⟨⟨3, ![A, B, Q]⟩, x⟩) (pre : ℕ)
    (hpre : (((xs.take k).map (·.1)).map fun s => if h : s.rank = (⟨3, ![A, B, C]⟩ : Shape).rank then s.size ((2 : Fin 3).cast h.symm) else 0).sum = pre)
    (a : Fin A) (b : Fin B) (l : Fin Q) (j : Fin C) (hj : pre + l.val = j.val) :
    concatenate (⟨3, ![A, B, C]⟩ : Shape) (2 : Fin 3) xs h (ix3 a b j) = x (ix3 a b l) := by
  refine concatenate_apply_piece (t := ⟨3, ![A, B, C]⟩) (2 : Fin 3) xs h (ix3 a b j) k hk ⟨3, ![A, B, Q]⟩ x hx rfl pre hpre (ix3 a b l) (fun d hd => ?_) hj
  match d with
  | ⟨0, _⟩ => rfl
  | ⟨1, _⟩ => rfl
  | ⟨2, _⟩ => exact absurd rfl hd

/-- The columns of a matrix in groups. -/
theorem grouped_apply {A B C N : ℕ} {α : Type} (hN : N = B * C) (x : (Mat A N).Idx → α) (h : (Mat A N).ShapeCasts (⟨3, ![A, B, C]⟩ : Shape))
    (a : Fin A) (b : Fin B) (l : Fin C) (n : Fin N) (hn : n.val = C * b.val + l.val) :
    shapeCast (⟨3, ![A, B, C]⟩ : Shape) x h (ix3 a b l) = x (ix2 a n) := by
  refine shapeCast_apply x h (ix3 a b l) (ix2 a n) ?_
  rw [Shape.rowMajor_val_two, Shape.rowMajor_val_three]
  show a.val * N + n.val = (a.val * B + b.val) * C + l.val
  rw [hn, hN]
  ring

/-- Groups of columns as one matrix. -/
theorem joined_apply {A B C N : ℕ} {α : Type} (hN : N = B * C) (x : (⟨3, ![A, B, C]⟩ : Shape).Idx → α) (h : (⟨3, ![A, B, C]⟩ : Shape).ShapeCasts (Mat A N))
    (a : Fin A) (b : Fin B) (l : Fin C) (n : Fin N) (hn : n.val = C * b.val + l.val) :
    shapeCast (Mat A N) x h (ix2 a n) = x (ix3 a b l) := by
  refine shapeCast_apply x h (ix2 a n) (ix3 a b l) ?_
  rw [Shape.rowMajor_val_two, Shape.rowMajor_val_three]
  show (a.val * B + b.val) * C + l.val = a.val * N + n.val
  rw [hn, hN]
  ring

/-- The weights of the queries the call is given. -/
abbrev queryWeights : (Mat 384 1536).Idx → EReal := m ((c.tc : Thread nD τ).loc main_arg6)

/-- The queries' weights, 128 columns for each head. -/
def padded : (⟨3, ![384, 16, 128]⟩ : Shape).Idx → EReal :=
  concatenate (α := EReal) S384x16x128 2 [
    ⟨S384x16x96, shapeCast S384x16x96 (queryWeights m c) shapeCasts_S384x1536_S384x16x96⟩,
    ⟨S384x16x16, fun i => -(extractStridedSlice S384x16x16 ![0, 0, 80]
      (shapeCast S384x16x96 (queryWeights m c) shapeCasts_S384x1536_S384x16x96) slices_S384x16x96_S384x16x16_0_0_80 i)⟩,
    ⟨S384x16x16, extractStridedSlice S384x16x16 ![0, 0, 64]
      (shapeCast S384x16x96 (queryWeights m c) shapeCasts_S384x1536_S384x16x96) slices_S384x16x96_S384x16x16_0_0_64⟩]
    concatenates_S384x16x96_S384x16x16_S384x16x16_S384x16x128_d2

theorem padded_eq : V m c main_v22 = (shapeCast S384x2048 (padded m c) shapeCasts_S384x16x128_S384x2048 : (Mat 384 2048).Idx → EReal) := by
  unfold_abbrev_sides
  after_results
  rfl

theorem padded_own (k : Fin 384) (h : Fin 16) (d : Fin 96) (n : Fin 2048) (hn : n.val = 128 * h.val + d.val) :
    V m c main_v22 (ix2 k n) = queryWeights m c (ix2 k ⟨96 * h.val + d.val, by omega⟩) := by
  rw [padded_eq]
  refine (joined_apply (A := 384) (B := 16) (C := 128) (N := 2048) (by norm_num) (padded m c) _ k h ⟨d.val, by omega⟩ n hn).trans ?_
  refine (behind_apply (A := 384) (B := 16) (C := 128) (Q := 96) _ _ 0 (by simp) _ rfl 0 rfl k h d _ (Nat.zero_add _)).trans ?_
  exact grouped_apply (A := 384) (B := 16) (C := 96) (N := 1536) (by norm_num) (queryWeights m c) _ k h d _ rfl

theorem padded_second (k : Fin 384) (h j : Fin 16) (n : Fin 2048) (hn : n.val = 128 * h.val + (96 + j.val)) :
    V m c main_v22 (ix2 k n) = -queryWeights m c (ix2 k ⟨96 * h.val + (80 + j.val), by omega⟩) := by
  rw [padded_eq]
  refine (joined_apply (A := 384) (B := 16) (C := 128) (N := 2048) (by norm_num) (padded m c) _ k h ⟨96 + j.val, by omega⟩ n hn).trans ?_
  refine (behind_apply (A := 384) (B := 16) (C := 128) (Q := 16) _ _ 1 (by simp) _ rfl 96 rfl k h j _ rfl).trans ?_
  refine congrArg (fun x : EReal => -x) ((extractStridedSlice_apply ![0, 0, 80] _ slices_S384x16x96_S384x16x16_0_0_80 (ix3 k h j)
    (ix3 k h (⟨80 + j.val, by omega⟩ : Fin 96)) (fun a => match a with
      | ⟨0, _⟩ => (Nat.zero_add _).symm
      | ⟨1, _⟩ => (Nat.zero_add _).symm
      | ⟨2, _⟩ => rfl)).trans ?_)
  exact grouped_apply (A := 384) (B := 16) (C := 96) (N := 1536) (by norm_num) (queryWeights m c) _ k h _ _ rfl

theorem padded_first (k : Fin 384) (h j : Fin 16) (n : Fin 2048) (hn : n.val = 128 * h.val + (112 + j.val)) :
    V m c main_v22 (ix2 k n) = queryWeights m c (ix2 k ⟨96 * h.val + (64 + j.val), by omega⟩) := by
  rw [padded_eq]
  refine (joined_apply (A := 384) (B := 16) (C := 128) (N := 2048) (by norm_num) (padded m c) _ k h ⟨112 + j.val, by omega⟩ n hn).trans ?_
  refine (behind_apply (A := 384) (B := 16) (C := 128) (Q := 16) _ _ 2 (by simp) _ rfl 112 rfl k h j _ rfl).trans ?_
  refine (extractStridedSlice_apply ![0, 0, 64] _ slices_S384x16x96_S384x16x16_0_0_64 (ix3 k h j)
    (ix3 k h (⟨64 + j.val, by omega⟩ : Fin 96)) (fun a => match a with
      | ⟨0, _⟩ => (Nat.zero_add _).symm
      | ⟨1, _⟩ => (Nat.zero_add _).symm
      | ⟨2, _⟩ => rfl)).trans ?_
  exact grouped_apply (A := 384) (B := 16) (C := 96) (N := 1536) (by norm_num) (queryWeights m c) _ k h _ _ rfl

/-- The weights of the keys and of the values the call is given. -/
abbrev keyWeights : (Mat 256 1024).Idx → EReal := m ((c.tc : Thread nD τ).loc main_arg7)
abbrev valueWeights : (Mat 256 1024).Idx → EReal := m ((c.tc : Thread nD τ).loc main_arg8)

/-- The keys' and the values' weights, 128 columns for each head. -/
def paired : (⟨3, ![256, 16, 128]⟩ : Shape).Idx → EReal :=
  concatenate (α := EReal) S256x16x128 2 [
    ⟨S256x16x64, shapeCast S256x16x64 (keyWeights m c) shapeCasts_S256x1024_S256x16x64⟩,
    ⟨S256x16x64, shapeCast S256x16x64 (valueWeights m c) shapeCasts_S256x1024_S256x16x64⟩]
    concatenates_S256x16x64_S256x16x64_S256x16x128_d2

theorem paired_eq : V m c main_v23 = (shapeCast S256x2048 (paired m c) shapeCasts_S256x16x128_S256x2048 : (Mat 256 2048).Idx → EReal) := by
  unfold_abbrev_sides
  after_results
  rfl

theorem beside_key (k : Fin 256) (h : Fin 16) (d : Fin 64) (n : Fin 2048) (hn : n.val = 128 * h.val + d.val) :
    V m c main_v23 (ix2 k n) = keyWeights m c (ix2 k ⟨64 * h.val + d.val, by omega⟩) := by
  rw [paired_eq]
  refine (joined_apply (A := 256) (B := 16) (C := 128) (N := 2048) (by norm_num) (paired m c) _ k h ⟨d.val, by omega⟩ n hn).trans ?_
  refine (behind_apply (A := 256) (B := 16) (C := 128) (Q := 64) _ _ 0 (by simp) _ rfl 0 rfl k h d _ (Nat.zero_add _)).trans ?_
  exact grouped_apply (A := 256) (B := 16) (C := 64) (N := 1024) (by norm_num) (keyWeights m c) _ k h d _ rfl

theorem beside_value (k : Fin 256) (h : Fin 16) (d : Fin 64) (n : Fin 2048) (hn : n.val = 128 * h.val + (64 + d.val)) :
    V m c main_v23 (ix2 k n) = valueWeights m c (ix2 k ⟨64 * h.val + d.val, by omega⟩) := by
  rw [paired_eq]
  refine (joined_apply (A := 256) (B := 16) (C := 128) (N := 2048) (by norm_num) (paired m c) _ k h ⟨64 + d.val, by omega⟩ n hn).trans ?_
  refine (behind_apply (A := 256) (B := 16) (C := 128) (Q := 64) _ _ 1 (by simp) _ rfl 64 rfl k h d _ rfl).trans ?_
  exact grouped_apply (A := 256) (B := 16) (C := 64) (N := 1024) (by norm_num) (valueWeights m c) _ k h d _ rfl

end Cert.Prep

end
-- ==== Proof.Prep.Array.lean ====
/-
  The call's three result arrays: of a token and a column the product of its normalised row with the given weights, and the
  cosines and sines of its position.
-/
module

public import proofs.«01_k».proof.Proof.Prep.Weights

@[expose] public section

set_option maxRecDepth 16384

noncomputable section

namespace Cert.Prep

open Idealize.ShloMosaic hiding ix0 ix1 ix2 ix3 ix4 ix5
open Idealize.ShloMosaic.ValueIdx Cert.Layer Cert.Kernel6Ideal Cert.Kernel6Ideal.Gen Cert.Kernel6Ideal.Facts
open Cert.Merge (IsReal mul_real sum_real)

/-! ## The factors -/

/-- The angle of a position at a frequency. -/
def theta (p : BitVec 32) (j : Fin 16) : EReal := frequencies (ix1 j) * ((p.toInt : ℝ) : EReal)

/-- What a column of the queries is multiplied with. -/
def queryFactor (p : BitVec 32) (l : Fin 128) : EReal :=
  (if l.val < 64 then 1 else if l.val < 96 then Ideal.cos (theta p ⟨(l.val - 64) % 16, Nat.mod_lt _ (by norm_num)⟩)
    else Ideal.sin (theta p ⟨(l.val - 96) % 16, Nat.mod_lt _ (by norm_num)⟩)) * scale

/-- The rotated columns of the keys: from a first entry `a` and a second entry `b` of a pair. -/
def firstTurned (p : BitVec 32) (a b : EReal) (j : Fin 16) : EReal := a * Ideal.cos (theta p j) + b * -Ideal.sin (theta p j)
def secondTurned (p : BitVec 32) (a b : EReal) (j : Fin 16) : EReal := b * Ideal.cos (theta p j) + a * Ideal.sin (theta p j)

/-- The rotated column of the keys at a column from 64 on: the 16 first entries and the 16 second ones, twice. -/
def keyTurned (kr : Fin 128 → EReal) (p : BitVec 32) (l : Fin 128) : EReal :=
  if l.val % 32 < 16 then firstTurned p (kr ⟨64 + l.val % 16, by omega⟩) (kr ⟨80 + l.val % 16, by omega⟩) ⟨l.val % 16, Nat.mod_lt _ (by norm_num)⟩
  else secondTurned p (kr ⟨64 + l.val % 16, by omega⟩) (kr ⟨80 + l.val % 16, by omega⟩) ⟨l.val % 16, Nat.mod_lt _ (by norm_num)⟩

section Tables

variable (m : (ℓ : Loc nD τ sig) → Buf (Elt Ideal) ℓ) (c : Dev nD) (x3 : Vec Ideal S1x1x1024 .i32) (r : Fin 1024)

theorem given_real (j : Fin 16) : IsReal ((V m c main_v11 : (Mat 16 1).Idx → EReal) (ix2 j 0)) := by
  rw [show (V m c main_v11 : (Mat 16 1).Idx → EReal) (ix2 j 0) = _ from frequency_apply m c j]
  exact frequencies_real j

theorem given_angle (j : Fin 16) : angles (V m c main_v11) x3 (ix2 j r) = theta (x3 (ix3 0 0 r)) j := by
  rw [angles_apply]
  exact congrArg (· * _) (frequency_apply m c j)

theorem query_factor (l : Fin 128) :
    queryTable (V m c main_v11) x3 (V m c main_cst) r l = queryFactor (x3 (ix3 0 0 r)) l := by
  have hl := l.isLt
  unfold queryTable queryFactor
  congr 1
  by_cases h0 : l.val < 64
  · rw [if_pos h0, if_pos h0]
  rw [if_neg h0, if_neg h0]
  by_cases h1 : l.val < 96
  · rw [if_pos h1, spread_cosine _ x3 _ (given_real m c) (table_spread m c) r _ ⟨(l.val - 64) % 16, Nat.mod_lt _ (by norm_num)⟩
      (by show l.val = 64 + (l.val - 64) % 16 ∨ l.val = 80 + (l.val - 64) % 16; omega), given_angle]
  · rw [if_neg h1, spread_sine _ x3 _ (given_real m c) (table_spread m c) r _ ⟨(l.val - 96) % 16, Nat.mod_lt _ (by norm_num)⟩
      (by show l.val = 96 + (l.val - 96) % 16 ∨ l.val = 112 + (l.val - 96) % 16 ∨ l.val = 208 + (l.val - 96) % 16; omega), given_angle]

variable (x2 : Vec Ideal S1024x128 .f32)

/-- The columns a row is rotated by. -/
abbrev cosines (l : Fin 128) : EReal := k0_pay8 (F := Ideal) (V m c main_v11) x3 (V m c main_cst) (ix2 r ⟨l.val, by omega⟩)
abbrev sines (l : Fin 128) : EReal := k0_pay8 (F := Ideal) (V m c main_v11) x3 (V m c main_cst) (ix2 r ⟨128 + l.val, by omega⟩)

theorem roped_low (kr : Fin 128 → EReal) (l : Fin 128) (hl : l.val < 64) : roped kr (cosines m c x3 r) (sines m c x3 r) l = 0 := by
  unfold roped
  rw [show cosines m c x3 r l = 0 from spread_zero _ x3 _ (given_real m c) (table_spread m c) r _ (Or.inl hl),
    show sines m c x3 r l = 0 from spread_zero _ x3 _ (given_real m c) (table_spread m c) r _
      (Or.inr (Or.inl ⟨by show 128 ≤ 128 + l.val; omega, by show 128 + l.val < 192; omega⟩)), mul_zero, mul_zero, add_zero]

theorem roped_high (kr : Fin 128 → EReal) (hz : ∀ l : Fin 128, 96 ≤ l.val → kr l = 0) (l : Fin 128) (hl : 96 ≤ l.val) :
    roped kr (cosines m c x3 r) (sines m c x3 r) l = 0 := by
  unfold roped
  rw [hz l hl,
    show sines m c x3 r l = 0 from spread_zero _ x3 _ (given_real m c) (table_spread m c) r _
      (Or.inr (Or.inr (by show 224 ≤ 128 + l.val; omega))), mul_zero, zero_mul, add_zero]

theorem roped_turned (kr : Fin 128 → EReal) (l : Fin 128) (h0 : 64 ≤ l.val) (h1 : l.val < 96) :
    roped kr (cosines m c x3 r) (sines m c x3 r) l = keyTurned kr (x3 (ix3 0 0 r)) l := by
  have hl := l.isLt
  unfold roped keyTurned
  rw [show cosines m c x3 r l = _ from spread_cosine _ x3 _ (given_real m c) (table_spread m c) r _ ⟨l.val % 16, Nat.mod_lt _ (by norm_num)⟩
      (by show l.val = 64 + l.val % 16 ∨ l.val = 80 + l.val % 16; omega), given_angle]
  by_cases h : l.val < 80
  · rw [if_pos ⟨h0, h⟩, if_pos (by omega),
      show sines m c x3 r l = _ from spread_minus _ x3 _ (given_real m c) (table_spread m c) r _ ⟨l.val % 16, Nat.mod_lt _ (by norm_num)⟩
        (by show 128 + l.val = 192 + l.val % 16; omega), given_angle]
    unfold firstTurned
    rw [show l = ⟨64 + l.val % 16, by omega⟩ from Fin.ext (by show l.val = 64 + l.val % 16; omega)]
    refine congrArg₂ (· + ·) ?_ ?_
    · refine congrArg₂ (fun a b => kr a * Ideal.cos (theta _ b)) (Fin.ext ?_) (Fin.ext ?_)
      · show 64 + l.val % 16 = 64 + (64 + l.val % 16) % 16; omega
      · show (64 + l.val % 16) % 16 = (64 + l.val % 16) % 16; rfl
    · refine congrArg₂ (fun a b => kr a * -Ideal.sin (theta _ b)) (Fin.ext ?_) (Fin.ext ?_)
      · show (64 + l.val % 16 + 16) % 128 = 80 + (64 + l.val % 16) % 16; omega
      · show (64 + l.val % 16) % 16 = (64 + l.val % 16) % 16; rfl
  · rw [if_neg (fun e => h e.2), if_neg (by omega),
      show sines m c x3 r l = _ from spread_sine _ x3 _ (given_real m c) (table_spread m c) r _ ⟨l.val % 16, Nat.mod_lt _ (by norm_num)⟩
        (by show 128 + l.val = 96 + l.val % 16 ∨ 128 + l.val = 112 + l.val % 16 ∨ 128 + l.val = 208 + l.val % 16; omega), given_angle]
    unfold secondTurned
    refine congrArg₂ (· + ·) ?_ ?_
    · refine congrArg (fun a => kr a * _) (Fin.ext ?_)
      show l.val = 80 + l.val % 16; omega
    · refine congrArg (fun a => kr a * _) (Fin.ext ?_)
      show (l.val + 112) % 128 = 64 + l.val % 16; omega

theorem key_turned (hz : ∀ l : Fin 128, 96 ≤ l.val → x2 (ix2 r l) = 0) (l : Fin 128) (h0 : 64 ≤ l.val) :
    rotated x2 x3 (V m c main_v11) (V m c main_cst) r l = keyTurned (row x2 r) (x3 (ix3 0 0 r)) l := by
  have hl := l.isLt
  show roped (row x2 r) (cosines m c x3 r) (sines m c x3 r) l + roped (row x2 r) (cosines m c x3 r) (sines m c x3 r) (turn 96 l) = _
  by_cases h : l.val < 96
  · rw [roped_turned m c x3 r (row x2 r) l h0 h, roped_low m c x3 r (row x2 r) (turn 96 l) (by show (l.val + 96) % 128 < 64; omega), add_zero]
  · have ht : (turn 96 l).val = l.val - 32 := by show (l.val + 96) % 128 = l.val - 32; omega
    rw [roped_high m c x3 r (row x2 r) hz l (by omega), zero_add, roped_turned m c x3 r (row x2 r) (turn 96 l) (by omega) (by omega)]
    unfold keyTurned
    have e0 : (turn 96 l).val % 16 = l.val % 16 := by omega
    have e1 : (turn 96 l).val % 32 = l.val % 32 := by omega
    simp only [e0, e1]

end Tables

/-! ## The blocks the grid points read -/

/-- Where each window stands at a grid point. -/
theorem at_point : ∀ t : Fin cfg0.N, win0_0.index t = ![t.val, 0] ∧ win0_1.index t = ![t.val, 0] ∧ win0_2.index t = ![t.val, 0] ∧ win0_3.index t = ![t.val, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] :=
  (by decide +kernel : ∀ t : Fin grid0.N, win0_0.index t = ![t.val, 0] ∧ win0_1.index t = ![t.val, 0] ∧ win0_2.index t = ![t.val, 0] ∧ win0_3.index t = ![t.val, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0])

variable (m : (ℓ : Loc nD τ sig) → Buf (Elt Ideal) ℓ) (c : Dev nD)

theorem block0 (t : Fin cfg0.N) (ht : t.val < 32) (r : Fin 1024) : row (iblk m c 0 t : (Mat 1024 384).Idx → EReal) r
    = row (m ((c.tc : Thread nD τ).loc main_arg0) : (Mat 32768 384).Idx → EReal) ⟨1024 * t.val + r.val, by omega⟩ := by
  funext l
  show iblk m c 0 t (ix2 r l) = m ((c.tc : Thread nD τ).loc main_arg0) (ix2 (⟨1024 * t.val + r.val, by omega⟩ : Fin 32768) l)
  rw [← V_main_arg0 m c]
  have e := (at_point t).1
  blk_simp [iblk]
  refine congrArg (V m c main_arg0) ?_
  funext a
  apply Fin.ext
  match a with
  | ⟨0, _⟩ => blk_simp [e]; show t.val * 1024 + r.val = 1024 * t.val + r.val; omega
  | ⟨1, _⟩ => blk_simp [e]

theorem block1 (t : Fin cfg0.N) (ht : t.val < 32) (r : Fin 1024) : row (iblk m c 1 t : (Mat 1024 256).Idx → EReal) r
    = row (m ((c.tc : Thread nD τ).loc main_arg1) : (Mat 32768 256).Idx → EReal) ⟨1024 * t.val + r.val, by omega⟩ := by
  funext l
  show iblk m c 1 t (ix2 r l) = m ((c.tc : Thread nD τ).loc main_arg1) (ix2 (⟨1024 * t.val + r.val, by omega⟩ : Fin 32768) l)
  rw [← V_main_arg1 m c]
  have e := (at_point t).2.1
  blk_simp [iblk]
  refine congrArg (V m c main_arg1) ?_
  funext a
  apply Fin.ext
  match a with
  | ⟨0, _⟩ => blk_simp [e]; show t.val * 1024 + r.val = 1024 * t.val + r.val; omega
  | ⟨1, _⟩ => blk_simp [e]

theorem block2 (t : Fin cfg0.N) (ht : t.val < 32) (r : Fin 1024) : row (iblk m c 2 t : (Mat 1024 128).Idx → EReal) r
    = row (m ((c.tc : Thread nD τ).loc main_arg2) : (Mat 32768 128).Idx → EReal) ⟨1024 * t.val + r.val, by omega⟩ := by
  funext l
  show iblk m c 2 t (ix2 r l) = m ((c.tc : Thread nD τ).loc main_arg2) (ix2 (⟨1024 * t.val + r.val, by omega⟩ : Fin 32768) l)
  rw [← V_main_arg2 m c]
  have e := (at_point t).2.2.1
  blk_simp [iblk]
  refine congrArg (V m c main_arg2) ?_
  funext a
  apply Fin.ext
  match a with
  | ⟨0, _⟩ => blk_simp [e]; show t.val * 1024 + r.val = 1024 * t.val + r.val; omega
  | ⟨1, _⟩ => blk_simp [e]

theorem block3 (t : Fin cfg0.N) (ht : t.val < 32) (r : Fin 1024) : (iblk m c 3 t : Vec Ideal S1x1x1024 .i32) (ix3 0 0 r)
    = m ((c.tc : Thread nD τ).loc main_arg3) (ix2 (⟨(1024 * t.val + r.val) / 2048, by omega⟩ : Fin 16) ⟨(1024 * t.val + r.val) % 2048, by omega⟩) := by
  refine Eq.trans ?_ (position_apply m c ⟨t.val, ht⟩ r)
  have e := (at_point t).2.2.2.1
  blk_simp [iblk]
  refine congrArg (V m c main_v0) ?_
  funext a
  apply Fin.ext
  match a with
  | ⟨0, _⟩ => blk_simp [e]
  | ⟨1, _⟩ => blk_simp [e]
  | ⟨2, _⟩ => blk_simp [e]

theorem block4 (t : Fin cfg0.N) : iblk m c 4 t = V m c main_v11 := by
  have e := (at_point t).2.2.2.2.1
  funext z
  blk_simp [iblk]
  refine congrArg (V m c main_v11) ?_
  funext a
  apply Fin.ext
  match a with
  | ⟨0, _⟩ => blk_simp [e]
  | ⟨1, _⟩ => blk_simp [e]

theorem block5 (t : Fin cfg0.N) : iblk m c 5 t = V m c main_cst := by
  have e := (at_point t).2.2.2.2.2.1
  funext z
  blk_simp [iblk]
  refine congrArg (V m c main_cst) ?_
  funext a
  apply Fin.ext
  match a with
  | ⟨0, _⟩ => blk_simp [e]
  | ⟨1, _⟩ => blk_simp [e]

theorem block6 (t : Fin cfg0.N) : iblk m c 6 t = m ((c.tc : Thread nD τ).loc main_arg4) := by
  have e := (at_point t).2.2.2.2.2.2.1
  funext z
  rw [← V_main_arg4 m c]
  blk_simp [iblk]
  refine congrArg (V m c main_arg4) ?_
  funext a
  apply Fin.ext
  match a with
  | ⟨0, _⟩ => blk_simp [e]
  | ⟨1, _⟩ => blk_simp [e]

theorem block7 (t : Fin cfg0.N) : iblk m c 7 t = m ((c.tc : Thread nD τ).loc main_arg5) := by
  have e := (at_point t).2.2.2.2.2.2.2.1
  funext z
  rw [← V_main_arg5 m c]
  blk_simp [iblk]
  refine congrArg (V m c main_arg5) ?_
  funext a
  apply Fin.ext
  match a with
  | ⟨0, _⟩ => blk_simp [e]
  | ⟨1, _⟩ => blk_simp [e]

theorem block8 (t : Fin cfg0.N) : iblk m c 8 t = V m c main_v22 := by
  have e := (at_point t).2.2.2.2.2.2.2.2.1
  funext z
  blk_simp [iblk]
  refine congrArg (V m c main_v22) ?_
  funext a
  apply Fin.ext
  match a with
  | ⟨0, _⟩ => blk_simp [e]
  | ⟨1, _⟩ => blk_simp [e]

theorem block9 (t : Fin cfg0.N) : iblk m c 9 t = V m c main_v23 := by
  have e := (at_point t).2.2.2.2.2.2.2.2.2.1
  funext z
  blk_simp [iblk]
  refine congrArg (V m c main_v23) ?_
  funext a
  apply Fin.ext
  match a with
  | ⟨0, _⟩ => blk_simp [e]
  | ⟨1, _⟩ => blk_simp [e]

/-! ## The arrays -/

/-- The position of a token. -/
def position (i : Fin 32768) : BitVec 32 :=
  m ((c.tc : Thread nD τ).loc main_arg3) (ix2 (⟨i.val / 2048, by omega⟩ : Fin 16) ⟨i.val % 2048, by omega⟩)

/-- A token's normalised row for the queries, and for the keys and values. -/
def queryRow (i : Fin 32768) : Fin 384 → EReal :=
  rms queryWidth (row (m ((c.tc : Thread nD τ).loc main_arg0) : (Mat 32768 384).Idx → EReal) i) (row (m ((c.tc : Thread nD τ).loc main_arg4) : (Mat 1 384).Idx → EReal) 0)
def keyRow (i : Fin 32768) : Fin 256 → EReal :=
  rms keyWidth (row (m ((c.tc : Thread nD τ).loc main_arg1) : (Mat 32768 256).Idx → EReal) i) (row (m ((c.tc : Thread nD τ).loc main_arg5) : (Mat 1 256).Idx → EReal) 0)

def queries : (Mat 32768 2048).Idx → EReal := fun y =>
  times (queryRow m c (y 0)) (fun k => row (V m c main_v22 : (Mat 384 2048).Idx → EReal) k) (y 1) * queryFactor (position m c (y 0)) (lane (y 1))
def keys : (Mat 32768 2048).Idx → EReal := fun y =>
  if (lane (y 1)).val < 64 then times (keyRow m c (y 0)) (fun k => row (V m c main_v23 : (Mat 256 2048).Idx → EReal) k) (y 1)
  else keyTurned (row (m ((c.tc : Thread nD τ).loc main_arg2) : (Mat 32768 128).Idx → EReal) (y 0)) (position m c (y 0)) (lane (y 1))
def values : (Mat 32768 2048).Idx → EReal := fun y =>
  if (lane (y 1)).val < 64 then 1 else times (keyRow m c (y 0)) (fun k => row (V m c main_v23 : (Mat 256 2048).Idx → EReal) k) (y 1)

theorem query_block (t : Fin cfg0.N) (ht : t.val < 32) (r : Fin 1024) (n : Fin 2048) :
    queryBlock (fun r => rms queryWidth (row (iblk m c 0 t : (Mat 1024 384).Idx → EReal) r) (row (iblk m c 6 t : (Mat 1 384).Idx → EReal) 0))
      (iblk m c 8 t) (queryTable (iblk m c 4 t) (iblk m c 3 t) (iblk m c 5 t)) (ix2 r n) = queries m c (ix2 ⟨1024 * t.val + r.val, by omega⟩ n) := by
  show times (rms queryWidth (row (iblk m c 0 t : (Mat 1024 384).Idx → EReal) r) (row (iblk m c 6 t : (Mat 1 384).Idx → EReal) 0))
      (fun k => row (iblk m c 8 t : (Mat 384 2048).Idx → EReal) k) n * queryTable (iblk m c 4 t) (iblk m c 3 t) (iblk m c 5 t) r (lane n) = _
  rw [block0 m c t ht, block4 m c t, block5 m c t, block6 m c t, block8 m c t, query_factor, block3 m c t ht]
  rfl

theorem key_block (hz : ∀ (i : Fin 32768) (l : Fin 128), 96 ≤ l.val → (m ((c.tc : Thread nD τ).loc main_arg2) : (Mat 32768 128).Idx → EReal) (ix2 i l) = (0 : EReal))
    (t : Fin cfg0.N) (ht : t.val < 32) (r : Fin 1024) (n : Fin 2048) :
    keyBlock (fun r => rms keyWidth (row (iblk m c 1 t : (Mat 1024 256).Idx → EReal) r) (row (iblk m c 7 t : (Mat 1 256).Idx → EReal) 0))
      (iblk m c 9 t) (rotated (iblk m c 2 t) (iblk m c 3 t) (iblk m c 4 t) (iblk m c 5 t)) (ix2 r n) = keys m c (ix2 ⟨1024 * t.val + r.val, by omega⟩ n) := by
  show (if (lane n).val < 64 then times (rms keyWidth (row (iblk m c 1 t : (Mat 1024 256).Idx → EReal) r) (row (iblk m c 7 t : (Mat 1 256).Idx → EReal) 0))
      (fun k => row (iblk m c 9 t : (Mat 256 2048).Idx → EReal) k) n else rotated (iblk m c 2 t) (iblk m c 3 t) (iblk m c 4 t) (iblk m c 5 t) r (lane n))
    = if (lane n).val < 64 then times (keyRow m c ⟨1024 * t.val + r.val, by omega⟩) (fun k => row (V m c main_v23 : (Mat 256 2048).Idx → EReal) k) n
      else keyTurned (row (m ((c.tc : Thread nD τ).loc main_arg2) : (Mat 32768 128).Idx → EReal) ⟨1024 * t.val + r.val, by omega⟩)
        (position m c ⟨1024 * t.val + r.val, by omega⟩) (lane n)
  by_cases h : (lane n).val < 64
  · rw [if_pos h, if_pos h, block1 m c t ht, block7 m c t, block9 m c t]
    rfl
  · have e := block2 m c t ht r
    rw [if_neg h, if_neg h, block4 m c t, block5 m c t,
      key_turned m c (iblk m c 3 t) r (iblk m c 2 t) (fun l hl => (congrFun e l).trans (hz _ l hl)) (lane n) (by omega), e, block3 m c t ht]
    rfl

theorem value_block (t : Fin cfg0.N) (ht : t.val < 32) (r : Fin 1024) (n : Fin 2048) :
    valueBlock (fun r => rms keyWidth (row (iblk m c 1 t : (Mat 1024 256).Idx → EReal) r) (row (iblk m c 7 t : (Mat 1 256).Idx → EReal) 0))
      (iblk m c 9 t) (ix2 r n) = values m c (ix2 ⟨1024 * t.val + r.val, by omega⟩ n) := by
  show (if (lane n).val < 64 then 1 else times (rms keyWidth (row (iblk m c 1 t : (Mat 1024 256).Idx → EReal) r) (row (iblk m c 7 t : (Mat 1 256).Idx → EReal) 0))
      (fun k => row (iblk m c 9 t : (Mat 256 2048).Idx → EReal) k) n)
    = if (lane n).val < 64 then 1 else times (keyRow m c ⟨1024 * t.val + r.val, by omega⟩) (fun k => row (V m c main_v23 : (Mat 256 2048).Idx → EReal) k) n
  rw [block1 m c t ht, block7 m c t, block9 m c t]
  rfl

theorem array_queries : (dats m 0 c).arrAt 10 cfg0.N = (queries m c : Vec Ideal S32768x2048 .bf16) := by
  refine (dats m 0 c).arrAt_eq_of_covers 10 _ (by decide +kernel) fun t hf y => ?_
  have ht : t.val < 32 := lt_of_lt_of_eq t.isLt N_0
  have e := (at_point t).2.2.2.2.2.2.2.2.2.2.1
  blk_simp
  rw [after0_10]
  have hy0 : (y 0).val < 1024 := (y 0).isLt
  have e0 : ((cfg0.win 10).blk t).view.emb y 0 = (⟨1024 * t.val + (y 0).val, by omega⟩ : Fin 32768) := by
    apply Fin.ext
    blk_simp [e]
    show t.val * 1024 + (y 0).val = 1024 * t.val + (y 0).val
    omega
  have e1 : ((cfg0.win 10).blk t).view.emb y 1 = (⟨(y 1).val, (y 1).isLt⟩ : Fin 2048) := by
    apply Fin.ext
    blk_simp [e]
  refine (out10_apply _ _ _ _ _ _ _ _ _ _ y).trans (Eq.trans ?_ ((query_block m c t ht (y 0) (y 1)).trans (congrArg (queries m c) ?_)))
  · exact congrArg _ (ix2_eta y).symm
  · funext a
    match a with
    | ⟨0, _⟩ => exact e0.symm
    | ⟨1, _⟩ => exact e1.symm

theorem array_keys (hz : ∀ (i : Fin 32768) (l : Fin 128), 96 ≤ l.val → (m ((c.tc : Thread nD τ).loc main_arg2) : (Mat 32768 128).Idx → EReal) (ix2 i l) = (0 : EReal)) : (dats m 0 c).arrAt 11 cfg0.N = (keys m c : Vec Ideal S32768x2048 .bf16) := by
  refine (dats m 0 c).arrAt_eq_of_covers 11 _ (by decide +kernel) fun t hf y => ?_
  have ht : t.val < 32 := lt_of_lt_of_eq t.isLt N_0
  have e := (at_point t).2.2.2.2.2.2.2.2.2.2.2.1
  blk_simp
  rw [after0_11]
  have hy0 : (y 0).val < 1024 := (y 0).isLt
  have e0 : ((cfg0.win 11).blk t).view.emb y 0 = (⟨1024 * t.val + (y 0).val, by omega⟩ : Fin 32768) := by
    apply Fin.ext
    blk_simp [e]
    show t.val * 1024 + (y 0).val = 1024 * t.val + (y 0).val
    omega
  have e1 : ((cfg0.win 11).blk t).view.emb y 1 = (⟨(y 1).val, (y 1).isLt⟩ : Fin 2048) := by
    apply Fin.ext
    blk_simp [e]
  refine (out11_apply _ _ _ _ _ _ _ _ _ _ y).trans (Eq.trans ?_ ((key_block m c hz t ht (y 0) (y 1)).trans (congrArg (keys m c) ?_)))
  · exact congrArg _ (ix2_eta y).symm
  · funext a
    match a with
    | ⟨0, _⟩ => exact e0.symm
    | ⟨1, _⟩ => exact e1.symm

theorem array_values : (dats m 0 c).arrAt 12 cfg0.N = (values m c : Vec Ideal S32768x2048 .bf16) := by
  refine (dats m 0 c).arrAt_eq_of_covers 12 _ (by decide +kernel) fun t hf y => ?_
  have ht : t.val < 32 := lt_of_lt_of_eq t.isLt N_0
  have e := (at_point t).2.2.2.2.2.2.2.2.2.2.2.2
  blk_simp
  rw [after0_12]
  have hy0 : (y 0).val < 1024 := (y 0).isLt
  have e0 : ((cfg0.win 12).blk t).view.emb y 0 = (⟨1024 * t.val + (y 0).val, by omega⟩ : Fin 32768) := by
    apply Fin.ext
    blk_simp [e]
    show t.val * 1024 + (y 0).val = 1024 * t.val + (y 0).val
    omega
  have e1 : ((cfg0.win 12).blk t).view.emb y 1 = (⟨(y 1).val, (y 1).isLt⟩ : Fin 2048) := by
    apply Fin.ext
    blk_simp [e]
  refine (out12_apply _ _ _ _ _ _ _ _ _ _ y).trans (Eq.trans ?_ ((value_block m c t ht (y 0) (y 1)).trans (congrArg (values m c) ?_)))
  · exact congrArg _ (ix2_eta y).symm
  · funext a
    match a with
    | ⟨0, _⟩ => exact e0.symm
    | ⟨1, _⟩ => exact e1.symm

end Cert.Prep

end
-- ==== Proof.Prep.Reference.lean ====
/-
  The reference's three arrays, entry by entry: a head's 128 columns range by range.
-/
module

public import proofs.«01_k».proof.Proof.Prep.Array
public import proofs.«01_k».proof.Proof.Layer.HostRows
public import proofs.«01_k».proof.Proof.Gen.Reference6Ideal.Read

@[expose] public section

set_option maxRecDepth 16384

noncomputable section

namespace Cert.Prep

open Idealize.ShloMosaic hiding ix0 ix1 ix2 ix3 ix4 ix5
open Idealize.ShloMosaic.ValueIdx Cert.Layer Cert.Reference6Ideal Cert.Reference6Ideal.Gen Cert.Reference6Ideal.Read Cert.Reference6Ideal.Facts

variable (x0 : FVec Ideal S32768x384 .bf16) (x1 : FVec Ideal S32768x256 .bf16) (x2 : FVec Ideal S32768x128 .f32)
  (x3 : Vec Ideal S16x2048 .i32) (x4 : FVec Ideal S1x384 .f32) (x5 : FVec Ideal S1x256 .f32) (x6 : FVec Ideal S384x1536 .f32)
  (x7 x8 : FVec Ideal S256x1024 .f32)

/-! ## The cosines and the sines -/

theorem powers_eq : (val_main_v9 (F := Ideal) : S16.Idx → EReal) = frequencies := rfl

theorem product_angle (b : Fin 16) (s : Fin 2048) (j : Fin 16) : val_main_v15 (F := Ideal) x3 (ix3 b s j) = theta (x3 (ix2 b s)) j := by
  show val_main_v13 (F := Ideal) x3 (ix3 b s j) * val_main_v14 (F := Ideal) (ix3 b s j) = _
  rw [val_main_v13_apply, val_main_v11_apply, val_main_v14_apply, val_main_v12_apply, mul_comm]
  refine congrArg₂ (fun (f : EReal) (p : BitVec 32) => f * ((p.toInt : ℝ) : EReal)) ?_ ?_
  · refine (congrFun powers_eq _).trans (congrArg frequencies ?_)
    funext a
    match a with
    | ⟨0, _⟩ => rfl
  · refine congrArg x3 ?_
    funext a
    match a with
    | ⟨0, _⟩ => rfl
    | ⟨1, _⟩ => rfl

/-- The position of a token. -/
def positionAt (i : Fin 32768) : BitVec 32 := x3 (ix2 (⟨i.val / 2048, by omega⟩ : Fin 16) ⟨i.val % 2048, by omega⟩)

theorem tokens_apply (v : S16x2048x16.Idx → EReal) (i : Fin 32768) (j : Fin 16) :
    shapeCast S32768x1x16 v shapeCasts_S16x2048x16_S32768x1x16 (ix3 i 0 j)
      = v (ix3 (⟨i.val / 2048, by omega⟩ : Fin 16) (⟨i.val % 2048, by omega⟩ : Fin 2048) j) :=
  shapeCast_apply v shapeCasts_S16x2048x16_S32768x1x16 (ix3 i 0 j) _ (by
    rw [Shape.rowMajor_val_three, Shape.rowMajor_val_three]
    show (i.val / 2048 * 2048 + i.val % 2048) * 16 + j.val = (i.val * 1 + 0) * 16 + j.val
    omega)

theorem cosine_apply (i : Fin 32768) (j : Fin 16) : val_main_v18 (F := Ideal) x3 (ix3 i 0 j) = Ideal.cos (theta (positionAt x3 i) j) :=
  (tokens_apply (val_main_v16 (F := Ideal) x3) i j).trans (congrArg Ideal.cos (product_angle x3 _ _ j))

theorem sine_apply (i : Fin 32768) (j : Fin 16) : val_main_v19 (F := Ideal) x3 (ix3 i 0 j) = Ideal.sin (theta (positionAt x3 i) j) :=
  (tokens_apply (val_main_v17 (F := Ideal) x3) i j).trans (congrArg Ideal.sin (product_angle x3 _ _ j))

/-- One array for every head. -/
theorem heads_apply (v : S32768x1x16.Idx → EReal) (i : Fin 32768) (h j : Fin 16) :
    broadcastInDim S32768x16x16 ![0, 1, 2] bcast_S32768x1x16_S32768x16x16_0_1_2 v (ix3 i h j) = v (ix3 i 0 j) :=
  broadcastInDim_apply _ bcast_S32768x1x16_S32768x16x16_0_1_2 v (ix3 i h j) (ix3 i 0 j) (fun a => by
    match a with
    | ⟨0, _⟩ => rfl
    | ⟨1, _⟩ => rfl
    | ⟨2, _⟩ => rfl)

/-! ## The queries -/

/-- A token's query at a column of the weights. -/
def queryAt (i : Fin 32768) (n : Fin 1536) : EReal :=
  times (rms queryWidth (row (x0 : (Mat 32768 384).Idx → EReal) i) (row (x4 : (Mat 1 384).Idx → EReal) 0)) (fun k => row (x6 : (Mat 384 1536).Idx → EReal) k) n

theorem query_apply (i : Fin 32768) (h : Fin 16) (l : Fin 96) :
    val_main_v34 (F := Ideal) x0 x4 x6 (ix3 i h l) = queryAt x0 x4 x6 i ⟨96 * h.val + l.val, by omega⟩ := by
  refine (grouped_apply (A := 32768) (B := 16) (C := 96) (N := 1536) (by norm_num) (val_main_v33 (F := Ideal) x0 x4 x6)
    shapeCasts_S32768x1536_S32768x16x96 i h l ⟨96 * h.val + l.val, by omega⟩ rfl).trans ?_
  have hn : row (val_main_v32 (F := Ideal) x0 x4) i = rms queryWidth (row (x0 : (Mat 32768 384).Idx → EReal) i) (row (x4 : (Mat 1 384).Idx → EReal) 0) :=
    funext fun l => hostRms_apply 32768 384 (by norm_num) (by norm_num) 0x43C00000#32 (by decide) (by decide) (by decide)
      (by decide) (by decide) (by decide) (by decide) (val_main_v20 (F := Ideal) x0) x4 i l
  unfold queryAt
  rw [← hn]
  exact hostDense_apply _ _ i _

theorem first_query (i : Fin 32768) (h j : Fin 16) :
    val_main_v36 (F := Ideal) x0 x4 x6 (ix3 i h j) = queryAt x0 x4 x6 i ⟨96 * h.val + (64 + j.val), by omega⟩ :=
  (extractStridedSlice_apply ![0, 0, 64] (val_main_v34 (F := Ideal) x0 x4 x6) slices_S32768x16x96_S32768x16x16_0_0_64 (ix3 i h j)
    (ix3 i h (⟨64 + j.val, by omega⟩ : Fin 96)) (fun a => match a with
      | ⟨0, _⟩ => (Nat.zero_add _).symm
      | ⟨1, _⟩ => (Nat.zero_add _).symm
      | ⟨2, _⟩ => rfl)).trans (query_apply x0 x4 x6 i h _)

theorem second_query (i : Fin 32768) (h j : Fin 16) :
    val_main_v37 (F := Ideal) x0 x4 x6 (ix3 i h j) = queryAt x0 x4 x6 i ⟨96 * h.val + (80 + j.val), by omega⟩ :=
  (extractStridedSlice_apply ![0, 0, 80] (val_main_v34 (F := Ideal) x0 x4 x6) slices_S32768x16x96_S32768x16x16_0_0_80 (ix3 i h j)
    (ix3 i h (⟨80 + j.val, by omega⟩ : Fin 96)) (fun a => match a with
      | ⟨0, _⟩ => (Nat.zero_add _).symm
      | ⟨1, _⟩ => (Nat.zero_add _).symm
      | ⟨2, _⟩ => rfl)).trans (query_apply x0 x4 x6 i h _)

theorem scaled_apply (i : Fin 32768) (h : Fin 16) (l : Fin 128) (n : Fin 2048) (hn : n.val = 128 * h.val + l.val) :
    val_main_v83 (F := Ideal) x0 x3 x4 x6 (ix2 i n) = val_main_v47 (F := Ideal) x0 x3 x4 x6 (ix3 i h l) * scale := by
  refine (joined_apply (A := 32768) (B := 16) (C := 128) (N := 2048) (by norm_num) (val_main_v49 (F := Ideal) x0 x3 x4 x6)
    shapeCasts_S32768x16x128_S32768x2048 i h l n hn).trans ?_
  show _ * val_main_v48 (F := Ideal) (ix3 i h l) = _
  rw [val_main_v48_apply]
  rfl

theorem query_own (i : Fin 32768) (h : Fin 16) (d : Fin 64) (n : Fin 2048) (hn : n.val = 128 * h.val + d.val) :
    val_main_v83 (F := Ideal) x0 x3 x4 x6 (ix2 i n) = queryAt x0 x4 x6 i ⟨96 * h.val + d.val, by omega⟩ * scale := by
  rw [scaled_apply x0 x3 x4 x6 i h ⟨d.val, by omega⟩ n hn]
  refine congrArg (· * scale) ?_
  refine (behind_apply (A := 32768) (B := 16) (C := 128) (Q := 64) _ _ 0 (by simp) (val_main_v35 (F := Ideal) x0 x4 x6) rfl 0 rfl i h d _ (Nat.zero_add _)).trans ?_
  exact (extractStridedSlice_apply ![0, 0, 0] (val_main_v34 (F := Ideal) x0 x4 x6) slices_S32768x16x96_S32768x16x64_0_0_0 (ix3 i h d)
    (ix3 i h (⟨d.val, by omega⟩ : Fin 96)) (fun a => match a with
      | ⟨0, _⟩ => (Nat.zero_add _).symm
      | ⟨1, _⟩ => (Nat.zero_add _).symm
      | ⟨2, _⟩ => (Nat.zero_add _).symm)).trans (query_apply x0 x4 x6 i h _)

theorem query_first_cosine (i : Fin 32768) (h j : Fin 16) (n : Fin 2048) (hn : n.val = 128 * h.val + (64 + j.val)) :
    val_main_v83 (F := Ideal) x0 x3 x4 x6 (ix2 i n)
      = queryAt x0 x4 x6 i ⟨96 * h.val + (64 + j.val), by omega⟩ * Ideal.cos (theta (positionAt x3 i) j) * scale := by
  rw [scaled_apply x0 x3 x4 x6 i h ⟨64 + j.val, by omega⟩ n hn]
  refine congrArg (· * scale) ?_
  refine (behind_apply (A := 32768) (B := 16) (C := 128) (Q := 16) _ _ 1 (by simp) (val_main_v39 (F := Ideal) x0 x3 x4 x6) rfl 64 rfl i h j _ rfl).trans ?_
  exact congrArg₂ (fun a b : EReal => a * b) (first_query x0 x4 x6 i h j) ((heads_apply (val_main_v18 (F := Ideal) x3) i h j).trans (cosine_apply x3 i j))

theorem query_second_cosine (i : Fin 32768) (h j : Fin 16) (n : Fin 2048) (hn : n.val = 128 * h.val + (80 + j.val)) :
    val_main_v83 (F := Ideal) x0 x3 x4 x6 (ix2 i n)
      = queryAt x0 x4 x6 i ⟨96 * h.val + (80 + j.val), by omega⟩ * Ideal.cos (theta (positionAt x3 i) j) * scale := by
  rw [scaled_apply x0 x3 x4 x6 i h ⟨80 + j.val, by omega⟩ n hn]
  refine congrArg (· * scale) ?_
  refine (behind_apply (A := 32768) (B := 16) (C := 128) (Q := 16) _ _ 2 (by simp) (val_main_v41 (F := Ideal) x0 x3 x4 x6) rfl 80 rfl i h j _ rfl).trans ?_
  exact congrArg₂ (fun a b : EReal => a * b) (second_query x0 x4 x6 i h j) ((heads_apply (val_main_v18 (F := Ideal) x3) i h j).trans (cosine_apply x3 i j))

theorem query_second_sine (i : Fin 32768) (h j : Fin 16) (n : Fin 2048) (hn : n.val = 128 * h.val + (96 + j.val)) :
    val_main_v83 (F := Ideal) x0 x3 x4 x6 (ix2 i n)
      = -queryAt x0 x4 x6 i ⟨96 * h.val + (80 + j.val), by omega⟩ * Ideal.sin (theta (positionAt x3 i) j) * scale := by
  rw [scaled_apply x0 x3 x4 x6 i h ⟨96 + j.val, by omega⟩ n hn]
  refine congrArg (· * scale) ?_
  refine (behind_apply (A := 32768) (B := 16) (C := 128) (Q := 16) _ _ 3 (by simp) (val_main_v44 (F := Ideal) x0 x3 x4 x6) rfl 96 rfl i h j _ rfl).trans ?_
  exact congrArg₂ (fun a b : EReal => -a * b) (second_query x0 x4 x6 i h j) ((heads_apply (val_main_v19 (F := Ideal) x3) i h j).trans (sine_apply x3 i j))

theorem query_first_sine (i : Fin 32768) (h j : Fin 16) (n : Fin 2048) (hn : n.val = 128 * h.val + (112 + j.val)) :
    val_main_v83 (F := Ideal) x0 x3 x4 x6 (ix2 i n)
      = queryAt x0 x4 x6 i ⟨96 * h.val + (64 + j.val), by omega⟩ * Ideal.sin (theta (positionAt x3 i) j) * scale := by
  rw [scaled_apply x0 x3 x4 x6 i h ⟨112 + j.val, by omega⟩ n hn]
  refine congrArg (· * scale) ?_
  refine (behind_apply (A := 32768) (B := 16) (C := 128) (Q := 16) _ _ 4 (by simp) (val_main_v46 (F := Ideal) x0 x3 x4 x6) rfl 112 rfl i h j _ rfl).trans ?_
  exact congrArg₂ (fun a b : EReal => a * b) (first_query x0 x4 x6 i h j) ((heads_apply (val_main_v19 (F := Ideal) x3) i h j).trans (sine_apply x3 i j))

/-! ## The keys and the values -/

/-- A token's key or value at a column of the weights `w`. -/
def keyAt (w : FVec Ideal S256x1024 .f32) (i : Fin 32768) (n : Fin 1024) : EReal :=
  times (rms keyWidth (row (x1 : (Mat 32768 256).Idx → EReal) i) (row (x5 : (Mat 1 256).Idx → EReal) 0)) (fun k => row (w : (Mat 256 1024).Idx → EReal) k) n

theorem latent_norm (i : Fin 32768) :
    row (val_main_v62 (F := Ideal) x1 x5) i = rms keyWidth (row (x1 : (Mat 32768 256).Idx → EReal) i) (row (x5 : (Mat 1 256).Idx → EReal) 0) :=
  funext fun l => hostRms_apply 32768 256 (by norm_num) (by norm_num) 0x43800000#32 (by decide) (by decide) (by decide)
    (by decide) (by decide) (by decide) (by decide) (val_main_v50 (F := Ideal) x1) x5 i l

theorem key_apply (i : Fin 32768) (h : Fin 16) (l : Fin 64) :
    val_main_v64 (F := Ideal) x1 x5 x7 (ix3 i h l) = keyAt x1 x5 x7 i ⟨64 * h.val + l.val, by omega⟩ := by
  refine (grouped_apply (A := 32768) (B := 16) (C := 64) (N := 1024) (by norm_num) (val_main_v63 (F := Ideal) x1 x5 x7)
    shapeCasts_S32768x1024_S32768x16x64 i h l ⟨64 * h.val + l.val, by omega⟩ rfl).trans ?_
  unfold keyAt
  rw [← latent_norm]
  exact hostDense_apply _ _ i _

theorem value_apply (i : Fin 32768) (h : Fin 16) (l : Fin 64) :
    val_main_v66 (F := Ideal) x1 x5 x8 (ix3 i h l) = keyAt x1 x5 x8 i ⟨64 * h.val + l.val, by omega⟩ := by
  refine (grouped_apply (A := 32768) (B := 16) (C := 64) (N := 1024) (by norm_num) (val_main_v65 (F := Ideal) x1 x5 x8)
    shapeCasts_S32768x1024_S32768x16x64 i h l ⟨64 * h.val + l.val, by omega⟩ rfl).trans ?_
  unfold keyAt
  rw [← latent_norm]
  exact hostDense_apply _ _ i _

theorem rope_column (i : Fin 32768) (u : Fin 32) : val_main_v68 (F := Ideal) x2 (ix3 i 0 u) = x2 (ix2 i (⟨64 + u.val, by omega⟩ : Fin 128)) := by
  rw [val_main_v68_apply, val_main_v67_apply]
  refine congrArg x2 ?_
  funext a
  match a with
  | ⟨0, _⟩ => rfl
  | ⟨1, _⟩ => rfl

theorem first_column (i : Fin 32768) (j : Fin 16) : val_main_v69 (F := Ideal) x2 (ix3 i 0 j) = x2 (ix2 i (⟨64 + j.val, by omega⟩ : Fin 128)) :=
  (extractStridedSlice_apply ![0, 0, 0] (val_main_v68 (F := Ideal) x2) slices_S32768x1x32_S32768x1x16_0_0_0 (ix3 i 0 j)
    (ix3 i 0 (⟨j.val, by omega⟩ : Fin 32)) (fun a => match a with
      | ⟨0, _⟩ => (Nat.zero_add _).symm
      | ⟨1, _⟩ => rfl
      | ⟨2, _⟩ => (Nat.zero_add _).symm)).trans (rope_column x2 i _)

theorem second_column (i : Fin 32768) (j : Fin 16) : val_main_v70 (F := Ideal) x2 (ix3 i 0 j) = x2 (ix2 i (⟨80 + j.val, by omega⟩ : Fin 128)) :=
  (extractStridedSlice_apply ![0, 0, 16] (val_main_v68 (F := Ideal) x2) slices_S32768x1x32_S32768x1x16_0_0_16 (ix3 i 0 j)
    (ix3 i 0 (⟨16 + j.val, by omega⟩ : Fin 32)) (fun a => match a with
      | ⟨0, _⟩ => (Nat.zero_add _).symm
      | ⟨1, _⟩ => rfl
      | ⟨2, _⟩ => rfl)).trans ((rope_column x2 i _).trans (congrArg (fun a => x2 (ix2 i a)) (Fin.ext (by show 64 + (16 + j.val) = 80 + j.val; omega))))

theorem rotated_first (i : Fin 32768) (j : Fin 16) : val_main_v77 (F := Ideal) x2 x3 (ix3 i 0 (⟨j.val, by omega⟩ : Fin 32))
    = firstTurned (positionAt x3 i) (x2 (ix2 i (⟨64 + j.val, by omega⟩ : Fin 128))) (x2 (ix2 i (⟨80 + j.val, by omega⟩ : Fin 128))) j := by
  refine (behind_apply (A := 32768) (B := 1) (C := 32) (Q := 16) _ _ 0 (by simp) (val_main_v73 (F := Ideal) x2 x3) rfl 0 rfl i 0 j _ (Nat.zero_add _)).trans ?_
  show val_main_v69 (F := Ideal) x2 (ix3 i 0 j) * val_main_v18 (F := Ideal) x3 (ix3 i 0 j)
    - val_main_v70 (F := Ideal) x2 (ix3 i 0 j) * val_main_v19 (F := Ideal) x3 (ix3 i 0 j) = _
  rw [first_column, second_column, cosine_apply, sine_apply, sub_eq_add_neg, ← mul_neg]
  rfl

theorem rotated_second (i : Fin 32768) (j : Fin 16) : val_main_v77 (F := Ideal) x2 x3 (ix3 i 0 (⟨16 + j.val, by omega⟩ : Fin 32))
    = secondTurned (positionAt x3 i) (x2 (ix2 i (⟨64 + j.val, by omega⟩ : Fin 128))) (x2 (ix2 i (⟨80 + j.val, by omega⟩ : Fin 128))) j := by
  refine (behind_apply (A := 32768) (B := 1) (C := 32) (Q := 16) _ _ 1 (by simp) (val_main_v76 (F := Ideal) x2 x3) rfl 16 rfl i 0 j _ rfl).trans ?_
  show val_main_v69 (F := Ideal) x2 (ix3 i 0 j) * val_main_v19 (F := Ideal) x3 (ix3 i 0 j)
    + val_main_v70 (F := Ideal) x2 (ix3 i 0 j) * val_main_v18 (F := Ideal) x3 (ix3 i 0 j) = _
  rw [first_column, second_column, cosine_apply, sine_apply, add_comm]
  rfl

theorem spread_heads (v : S32768x1x32.Idx → EReal) (i : Fin 32768) (h : Fin 16) (u : Fin 32) :
    broadcastInDim S32768x16x32 ![0, 1, 2] bcast_S32768x1x32_S32768x16x32_0_1_2 v (ix3 i h u) = v (ix3 i 0 u) :=
  broadcastInDim_apply _ bcast_S32768x1x32_S32768x16x32_0_1_2 v (ix3 i h u) (ix3 i 0 u) (fun a => by
    match a with
    | ⟨0, _⟩ => rfl
    | ⟨1, _⟩ => rfl
    | ⟨2, _⟩ => rfl)

theorem keys_joined (i : Fin 32768) (h : Fin 16) (l : Fin 128) (n : Fin 2048) (hn : n.val = 128 * h.val + l.val) :
    val_main_v85 (F := Ideal) x1 x2 x3 x5 x7 (ix2 i n) = val_main_v79 (F := Ideal) x1 x2 x3 x5 x7 (ix3 i h l) :=
  joined_apply (A := 32768) (B := 16) (C := 128) (N := 2048) (by norm_num) (val_main_v79 (F := Ideal) x1 x2 x3 x5 x7)
    shapeCasts_S32768x16x128_S32768x2048 i h l n hn

theorem key_own (i : Fin 32768) (h : Fin 16) (d : Fin 64) (n : Fin 2048) (hn : n.val = 128 * h.val + d.val) :
    val_main_v85 (F := Ideal) x1 x2 x3 x5 x7 (ix2 i n) = keyAt x1 x5 x7 i ⟨64 * h.val + d.val, by omega⟩ := by
  rw [keys_joined x1 x2 x3 x5 x7 i h ⟨d.val, by omega⟩ n hn]
  exact (behind_apply (A := 32768) (B := 16) (C := 128) (Q := 64) _ _ 0 (by simp) (val_main_v64 (F := Ideal) x1 x5 x7) rfl 0 rfl i h d _ (Nat.zero_add _)).trans
    (key_apply x1 x5 x7 i h d)

theorem key_rotated_once (i : Fin 32768) (h : Fin 16) (u : Fin 32) (n : Fin 2048) (hn : n.val = 128 * h.val + (64 + u.val)) :
    val_main_v85 (F := Ideal) x1 x2 x3 x5 x7 (ix2 i n) = val_main_v77 (F := Ideal) x2 x3 (ix3 i 0 u) := by
  rw [keys_joined x1 x2 x3 x5 x7 i h ⟨64 + u.val, by omega⟩ n hn]
  exact (behind_apply (A := 32768) (B := 16) (C := 128) (Q := 32) _ _ 1 (by simp) (val_main_v78 (F := Ideal) x2 x3) rfl 64 rfl i h u _ rfl).trans
    (spread_heads (val_main_v77 (F := Ideal) x2 x3) i h u)

theorem key_rotated_twice (i : Fin 32768) (h : Fin 16) (u : Fin 32) (n : Fin 2048) (hn : n.val = 128 * h.val + (96 + u.val)) :
    val_main_v85 (F := Ideal) x1 x2 x3 x5 x7 (ix2 i n) = val_main_v77 (F := Ideal) x2 x3 (ix3 i 0 u) := by
  rw [keys_joined x1 x2 x3 x5 x7 i h ⟨96 + u.val, by omega⟩ n hn]
  exact (behind_apply (A := 32768) (B := 16) (C := 128) (Q := 32) _ _ 2 (by simp) (val_main_v78 (F := Ideal) x2 x3) rfl 96 rfl i h u _ rfl).trans
    (spread_heads (val_main_v77 (F := Ideal) x2 x3) i h u)

theorem values_joined (i : Fin 32768) (h : Fin 16) (l : Fin 128) (n : Fin 2048) (hn : n.val = 128 * h.val + l.val) :
    val_main_v87 (F := Ideal) x1 x5 x8 (ix2 i n) = val_main_v81 (F := Ideal) x1 x5 x8 (ix3 i h l) :=
  joined_apply (A := 32768) (B := 16) (C := 128) (N := 2048) (by norm_num) (val_main_v81 (F := Ideal) x1 x5 x8)
    shapeCasts_S32768x16x128_S32768x2048 i h l n hn

theorem value_ones (i : Fin 32768) (h : Fin 16) (d : Fin 64) (n : Fin 2048) (hn : n.val = 128 * h.val + d.val) :
    val_main_v87 (F := Ideal) x1 x5 x8 (ix2 i n) = (1 : EReal) := by
  rw [values_joined x1 x5 x8 i h ⟨d.val, by omega⟩ n hn]
  refine (behind_apply (A := 32768) (B := 16) (C := 128) (Q := 64) _ _ 0 (by simp) (val_main_v80 (F := Ideal)) rfl 0 rfl i h d _ (Nat.zero_add _)).trans ?_
  rw [val_main_v80_apply]
  exact one_word

theorem value_own (i : Fin 32768) (h : Fin 16) (d : Fin 64) (n : Fin 2048) (hn : n.val = 128 * h.val + (64 + d.val)) :
    val_main_v87 (F := Ideal) x1 x5 x8 (ix2 i n) = keyAt x1 x5 x8 i ⟨64 * h.val + d.val, by omega⟩ := by
  rw [values_joined x1 x5 x8 i h ⟨64 + d.val, by omega⟩ n hn]
  exact (behind_apply (A := 32768) (B := 16) (C := 128) (Q := 64) _ _ 1 (by simp) (val_main_v66 (F := Ideal) x1 x5 x8) rfl 64 rfl i h d _ rfl).trans
    (value_apply x1 x5 x8 i h d)

end Cert.Prep

end
-- ==== Proof.Prep.Equal.lean ====
/-
  The call's arrays are the reference's.  The 16 columns of a head that hold the negated second entries are products with negated
  weights in the call, negated products in the reference: one number where rows and weights are real.
-/
module

public import proofs.«01_k».proof.Proof.Prep.Reference

@[expose] public section

set_option maxRecDepth 16384

noncomputable section

namespace Cert.Prep

open Idealize.ShloMosaic hiding ix0 ix1 ix2 ix3 ix4 ix5
open Idealize.ShloMosaic.ValueIdx Cert.Layer Cert.Kernel6Ideal Cert.Kernel6Ideal.Gen
open Cert.Merge (IsReal mul_real sum_real small_word square_nonneg square_top)
open Cert.Reference6Ideal.Read (val_main_v83 val_main_v85 val_main_v87)

/-! ## Real rows -/

theorem queryWidth_eq : queryWidth = ((384 : ℝ) : EReal) := by
  simp [queryWidth, Ideal.ofBits, Ideal.ieee]
  rw [← EReal.coe_mul]
  congr 1
  norm_num

/-- The norm of any row is real if the gains are: an infinite sum of squares norms every entry to zero. -/
theorem row_real (x g : Fin 384 → EReal) (hg : ∀ l, IsReal (g l)) (l : Fin 384) : IsReal (rms queryWidth x g l) := by
  unfold rms
  refine mul_real ?_ (hg l)
  obtain ⟨e, he, hw⟩ := small_word
  have n0 : ((384 : ℝ) : EReal) ≠ 0 := by exact_mod_cast (by norm_num : (384 : ℝ) ≠ 0)
  have nonneg : 0 ≤ ∑ k, x k * x k := Finset.sum_nonneg fun k _ => square_nonneg _
  rw [hw, queryWidth_eq, Ideal.div, if_neg n0, ← EReal.coe_inv]
  by_cases ht : ∑ k, x k * x k = ⊤
  · rw [ht, EReal.top_mul_coe_of_pos (by norm_num), EReal.top_add_coe]
    exact ⟨0, by rw [Ideal.rsqrt_top]; simp⟩
  · have hx : IsReal (x l) := square_top fun h => ht (top_le_iff.mp (h ▸
      Finset.single_le_sum (f := fun k => x k * x k) (fun k _ => square_nonneg _) (Finset.mem_univ l)))
    refine mul_real hx ?_
    generalize ∑ k, x k * x k = s at *
    induction s using EReal.rec with
    | bot => simp at nonneg
    | top => exact absurd rfl ht
    | coe r =>
      have hr : 0 ≤ r := EReal.coe_nonneg.mp nonneg
      have hp : 0 < r * (384 : ℝ)⁻¹ + e := by positivity
      rw [← EReal.coe_mul, ← EReal.coe_add]
      refine ⟨(Real.sqrt (r * (384 : ℝ)⁻¹ + e))⁻¹, ?_⟩
      rw [Ideal.rsqrt_coe, if_neg hp.not_gt, if_neg hp.ne']

theorem sum_negated {K : ℕ} (f : Fin K → EReal) (hf : ∀ k, IsReal (f k)) : ∑ k, -f k = -∑ k, f k := by
  choose g hg using hf
  have e0 : ∑ k, f k = ((∑ k, g k : ℝ) : EReal) := by rw [Cert.Attention.coe_sum]; exact Finset.sum_congr rfl fun k _ => hg k
  have e1 : ∑ k, -f k = ((∑ k, -g k : ℝ) : EReal) := by
    rw [Cert.Attention.coe_sum]
    exact Finset.sum_congr rfl fun k _ => by rw [hg k, EReal.coe_neg]
  rw [e0, e1, ← EReal.coe_neg, Finset.sum_neg_distrib]

/-! ## The factors at the columns -/

theorem factor_own (p : BitVec 32) (l : Fin 128) (hl : l.val < 64) : queryFactor p l = scale := by
  unfold queryFactor
  rw [if_pos hl, one_mul]

theorem factor_cosine (p : BitVec 32) (l : Fin 128) (j : Fin 16) (hl : l.val = 64 + j.val ∨ l.val = 80 + j.val) :
    queryFactor p l = Ideal.cos (theta p j) * scale := by
  unfold queryFactor
  rw [if_neg (by omega), if_pos (by omega)]
  refine congrArg (fun j => Ideal.cos (theta p j) * scale) (Fin.ext ?_)
  show (l.val - 64) % 16 = j.val
  omega

theorem factor_sine (p : BitVec 32) (l : Fin 128) (j : Fin 16) (hl : l.val = 96 + j.val ∨ l.val = 112 + j.val) :
    queryFactor p l = Ideal.sin (theta p j) * scale := by
  unfold queryFactor
  rw [if_neg (by omega), if_neg (by omega)]
  refine congrArg (fun j => Ideal.sin (theta p j) * scale) (Fin.ext ?_)
  show (l.val - 96) % 16 = j.val
  omega

theorem turned_first (kr : Fin 128 → EReal) (p : BitVec 32) (l : Fin 128) (j : Fin 16) (hl : l.val = 64 + j.val ∨ l.val = 96 + j.val) :
    keyTurned kr p l = firstTurned p (kr ⟨64 + j.val, by omega⟩) (kr ⟨80 + j.val, by omega⟩) j := by
  unfold keyTurned
  have e : l.val % 16 = j.val := by omega
  rw [if_pos (by omega)]
  simp only [e]

theorem turned_second (kr : Fin 128 → EReal) (p : BitVec 32) (l : Fin 128) (j : Fin 16) (hl : l.val = 80 + j.val ∨ l.val = 112 + j.val) :
    keyTurned kr p l = secondTurned p (kr ⟨64 + j.val, by omega⟩) (kr ⟨80 + j.val, by omega⟩) j := by
  unfold keyTurned
  have e : l.val % 16 = j.val := by omega
  rw [if_neg (by omega)]
  simp only [e]

/-! ## The arrays -/

variable (m : (ℓ : Loc nD τ sig) → Buf (Elt Ideal) ℓ) (c : Dev nD)

abbrev a0 : FVec Ideal S32768x384 .bf16 := m ((c.tc : Thread nD τ).loc main_arg0)
abbrev a1 : FVec Ideal S32768x256 .bf16 := m ((c.tc : Thread nD τ).loc main_arg1)
abbrev a2 : FVec Ideal S32768x128 .f32 := m ((c.tc : Thread nD τ).loc main_arg2)
abbrev a3 : Vec Ideal S16x2048 .i32 := m ((c.tc : Thread nD τ).loc main_arg3)
abbrev a4 : FVec Ideal S1x384 .f32 := m ((c.tc : Thread nD τ).loc main_arg4)
abbrev a5 : FVec Ideal S1x256 .f32 := m ((c.tc : Thread nD τ).loc main_arg5)
abbrev a6 : FVec Ideal S384x1536 .f32 := m ((c.tc : Thread nD τ).loc main_arg6)
abbrev a7 : FVec Ideal S256x1024 .f32 := m ((c.tc : Thread nD τ).loc main_arg7)
abbrev a8 : FVec Ideal S256x1024 .f32 := m ((c.tc : Thread nD τ).loc main_arg8)

theorem product_own (i : Fin 32768) (h : Fin 16) (d : Fin 96) (n : Fin 2048) (hn : n.val = 128 * h.val + d.val) :
    times (queryRow m c i) (fun k => row (V m c main_v22 : (Mat 384 2048).Idx → EReal) k) n
      = queryAt (a0 m c) (a4 m c) (a6 m c) i ⟨96 * h.val + d.val, by omega⟩ :=
  Finset.sum_congr rfl fun k _ => congrArg (fun w : EReal => queryRow m c i k * w) (padded_own m c k h d n hn)

theorem product_first (i : Fin 32768) (h j : Fin 16) (n : Fin 2048) (hn : n.val = 128 * h.val + (112 + j.val)) :
    times (queryRow m c i) (fun k => row (V m c main_v22 : (Mat 384 2048).Idx → EReal) k) n
      = queryAt (a0 m c) (a4 m c) (a6 m c) i ⟨96 * h.val + (64 + j.val), by omega⟩ :=
  Finset.sum_congr rfl fun k _ => congrArg (fun w : EReal => queryRow m c i k * w) (padded_first m c k h j n hn)

theorem product_second (hg : ∀ l, IsReal (a4 m c l)) (hw : ∀ l, IsReal (a6 m c l)) (i : Fin 32768) (h j : Fin 16) (n : Fin 2048)
    (hn : n.val = 128 * h.val + (96 + j.val)) :
    times (queryRow m c i) (fun k => row (V m c main_v22 : (Mat 384 2048).Idx → EReal) k) n
      = -queryAt (a0 m c) (a4 m c) (a6 m c) i ⟨96 * h.val + (80 + j.val), by omega⟩ := by
  refine (Finset.sum_congr rfl fun k _ => (congrArg (fun w : EReal => queryRow m c i k * w) (padded_second m c k h j n hn)).trans (mul_neg _ _)).trans ?_
  exact sum_negated _ fun k => mul_real (row_real _ _ (fun l => hg _) k) (hw _)

theorem queries_eq (hg : ∀ l, IsReal (a4 m c l)) (hw : ∀ l, IsReal (a6 m c l)) :
    queries m c = val_main_v83 (F := Ideal) (a0 m c) (a3 m c) (a4 m c) (a6 m c) := by
  funext y
  obtain ⟨i, n, rfl⟩ := eta y
  show times (queryRow m c i) (fun k => row (V m c main_v22 : (Mat 384 2048).Idx → EReal) k) n * queryFactor (positionAt (a3 m c) i) (lane n) = _
  have hb := n.isLt
  have hl : (lane n).val = n.val % 128 := rfl
  let h : Fin 16 := ⟨n.val / 128, by omega⟩
  have hh : h.val = n.val / 128 := rfl
  by_cases c0 : n.val % 128 < 64
  · let d : Fin 64 := ⟨n.val % 128, c0⟩
    have hn : n.val = 128 * h.val + d.val := by show n.val = 128 * (n.val / 128) + n.val % 128; omega
    rw [factor_own _ _ (by omega), product_own m c i h ⟨d.val, by omega⟩ n hn, query_own (a0 m c) (a3 m c) (a4 m c) (a6 m c) i h d n hn]
  by_cases c1 : n.val % 128 < 80
  · let j : Fin 16 := ⟨n.val % 128 - 64, by omega⟩
    have hj : n.val % 128 = 64 + j.val := by show n.val % 128 = 64 + (n.val % 128 - 64); omega
    have hn : n.val = 128 * h.val + (64 + j.val) := by omega
    rw [factor_cosine _ _ j (by omega), product_own m c i h ⟨64 + j.val, by omega⟩ n hn, query_first_cosine (a0 m c) (a3 m c) (a4 m c) (a6 m c) i h j n hn, mul_assoc]
  by_cases c2 : n.val % 128 < 96
  · let j : Fin 16 := ⟨n.val % 128 - 80, by omega⟩
    have hj : n.val % 128 = 80 + j.val := by show n.val % 128 = 80 + (n.val % 128 - 80); omega
    have hn : n.val = 128 * h.val + (80 + j.val) := by omega
    rw [factor_cosine _ _ j (by omega), product_own m c i h ⟨80 + j.val, by omega⟩ n hn, query_second_cosine (a0 m c) (a3 m c) (a4 m c) (a6 m c) i h j n hn, mul_assoc]
  by_cases c3 : n.val % 128 < 112
  · let j : Fin 16 := ⟨n.val % 128 - 96, by omega⟩
    have hj : n.val % 128 = 96 + j.val := by show n.val % 128 = 96 + (n.val % 128 - 96); omega
    have hn : n.val = 128 * h.val + (96 + j.val) := by omega
    rw [factor_sine _ _ j (by omega), product_second m c hg hw i h j n hn, query_second_sine (a0 m c) (a3 m c) (a4 m c) (a6 m c) i h j n hn, mul_assoc]
  · let j : Fin 16 := ⟨n.val % 128 - 112, by omega⟩
    have hj : n.val % 128 = 112 + j.val := by show n.val % 128 = 112 + (n.val % 128 - 112); omega
    have hn : n.val = 128 * h.val + (112 + j.val) := by omega
    rw [factor_sine _ _ j (by omega), product_first m c i h j n hn, query_first_sine (a0 m c) (a3 m c) (a4 m c) (a6 m c) i h j n hn, mul_assoc]

theorem keys_eq : keys m c = val_main_v85 (F := Ideal) (a1 m c) (a2 m c) (a3 m c) (a5 m c) (a7 m c) := by
  funext y
  obtain ⟨i, n, rfl⟩ := eta y
  show (if (lane n).val < 64 then times (keyRow m c i) (fun k => row (V m c main_v23 : (Mat 256 2048).Idx → EReal) k) n
    else keyTurned (row (a2 m c : (Mat 32768 128).Idx → EReal) i) (positionAt (a3 m c) i) (lane n)) = _
  have hb := n.isLt
  have hl : (lane n).val = n.val % 128 := rfl
  let h : Fin 16 := ⟨n.val / 128, by omega⟩
  have hh : h.val = n.val / 128 := rfl
  by_cases c0 : n.val % 128 < 64
  · let d : Fin 64 := ⟨n.val % 128, c0⟩
    have hn : n.val = 128 * h.val + d.val := by show n.val = 128 * (n.val / 128) + n.val % 128; omega
    rw [if_pos (by omega), key_own (a1 m c) (a2 m c) (a3 m c) (a5 m c) (a7 m c) i h d n hn]
    exact Finset.sum_congr rfl fun k _ => congrArg (fun w : EReal => keyRow m c i k * w) (beside_key m c k h d n hn)
  rw [if_neg (by omega)]
  by_cases c1 : n.val % 128 < 80
  · let j : Fin 16 := ⟨n.val % 128 - 64, by omega⟩
    have hj : n.val % 128 = 64 + j.val := by show n.val % 128 = 64 + (n.val % 128 - 64); omega
    rw [turned_first _ _ _ j (by omega), key_rotated_once (a1 m c) (a2 m c) (a3 m c) (a5 m c) (a7 m c) i h ⟨j.val, by omega⟩ n (by show n.val = 128 * h.val + (64 + j.val); omega),
      rotated_first]
    rfl
  by_cases c2 : n.val % 128 < 96
  · let j : Fin 16 := ⟨n.val % 128 - 80, by omega⟩
    have hj : n.val % 128 = 80 + j.val := by show n.val % 128 = 80 + (n.val % 128 - 80); omega
    rw [turned_second _ _ _ j (by omega), key_rotated_once (a1 m c) (a2 m c) (a3 m c) (a5 m c) (a7 m c) i h ⟨16 + j.val, by omega⟩ n (by show n.val = 128 * h.val + (64 + (16 + j.val)); omega),
      rotated_second]
    rfl
  by_cases c3 : n.val % 128 < 112
  · let j : Fin 16 := ⟨n.val % 128 - 96, by omega⟩
    have hj : n.val % 128 = 96 + j.val := by show n.val % 128 = 96 + (n.val % 128 - 96); omega
    rw [turned_first _ _ _ j (by omega), key_rotated_twice (a1 m c) (a2 m c) (a3 m c) (a5 m c) (a7 m c) i h ⟨j.val, by omega⟩ n (by show n.val = 128 * h.val + (96 + j.val); omega),
      rotated_first]
    rfl
  · let j : Fin 16 := ⟨n.val % 128 - 112, by omega⟩
    have hj : n.val % 128 = 112 + j.val := by show n.val % 128 = 112 + (n.val % 128 - 112); omega
    rw [turned_second _ _ _ j (by omega), key_rotated_twice (a1 m c) (a2 m c) (a3 m c) (a5 m c) (a7 m c) i h ⟨16 + j.val, by omega⟩ n (by show n.val = 128 * h.val + (96 + (16 + j.val)); omega),
      rotated_second]
    rfl

theorem values_eq : values m c = val_main_v87 (F := Ideal) (a1 m c) (a5 m c) (a8 m c) := by
  funext y
  obtain ⟨i, n, rfl⟩ := eta y
  show (if (lane n).val < 64 then 1 else times (keyRow m c i) (fun k => row (V m c main_v23 : (Mat 256 2048).Idx → EReal) k) n) = _
  have hb := n.isLt
  have hl : (lane n).val = n.val % 128 := rfl
  let h : Fin 16 := ⟨n.val / 128, by omega⟩
  have hh : h.val = n.val / 128 := rfl
  by_cases c0 : n.val % 128 < 64
  · rw [if_pos (by omega), value_ones (a1 m c) (a5 m c) (a8 m c) i h ⟨n.val % 128, c0⟩ n (by show n.val = 128 * (n.val / 128) + n.val % 128; omega)]
  · let d : Fin 64 := ⟨n.val % 128 - 64, by omega⟩
    have hn : n.val = 128 * h.val + (64 + d.val) := by show n.val = 128 * (n.val / 128) + (64 + (n.val % 128 - 64)); omega
    rw [if_neg (by omega), value_own (a1 m c) (a5 m c) (a8 m c) i h d n hn]
    exact Finset.sum_congr rfl fun k _ => congrArg (fun w : EReal => keyRow m c i k * w) (beside_value m c k h d n hn)

end Cert.Prep

end
-- ==== Proof.Prep.Inputs.lean ====
/-
  What the precondition says: the gains before the queries and the queries' weights are real numbers, and the columns behind the
  keys' rotated ones are zero.
-/
module

public import proofs.«01_k».proof.Proof.Merge.Inputs
public import proofs.«01_k».proof.Proof.Gen.Pre_prep_inputs

@[expose] public section

set_option maxRecDepth 16384

noncomputable section

namespace Cert.Prep

open Idealize.ShloMosaic hiding ix0 ix1 ix2 ix3 ix4 ix5
open Idealize.ShloMosaic.ValueIdx Cert.Pre_prep_inputs
open Cert.Attention (top_word finite_of_lt ofBool_one)
open Cert.Merge (IsReal)

variable [Facts] (x0 : FVec Ideal S32768x384 .bf16) (x1 : FVec Ideal S32768x256 .bf16) (x2 : FVec Ideal S32768x128 .f32)
  (x3 : IVec S16x2048 32) (x4 : FVec Ideal S1x384 .f32) (x5 : FVec Ideal S1x256 .f32) (x6 : FVec Ideal S384x1536 .f32)
  (x7 x8 : FVec Ideal S256x1024 .f32)

theorem finite_gains (h : (fn (F := Ideal) x0 x1 x2 x3 x4 x5 x6 x7 x8).1 = fun _ => 1#1) (i : S1x384.Idx) : IsReal (x4 i) := by
  have e : BitVec.ofBool (decide (max (x4 i) (-(x4 i)) < Ideal.ofBits .f32 0x7F800000#32)) = 1#1 := congrFun h i
  have e' := ofBool_one e
  rw [top_word] at e'
  exact finite_of_lt e'

theorem finite_weights (h : (fn (F := Ideal) x0 x1 x2 x3 x4 x5 x6 x7 x8).2.1 = fun _ => 1#1) (i : S384x1536.Idx) : IsReal (x6 i) := by
  have e : BitVec.ofBool (decide (max (x6 i) (-(x6 i)) < Ideal.ofBits .f32 0x7F800000#32)) = 1#1 := congrFun h i
  have e' := ofBool_one e
  rw [top_word] at e'
  exact finite_of_lt e'

theorem zero_columns (h : (fn (F := Ideal) x0 x1 x2 x3 x4 x5 x6 x7 x8).2.2 = fun _ => 1#1) (i : Fin 32768) (l : Fin 128) (hl : 96 ≤ l.val) :
    x2 (ix2 i l) = (0 : EReal) := by
  have e : BitVec.ofBool (decide (extractStridedSlice S32768x32 ![0, 96] x2 Facts.slices_S32768x128_S32768x32_0_96 (ix2 i ⟨l.val - 96, by omega⟩)
      = Ideal.ofBits .f32 0x00000000#32)) = 1#1 := congrFun h (ix2 i ⟨l.val - 96, by omega⟩)
  have e' := ofBool_one e
  rw [Ideal.ofBits_zero_f32, extractStridedSlice_apply ![0, 96] x2 Facts.slices_S32768x128_S32768x32_0_96 _ (ix2 i l)
    (fun a => match a with
      | ⟨0, _⟩ => (Nat.zero_add _).symm
      | ⟨1, _⟩ => by show l.val = 96 + (l.val - 96); omega)] at e'
  exact e'

end Cert.Prep

end
-- ==== Proof.Prep.Claims.lean ====
/-
  The claims about the queries, keys and values of the latent attention.
-/
module

public import proofs.«01_k».proof.Defs
public import proofs.«01_k».proof.Proof.Prep.Equal
public import proofs.«01_k».proof.Proof.Prep.Inputs
public import proofs.«01_k».proof.Proof.Gen.Kernel6.Frame
public import proofs.«01_k».proof.Proof.Gen.Kernel6Ideal.Value
public import proofs.«01_k».proof.Proof.Gen.Reference6Ideal.Run

@[expose] public section

set_option maxRecDepth 16384

noncomputable section

namespace Cert.Prep

open Idealize.ShloMosaic Idealize.SL.Sem

theorem kernel_frame : quiescent_Kernel6 := fun m g _ => Cert.Kernel6.Gen.frame m g

theorem ideal_frame : quiescent_Kernel6Ideal := fun m g _ => Cert.Kernel6Ideal.Gen.frame m g

theorem ideal_frame_pre : quiescent_Kernel6Ideal_pre_prep_inputs := fun m g _ => Cert.Kernel6Ideal.Gen.frame m g

theorem reference_frame : quiescent_Reference6Ideal := fun m g _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m g)

theorem reference_frame_pre : quiescent_Reference6Ideal_pre_prep_inputs := fun m g _ => reference_frame m g trivial

/-- The kernel's three arrays are the reference's, element by element. -/
theorem algebraic : algebraic_Kernel6Ideal_Reference6Ideal_pre_prep_inputs := by
  intro m g m' g' hpre hm
  refine ⟨fun c => queries m c, fun c => keys m c, fun c => values m c, ?_, ?_⟩
  · refine (θ_run _ _ _).mono (fun r h c => ?_) (Cert.Kernel6Ideal.Value.run_blocks m g)
    obtain ⟨h0, h1, h2, hr⟩ := h c
    exact ⟨h0.trans (array_queries m c), h1.trans (array_keys m c (zero_columns _ _ _ _ _ _ _ _ _ (hpre c).2.2)),
      h2.trans (array_values m c), hr⟩
  · refine (θ_run _ _ _).mono (fun r h c => ?_) (Cert.Reference6Ideal.Value.run m' g')
    obtain ⟨h0, h1, h2, hr⟩ := h c
    refine ⟨h0.trans ?_, h1.trans ?_, h2.trans ?_, hr⟩
    · rw [Cert.Reference6Ideal.Read.val_main_v83_eq]
      show Cert.Reference6Ideal.Read.val_main_v83 (F := Ideal) (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg3))
        (m' ((c.tc : Thread Cert.Reference6Ideal.nD Cert.Reference6Ideal.τ).loc Cert.Reference6Ideal.main_arg4))
        (m' ((c.tc : Thread Cert.Reference6Ideal.nD Cert.Reference6Ideal.τ).loc Cert.Reference6Ideal.main_arg6)) = _
      rw [(hm c).1, (hm c).2.2.2.1, (hm c).2.2.2.2.1, (hm c).2.2.2.2.2.2.1]
      exact (queries_eq m c (finite_gains _ _ _ _ _ _ _ _ _ (hpre c).1) (finite_weights _ _ _ _ _ _ _ _ _ (hpre c).2.1)).symm
    · rw [Cert.Reference6Ideal.Read.val_main_v85_eq]
      show Cert.Reference6Ideal.Read.val_main_v85 (F := Ideal) (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3))
        (m' ((c.tc : Thread Cert.Reference6Ideal.nD Cert.Reference6Ideal.τ).loc Cert.Reference6Ideal.main_arg5))
        (m' ((c.tc : Thread Cert.Reference6Ideal.nD Cert.Reference6Ideal.τ).loc Cert.Reference6Ideal.main_arg7)) = _
      rw [(hm c).2.1, (hm c).2.2.1, (hm c).2.2.2.1, (hm c).2.2.2.2.2.1, (hm c).2.2.2.2.2.2.2.1]
      exact (keys_eq m c).symm
    · rw [Cert.Reference6Ideal.Read.val_main_v87_eq]
      show Cert.Reference6Ideal.Read.val_main_v87 (F := Ideal) (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg5))
        (m' ((c.tc : Thread Cert.Reference6Ideal.nD Cert.Reference6Ideal.τ).loc Cert.Reference6Ideal.main_arg8)) = _
      rw [(hm c).2.1, (hm c).2.2.2.2.2.1, (hm c).2.2.2.2.2.2.2.2]
      exact (values_eq m c).symm

end Cert.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_attention_inputs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Pre_merge_inputs
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Pre_prep_inputs
public import proofs.«01_k».proof.Proof.Attention.Claims
public import proofs.«01_k».proof.Proof.FeedForward.Claims
public import proofs.«01_k».proof.Proof.Projection.Claims
public import proofs.«01_k».proof.Proof.Memory.Claims
public import proofs.«01_k».proof.Proof.Merge.Claims
public import proofs.«01_k».proof.Proof.Prep.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_attention_inputs.Gen.facts, Cert.Pre_merge_inputs.Gen.facts, Cert.Pre_prep_inputs.Gen.facts,
  Cert.Attention.kernel_frame, Cert.Attention.ideal_frame, Cert.Attention.ideal_frame_pre, Cert.Attention.reference_frame,
  Cert.Attention.reference_frame_pre,
  Cert.FeedForward.kernel_frame, Cert.FeedForward.ideal_frame, Cert.FeedForward.reference_frame,
  Cert.Projection.kernel_frame, Cert.Projection.ideal_frame, Cert.Projection.reference_frame,
  Cert.Memory.kernel_frame, Cert.Memory.ideal_frame, Cert.Memory.reference_frame,
  Cert.Merge.kernel_frame, Cert.Merge.ideal_frame, Cert.Merge.ideal_frame_pre, Cert.Merge.reference_frame,
  Cert.Merge.reference_frame_pre,
  Cert.Prep.kernel_frame, Cert.Prep.ideal_frame, Cert.Prep.ideal_frame_pre, Cert.Prep.reference_frame,
  Cert.Prep.reference_frame_pre,
  trivial, Cert.Attention.algebraic, trivial, Cert.FeedForward.algebraic, trivial, Cert.Projection.algebraic,
  trivial, Cert.Memory.algebraic, Cert.Merge.preserves, Cert.Merge.algebraic,
  trivial, Cert.Prep.algebraic⟩

end Cert.Proof

end
